-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "drop" .f32 0xC7000000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v7) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v12) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
-- ==== Pre_finite.lean ====
abbrev S8x16384x128 : Shape := ⟨3, ![8, 16384, 128]⟩
abbrev S24x4x128x4096 : Shape := ⟨4, ![24, 4, 128, 4096]⟩
abbrev S2x16x256x128 : Shape := ⟨4, ![2, 16, 256, 128]⟩
abbrev S2x16x128x256 : Shape := ⟨4, ![2, 16, 128, 256]⟩
abbrev S16384x128 : Shape := ⟨2, ![16384, 128]⟩
abbrev S_ : Shape := ⟨0, ![]⟩
abbrev S16x4x128x4096 : Shape := ⟨4, ![16, 4, 128, 4096]⟩

class Facts : Prop where
  bcast_S_S8x16384x128 : S_.BroadcastsInDim S8x16384x128 (![] : Fin 0 → Fin S8x16384x128.rank)
  reducesTo_S8x16384x128_S_d0_1_2 : S8x16384x128.ReducesTo [0, 1, 2] S_
  h_S_ : 0 < S_.numel
  slices_S24x4x128x4096_S16x4x128x4096_0_0_0_0 : S24x4x128x4096.Slices ![0, 0, 0, 0] S16x4x128x4096
  bcast_S_S16x4x128x4096 : S_.BroadcastsInDim S16x4x128x4096 (![] : Fin 0 → Fin S16x4x128x4096.rank)
  reducesTo_S16x4x128x4096_S_d0_1_2_3 : S16x4x128x4096.ReducesTo [0, 1, 2, 3] S_

variable [Facts]

def fn {F : FTy → Type} [FloatOps F] (main_arg0 : FVec F S8x16384x128 .bf16) (main_arg1 : FVec F S24x4x128x4096 .bf16) (main_arg2 : FVec F S2x16x256x128 .bf16) (main_arg3 : FVec F S2x16x128x256 .bf16) (main_arg4 : FVec F S16384x128 .f32) : IVec S_ 1 :=
  let main_v0 : FVec F S8x16384x128 .bf16 := Host.absf main_arg0
  let main_cst : FVec F S_ .bf16 := constant S_ .bf16 0x7F80#16
  let main_v1 : FVec F S8x16384x128 .bf16 := broadcastInDim S8x16384x128 ![] bcast_S_S8x16384x128 main_cst
  let main_v2 : IVec S8x16384x128 1 := cmpf .olt main_v0 main_v1
  let main_c : IVec S_ 1 := constantI S_ 1 1#1
  let main_v3 : IVec S_ 1 := (fun x v => Host.reduce IntOp.andi x v reducesTo_S8x16384x128_S_d0_1_2 h_S_) main_v2 main_c
  let main_v4 : FVec F S16x4x128x4096 .bf16 := (extractStridedSlice S16x4x128x4096 ![0, 0, 0, 0] · slices_S24x4x128x4096_S16x4x128x4096_0_0_0_0) main_arg1
  let main_v5 : FVec F S16x4x128x4096 .bf16 := Host.absf main_v4
  let main_cst_0 : FVec F S_ .bf16 := constant S_ .bf16 0x7F80#16
  let main_v6 : FVec F S16x4x128x4096 .bf16 := broadcastInDim S16x4x128x4096 ![] bcast_S_S16x4x128x4096 main_cst_0
  let main_v7 : IVec S16x4x128x4096 1 := cmpf .olt main_v5 main_v6
  let main_c_1 : IVec S_ 1 := constantI S_ 1 1#1
  let main_v8 : IVec S_ 1 := (fun x v => Host.reduce IntOp.andi x v reducesTo_S16x4x128x4096_S_d0_1_2_3 h_S_) main_v7 main_c_1
  let main_v9 : IVec S_ 1 := andi main_v3 main_v8
  main_v9
-- ==== Kernel.lean ====
abbrev S8x16384x128 : Shape := ⟨3, ![8, 16384, 128]⟩
abbrev S24x4x128x4096 : Shape := ⟨4, ![24, 4, 128, 4096]⟩
abbrev S2x16x256x128 : Shape := ⟨4, ![2, 16, 256, 128]⟩
abbrev S2x16x128x256 : Shape := ⟨4, ![2, 16, 128, 256]⟩
abbrev S16384x128 : Shape := ⟨2, ![16384, 128]⟩
abbrev S8x4x4096x128 : Shape := ⟨4, ![8, 4, 4096, 128]⟩
abbrev S4096 : Shape := ⟨1, ![4096]⟩
abbrev S4096x1 : Shape := ⟨2, ![4096, 1]⟩
abbrev S_ : Shape := ⟨0, ![]⟩
abbrev S128 : Shape := ⟨1, ![128]⟩
abbrev S1x128 : Shape := ⟨2, ![1, 128]⟩
abbrev S4096x128 : Shape := ⟨2, ![4096, 128]⟩
abbrev S2 : Shape := ⟨1, ![2]⟩
abbrev S2x1x1 : Shape := ⟨3, ![2, 1, 1]⟩
abbrev S512 : Shape := ⟨1, ![512]⟩
abbrev S1x1x512 : Shape := ⟨3, ![1, 1, 512]⟩
abbrev S2x1x512 : Shape := ⟨3, ![2, 1, 512]⟩
abbrev S1024 : Shape := ⟨1, ![1024]⟩
abbrev S1x1024x1 : Shape := ⟨3, ![1, 1024, 1]⟩
abbrev S2x1024x512 : Shape := ⟨3, ![2, 1024, 512]⟩
abbrev S16384x2048 : Shape := ⟨2, ![16384, 2048]⟩
abbrev S4x1x128x512 : Shape := ⟨4, ![4, 1, 128, 512]⟩
abbrev S1x1x256x128 : Shape := ⟨4, ![1, 1, 256, 128]⟩
abbrev S1x1x128x256 : Shape := ⟨4, ![1, 1, 128, 256]⟩
abbrev S1x1x4096x128 : Shape := ⟨4, ![1, 1, 4096, 128]⟩
abbrev S1x1x128x4096 : Shape := ⟨4, ![1, 1, 128, 4096]⟩
abbrev S1x1024x512 : Shape := ⟨3, ![1, 1024, 512]⟩
abbrev S512x128 : Shape := ⟨2, ![512, 128]⟩
abbrev S512x512 : Shape := ⟨2, ![512, 512]⟩
abbrev S128x512 : Shape := ⟨2, ![128, 512]⟩
abbrev S1x1x128x512 : Shape := ⟨4, ![1, 1, 128, 512]⟩
abbrev S128x2048 : Shape := ⟨2, ![128, 2048]⟩
abbrev S1x512 : Shape := ⟨2, ![1, 512]⟩
abbrev S256x1 : Shape := ⟨2, ![256, 1]⟩
abbrev S256x512 : Shape := ⟨2, ![256, 512]⟩
abbrev S256x128 : Shape := ⟨2, ![256, 128]⟩
abbrev S256x2048 : Shape := ⟨2, ![256, 2048]⟩
abbrev S2048 : Shape := ⟨1, ![2048]⟩
abbrev S1x2048 : Shape := ⟨2, ![1, 2048]⟩
abbrev S128x256 : Shape := ⟨2, ![128, 256]⟩
abbrev S1x1x1024x128 : Shape := ⟨4, ![1, 1, 1024, 128]⟩
abbrev S1024x128 : Shape := ⟨2, ![1024, 128]⟩
abbrev S1024x2048 : Shape := ⟨2, ![1024, 2048]⟩
abbrev S1024x512 : Shape := ⟨2, ![1024, 512]⟩
abbrev S1x1x128x1024 : Shape := ⟨4, ![1, 1, 128, 1024]⟩
abbrev S128x1024 : Shape := ⟨2, ![128, 1024]⟩
abbrev S16x1024 : Shape := ⟨2, ![16, 1024]⟩
abbrev S144x1024 : Shape := ⟨2, ![144, 1024]⟩
abbrev S144x2048 : Shape := ⟨2, ![144, 2048]⟩
abbrev S64x1 : Shape := ⟨2, ![64, 1]⟩
abbrev S1x256 : Shape := ⟨2, ![1, 256]⟩
abbrev S64x256 : Shape := ⟨2, ![64, 256]⟩
abbrev S64x512 : Shape := ⟨2, ![64, 512]⟩
abbrev S8x512 : Shape := ⟨2, ![8, 512]⟩
abbrev S8x1 : Shape := ⟨2, ![8, 1]⟩
abbrev S1x1x512x128 : Shape := ⟨4, ![1, 1, 512, 128]⟩
abbrev S512x256 : Shape := ⟨2, ![512, 256]⟩
abbrev S512x2048 : Shape := ⟨2, ![512, 2048]⟩
abbrev S16x512 : Shape := ⟨2, ![16, 512]⟩
abbrev S144x512 : Shape := ⟨2, ![144, 512]⟩
abbrev S512x1 : Shape := ⟨2, ![512, 1]⟩

abbrev nBuf : Space → Nat
  | .hbm => 61
  | .vmem => 22
  | .smem => 0
  | _ => 0

abbrev bufTy : (tb : Table) → Fin (tcTables nBuf tb) → BufTy
  | .hbm, ⟨0, _⟩ => ⟨S8x16384x128, .bf16⟩
  | .hbm, ⟨1, _⟩ => ⟨S24x4x128x4096, .bf16⟩
  | .hbm, ⟨2, _⟩ => ⟨S2x16x256x128, .bf16⟩
  | .hbm, ⟨3, _⟩ => ⟨S2x16x128x256, .bf16⟩
  | .hbm, ⟨4, _⟩ => ⟨S16384x128, .f32⟩
  | .hbm, ⟨5, _⟩ => ⟨S8x4x4096x128, .bf16⟩
  | .hbm, ⟨6, _⟩ => ⟨S4096, .i32⟩
  | .hbm, ⟨7, _⟩ => ⟨S4096x1, .i32⟩
  | .hbm, ⟨8, _⟩ => ⟨S_, .i32⟩
  | .hbm, ⟨9, _⟩ => ⟨S_, .i32⟩
  | .hbm, ⟨10, _⟩ => ⟨S4096x1, .i32⟩
  | .hbm, ⟨11, _⟩ => ⟨S4096x1, .i32⟩
  | .hbm, ⟨12, _⟩ => ⟨S4096x1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S4096x1, .i32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i32⟩
  | .hbm, ⟨23, _⟩ => ⟨S4096x1, .i32⟩
  | .hbm, ⟨24, _⟩ => ⟨S4096x1, .i32⟩
  | .hbm, ⟨25, _⟩ => ⟨S4096x1, .i32⟩
  | .hbm, ⟨26, _⟩ => ⟨S128, .i32⟩
  | .hbm, ⟨27, _⟩ => ⟨S1x128, .i32⟩
  | .hbm, ⟨28, _⟩ => ⟨S4096x128, .i32⟩
  | .hbm, ⟨29, _⟩ => ⟨S4096x128, .i32⟩
  | .hbm, ⟨30, _⟩ => ⟨S4096x128, .i1⟩
  | .hbm, ⟨31, _⟩ => ⟨S4096x128, .bf16⟩
  | .hbm, ⟨32, _⟩ => ⟨S2, .i32⟩
  | .hbm, ⟨33, _⟩ => ⟨S2x1x1, .i32⟩
  | .hbm, ⟨34, _⟩ => ⟨S_, .i32⟩
  | .hbm, ⟨35, _⟩ => ⟨S2x1x1, .i32⟩
  | .hbm, ⟨36, _⟩ => ⟨S2x1x1, .i32⟩
  | .hbm, ⟨37, _⟩ => ⟨S512, .i32⟩
  | .hbm, ⟨38, _⟩ => ⟨S1x1x512, .i32⟩
  | .hbm, ⟨39, _⟩ => ⟨S2x1x512, .i32⟩
  | .hbm, ⟨40, _⟩ => ⟨S2x1x512, .i32⟩
  | .hbm, ⟨41, _⟩ => ⟨S2x1x512, .i32⟩
  | .hbm, ⟨42, _⟩ => ⟨S1024, .i32⟩
  | .hbm, ⟨43, _⟩ => ⟨S1x1024x1, .i32⟩
  | .hbm, ⟨44, _⟩ => ⟨S2x1024x512, .i32⟩
  | .hbm, ⟨45, _⟩ => ⟨S2x1024x512, .i32⟩
  | .hbm, ⟨46, _⟩ => ⟨S2x1024x512, .i32⟩
  | .hbm, ⟨47, _⟩ => ⟨S_, .i32⟩
  | .hbm, ⟨48, _⟩ => ⟨S2x1024x512, .i32⟩
  | .hbm, ⟨49, _⟩ => ⟨S2x1024x512, .i1⟩
  | .hbm, ⟨50, _⟩ => ⟨S_, .i32⟩
  | .hbm, ⟨51, _⟩ => ⟨S2x1024x512, .i32⟩
  | .hbm, ⟨52, _⟩ => ⟨S2x1024x512, .i1⟩
  | .hbm, ⟨53, _⟩ => ⟨S2x1024x512, .i1⟩
  | .hbm, ⟨54, _⟩ => ⟨S_, .f32⟩
  | .hbm, ⟨55, _⟩ => ⟨S_, .f32⟩
  | .hbm, ⟨56, _⟩ => ⟨S2x1024x512, .f32⟩
  | .hbm, ⟨57, _⟩ => ⟨S2x1024x512, .f32⟩
  | .hbm, ⟨58, _⟩ => ⟨S2x1024x512, .f32⟩
  | .hbm, ⟨59, _⟩ => ⟨S2x1024x512, .f32⟩
  | .hbm, ⟨60, _⟩ => ⟨S16384x2048, .f32⟩
  | .local _ .vmem, ⟨0, _⟩ => ⟨S4x1x128x512, .bf16⟩
  | .local _ .vmem, ⟨1, _⟩ => ⟨S4x1x128x512, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S1x1x4096x128, .bf16⟩
  | .local _ .vmem, ⟨7, _⟩ => ⟨S1x1x4096x128, .bf16⟩
  | .local _ .vmem, ⟨8, _⟩ => ⟨S1x1x128x4096, .bf16⟩
  | .local _ .vmem, ⟨9, _⟩ => ⟨S1x1x128x4096, .bf16⟩
  | .local _ .vmem, ⟨10, _⟩ => ⟨S1x1x4096x128, .bf16⟩
  | .local _ .vmem, ⟨11, _⟩ => ⟨S1x1x4096x128, .bf16⟩
  | .local _ .vmem, ⟨12, _⟩ => ⟨S1x1x128x4096, .bf16⟩
  | .local _ .vmem, ⟨13, _⟩ => ⟨S1x1x128x4096, .bf16⟩
  | .local _ .vmem, ⟨14, _⟩ => ⟨S4096x128, .bf16⟩
  | .local _ .vmem, ⟨15, _⟩ => ⟨S1x1024x512, .f32⟩
  | .local _ .vmem, ⟨16, _⟩ => ⟨S1x1024x512, .f32⟩
  | .local _ .vmem, ⟨17, _⟩ => ⟨S512x128, .f32⟩
  | .local _ .vmem, ⟨18, _⟩ => ⟨S512x128, .f32⟩
  | .local _ .vmem, ⟨19, _⟩ => ⟨S512x512, .f32⟩
  | .local _ .vmem, ⟨20, _⟩ => ⟨S512x512, .f32⟩
  | .local _ .vmem, ⟨21, _⟩ => ⟨S128x512, .f32⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_1 : Ref sig .tc := ⟨.hbm, 47, rfl⟩
abbrev main_v24 : Ref sig .tc := ⟨.hbm, 48, rfl⟩
abbrev main_v25 : Ref sig .tc := ⟨.hbm, 49, rfl⟩
abbrev main_c_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst : Ref sig .tc := ⟨.hbm, 54, rfl⟩
abbrev main_cst_3 : Ref sig .tc := ⟨.hbm, 55, rfl⟩
abbrev main_call1_v0 : Ref sig .tc := ⟨.hbm, 56, rfl⟩
abbrev main_call1_v1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  let c512_i32_29 : BitVec 32 := 512#32
  let v55 : BitVec 32 := Scalar.subi v0 c512_i32_29
  let c0_i32 : BitVec 32 := 0#32
  let v56 : BitVec 32 := Scalar.maxsi v55 c0_i32
  v56
def k0_off1 (i : grid0.Coords) : Fin 4 → Nat :=
  let c0_30 : Index := 0#32
  let c0_31 : Index := 0#32
  let arg2 : BitVec 32 := BitVec.ofNat 32 (i 2).val
  let c512_i32 : BitVec 32 := 512#32
  let v0 : BitVec 32 := Scalar.muli arg2 c512_i32
  let c512_i32_29 : BitVec 32 := 512#32
  let v55 : BitVec 32 := Scalar.subi v0 c512_i32_29
  let c0_i32 : BitVec 32 := 0#32
  let v56 : BitVec 32 := Scalar.maxsi v55 c0_i32
  let v57 : BitVec 32 := v56
  let v58 : Index := Scalar.indexCast v57
  let c0_32 : Index := 0#32
  ![0, 0, v58.toNat, 0]
def k0_off2 (i : grid0.Coords) : Fin 4 → Nat :=
  let c0_38 : Index := 0#32
  let c0_39 : Index := 0#32
  let c0_40 : Index := 0#32
  let arg2 : BitVec 32 := BitVec.ofNat 32 (i 2).val
  let c512_i32 : BitVec 32 := 512#32
  let v0 : BitVec 32 := Scalar.muli arg2 c512_i32
  let c512_i32_29 : BitVec 32 := 512#32
  let v55 : BitVec 32 := Scalar.subi v0 c512_i32_29
  let c0_i32 : BitVec 32 := 0#32
  let v56 : BitVec 32 := Scalar.maxsi v55 c0_i32
  let v57 : BitVec 32 := v56
  let v71 : Index := Scalar.indexCast v57
  ![0, 0, 0, v71.toNat]
@[reducible] def k0_t1_loop (i : grid0.Coords) : Scf.Loop 32 :=
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1299 : BitVec 32 := 1#32
  ⟨c0_i32_1297, v3544, c1_i32_1299⟩
def k0_mult2 (i : grid0.Coords) (k0_t1 : Fin (k0_t1_loop i).trips) : BitVec 32 :=
  let c2_i32_1357 : BitVec 32 := 2#32
  let c0_i32_1297 : BitVec 32 := 0#32
  let c1_i32_1299 : BitVec 32 := 1#32
  let arg15 : BitVec 32 := Scf.iv c0_i32_1297 c1_i32_1299 k0_t1
  let v3706 : BitVec 32 := Scalar.muli c2_i32_1357 arg15
  let c512_i32_1358 : BitVec 32 := 512#32
  let v3707 : BitVec 32 := Scalar.muli v3706 c512_i32_1358
  v3707
def k0_off3 (i : grid0.Coords) (k0_t1 : Fin (k0_t1_loop i).trips) : Fin 4 → Nat :=
  let c0_1359 : Index := 0#32
  let c0_1360 : Index := 0#32
  let c2_i32_1357 : BitVec 32 := 2#32
  let c0_i32_1297 : BitVec 32 := 0#32
  let c1_i32_1299 : BitVec 32 := 1#32
  let arg15 : BitVec 32 := Scf.iv c0_i32_1297 c1_i32_1299 k0_t1
  let v3706 : BitVec 32 := Scalar.muli c2_i32_1357 arg15
  let c512_i32_1358 : BitVec 32 := 512#32
  let v3707 : BitVec 32 := Scalar.muli v3706 c512_i32_1358
  let v3708 : BitVec 32 := v3707
  let v3709 : Index := Scalar.indexCast v3708
  let c0_1361 : Index := 0#32
  ![0, 0, v3709.toNat, 0]
def k0_off4 (i : grid0.Coords) (k0_t1 : Fin (k0_t1_loop i).trips) : Fin 2 → Nat :=
  let c2_i32_1357 : BitVec 32 := 2#32
  let c0_i32_1297 : BitVec 32 := 0#32
  let c1_i32_1299 : BitVec 32 := 1#32
  let arg15 : BitVec 32 := Scf.iv c0_i32_1297 c1_i32_1299 k0_t1
  let v3706 : BitVec 32 := Scalar.muli c2_i32_1357 arg15
  let c512_i32_1358 : BitVec 32 := 512#32
  let v3707 : BitVec 32 := Scalar.muli v3706 c512_i32_1358
  let v3708 : BitVec 32 := v3707
  let v3712 : Index := Scalar.indexCast v3708
  let c0_1362 : Index := 0#32
  ![v3712.toNat, 0]
def k0_mult3 (i : grid0.Coords) (k0_t1 : Fin (k0_t1_loop i).trips) : BitVec 32 :=
  let c2_i32_1357 : BitVec 32 := 2#32
  let c0_i32_1297 : BitVec 32 := 0#32
  let c1_i32_1299 : BitVec 32 := 1#32
  let arg15 : BitVec 32 := Scf.iv c0_i32_1297 c1_i32_1299 k0_t1
  let v3706 : BitVec 32 := Scalar.muli c2_i32_1357 arg15
  let c512_i32_1364 : BitVec 32 := 512#32
  let v3717 : BitVec 32 := Scalar.muli v3706 c512_i32_1364
  v3717
def k0_off5 (i : grid0.Coords) (k0_t1 : Fin (k0_t1_loop i).trips) : Fin 4 → Nat :=
  let c0_1365 : Index := 0#32
  let c0_1366 : Index := 0#32
  let c0_1367 : Index := 0#32
  let c2_i32_1357 : BitVec 32 := 2#32
  let c0_i32_1297 : BitVec 32 := 0#32
  let c1_i32_1299 : BitVec 32 := 1#32
  let arg15 : BitVec 32 := Scf.iv c0_i32_1297 c1_i32_1299 k0_t1
  let v3706 : BitVec 32 := Scalar.muli c2_i32_1357 arg15
  let c512_i32_1364 : BitVec 32 := 512#32
  let v3717 : BitVec 32 := Scalar.muli v3706 c512_i32_1364
  let v3718 : BitVec 32 := v3717
  let v3719 : Index := Scalar.indexCast v3718
  ![0, 0, 0, v3719.toNat]
def k0_mult4 (i : grid0.Coords) (k0_t1 : Fin (k0_t1_loop i).trips) : BitVec 32 :=
  let c2_i32_1355 : BitVec 32 := 2#32
  let c0_i32_1297 : BitVec 32 := 0#32
  let c1_i32_1299 : BitVec 32 := 1#32
  let arg15 : BitVec 32 := Scf.iv c0_i32_1297 c1_i32_1299 k0_t1
  let v3704 : BitVec 32 := Scalar.muli c2_i32_1355 arg15
  let c1_i32_1356 : BitVec 32 := 1#32
  let v3705 : BitVec 32 := Scalar.addi v3704 c1_i32_1356
  let c512_i32_1371 : BitVec 32 := 512#32
  let v3737 : BitVec 32 := Scalar.muli v3705 c512_i32_1371
  v3737
def k0_off6 (i : grid0.Coords) (k0_t1 : Fin (k0_t1_loop i).trips) : Fin 4 → Nat :=
  let c0_1372 : Index := 0#32
  let c0_1373 : Index := 0#32
  let c2_i32_1355 : BitVec 32 := 2#32
  let c0_i32_1297 : BitVec 32 := 0#32
  let c1_i32_1299 : BitVec 32 := 1#32
  let arg15 : BitVec 32 := Scf.iv c0_i32_1297 c1_i32_1299 k0_t1
  let v3704 : BitVec 32 := Scalar.muli c2_i32_1355 arg15
  let c1_i32_1356 : BitVec 32 := 1#32
  let v3705 : BitVec 32 := Scalar.addi v3704 c1_i32_1356
  let c512_i32_1371 : BitVec 32 := 512#32
  let v3737 : BitVec 32 := Scalar.muli v3705 c512_i32_1371
  let v3738 : BitVec 32 := v3737
  let v3739 : Index := Scalar.indexCast v3738
  let c0_1374 : Index := 0#32
  ![0, 0, v3739.toNat, 0]
def k0_off7 (i : grid0.Coords) (k0_t1 : Fin (k0_t1_loop i).trips) : Fin 2 → Nat :=
  let c2_i32_1355 : BitVec 32 := 2#32
  let c0_i32_1297 : BitVec 32 := 0#32
  let c1_i32_1299 : BitVec 32 := 1#32
  let arg15 : BitVec 32 := Scf.iv c0_i32_1297 c1_i32_1299 k0_t1
  let v3704 : BitVec 32 := Scalar.muli c2_i32_1355 arg15
  let c1_i32_1356 : BitVec 32 := 1#32
  let v3705 : BitVec 32 := Scalar.addi v3704 c1_i32_1356
  let c512_i32_1371 : BitVec 32 := 512#32
  let v3737 : BitVec 32 := Scalar.muli v3705 c512_i32_1371
  let v3738 : BitVec 32 := v3737
  let v3742 : Index := Scalar.indexCast v3738
  let c0_1375 : Index := 0#32
  ![v3742.toNat, 0]
def k0_mult5 (i : grid0.Coords) (k0_t1 : Fin (k0_t1_loop i).trips) : BitVec 32 :=
  let c2_i32_1355 : BitVec 32 := 2#32
  let c0_i32_1297 : BitVec 32 := 0#32
  let c1_i32_1299 : BitVec 32 := 1#32
  let arg15 : BitVec 32 := Scf.iv c0_i32_1297 c1_i32_1299 k0_t1
  let v3704 : BitVec 32 := Scalar.muli c2_i32_1355 arg15
  let c1_i32_1356 : BitVec 32 := 1#32
  let v3705 : BitVec 32 := Scalar.addi v3704 c1_i32_1356
  let c512_i32_1377 : BitVec 32 := 512#32
  let v3747 : BitVec 32 := Scalar.muli v3705 c512_i32_1377
  v3747
def k0_off8 (i : grid0.Coords) (k0_t1 : Fin (k0_t1_loop i).trips) : Fin 4 → Nat :=
  let c0_1378 : Index := 0#32
  let c0_1379 : Index := 0#32
  let c0_1380 : Index := 0#32
  let c2_i32_1355 : BitVec 32 := 2#32
  let c0_i32_1297 : BitVec 32 := 0#32
  let c1_i32_1299 : BitVec 32 := 1#32
  let arg15 : BitVec 32 := Scf.iv c0_i32_1297 c1_i32_1299 k0_t1
  let v3704 : BitVec 32 := Scalar.muli c2_i32_1355 arg15
  let c1_i32_1356 : BitVec 32 := 1#32
  let v3705 : BitVec 32 := Scalar.addi v3704 c1_i32_1356
  let c512_i32_1377 : BitVec 32 := 512#32
  let v3747 : BitVec 32 := Scalar.muli v3705 c512_i32_1377
  let v3748 : BitVec 32 := v3747
  let v3749 : Index := Scalar.indexCast v3748
  ![0, 0, 0, v3749.toNat]
@[reducible] def k0_t2_loop (i : grid0.Coords) : Scf.Loop 32 :=
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let v3541 : BitVec 32 := Scalar.addi c0_i32_1297 v3540
  let c1_i32_1300 : BitVec 32 := 1#32
  ⟨v3544, v3541, c1_i32_1300⟩
def k0_mult6 (i : grid0.Coords) (k0_t2 : Fin (k0_t2_loop i).trips) : BitVec 32 :=
  let c2_i32_1357 : BitVec 32 := 2#32
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1300 : BitVec 32 := 1#32
  let arg15 : BitVec 32 := Scf.iv v3544 c1_i32_1300 k0_t2
  let v3706 : BitVec 32 := Scalar.muli c2_i32_1357 arg15
  let c512_i32_1358 : BitVec 32 := 512#32
  let v3707 : BitVec 32 := Scalar.muli v3706 c512_i32_1358
  v3707
def k0_off9 (i : grid0.Coords) (k0_t2 : Fin (k0_t2_loop i).trips) : Fin 4 → Nat :=
  let c0_1359 : Index := 0#32
  let c0_1360 : Index := 0#32
  let c2_i32_1357 : BitVec 32 := 2#32
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1300 : BitVec 32 := 1#32
  let arg15 : BitVec 32 := Scf.iv v3544 c1_i32_1300 k0_t2
  let v3706 : BitVec 32 := Scalar.muli c2_i32_1357 arg15
  let c512_i32_1358 : BitVec 32 := 512#32
  let v3707 : BitVec 32 := Scalar.muli v3706 c512_i32_1358
  let v3708 : BitVec 32 := v3707
  let v3709 : Index := Scalar.indexCast v3708
  let c0_1361 : Index := 0#32
  ![0, 0, v3709.toNat, 0]
def k0_off10 (i : grid0.Coords) (k0_t2 : Fin (k0_t2_loop i).trips) : Fin 2 → Nat :=
  let c2_i32_1357 : BitVec 32 := 2#32
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1300 : BitVec 32 := 1#32
  let arg15 : BitVec 32 := Scf.iv v3544 c1_i32_1300 k0_t2
  let v3706 : BitVec 32 := Scalar.muli c2_i32_1357 arg15
  let c512_i32_1358 : BitVec 32 := 512#32
  let v3707 : BitVec 32 := Scalar.muli v3706 c512_i32_1358
  let v3708 : BitVec 32 := v3707
  let v3712 : Index := Scalar.indexCast v3708
  let c0_1362 : Index := 0#32
  ![v3712.toNat, 0]
def k0_mult7 (i : grid0.Coords) (k0_t2 : Fin (k0_t2_loop i).trips) : BitVec 32 :=
  let c2_i32_1357 : BitVec 32 := 2#32
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1300 : BitVec 32 := 1#32
  let arg15 : BitVec 32 := Scf.iv v3544 c1_i32_1300 k0_t2
  let v3706 : BitVec 32 := Scalar.muli c2_i32_1357 arg15
  let c512_i32_1364 : BitVec 32 := 512#32
  let v3717 : BitVec 32 := Scalar.muli v3706 c512_i32_1364
  v3717
def k0_off11 (i : grid0.Coords) (k0_t2 : Fin (k0_t2_loop i).trips) : Fin 4 → Nat :=
  let c0_1365 : Index := 0#32
  let c0_1366 : Index := 0#32
  let c0_1367 : Index := 0#32
  let c2_i32_1357 : BitVec 32 := 2#32
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1300 : BitVec 32 := 1#32
  let arg15 : BitVec 32 := Scf.iv v3544 c1_i32_1300 k0_t2
  let v3706 : BitVec 32 := Scalar.muli c2_i32_1357 arg15
  let c512_i32_1364 : BitVec 32 := 512#32
  let v3717 : BitVec 32 := Scalar.muli v3706 c512_i32_1364
  let v3718 : BitVec 32 := v3717
  let v3719 : Index := Scalar.indexCast v3718
  ![0, 0, 0, v3719.toNat]
def k0_mult8 (i : grid0.Coords) (k0_t2 : Fin (k0_t2_loop i).trips) : BitVec 32 :=
  let c2_i32_1355 : BitVec 32 := 2#32
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1300 : BitVec 32 := 1#32
  let arg15 : BitVec 32 := Scf.iv v3544 c1_i32_1300 k0_t2
  let v3704 : BitVec 32 := Scalar.muli c2_i32_1355 arg15
  let c1_i32_1356 : BitVec 32 := 1#32
  let v3705 : BitVec 32 := Scalar.addi v3704 c1_i32_1356
  let c512_i32_1371 : BitVec 32 := 512#32
  let v3737 : BitVec 32 := Scalar.muli v3705 c512_i32_1371
  v3737
def k0_off12 (i : grid0.Coords) (k0_t2 : Fin (k0_t2_loop i).trips) : Fin 4 → Nat :=
  let c0_1372 : Index := 0#32
  let c0_1373 : Index := 0#32
  let c2_i32_1355 : BitVec 32 := 2#32
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1300 : BitVec 32 := 1#32
  let arg15 : BitVec 32 := Scf.iv v3544 c1_i32_1300 k0_t2
  let v3704 : BitVec 32 := Scalar.muli c2_i32_1355 arg15
  let c1_i32_1356 : BitVec 32 := 1#32
  let v3705 : BitVec 32 := Scalar.addi v3704 c1_i32_1356
  let c512_i32_1371 : BitVec 32 := 512#32
  let v3737 : BitVec 32 := Scalar.muli v3705 c512_i32_1371
  let v3738 : BitVec 32 := v3737
  let v3739 : Index := Scalar.indexCast v3738
  let c0_1374 : Index := 0#32
  ![0, 0, v3739.toNat, 0]
def k0_off13 (i : grid0.Coords) (k0_t2 : Fin (k0_t2_loop i).trips) : Fin 2 → Nat :=
  let c2_i32_1355 : BitVec 32 := 2#32
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1300 : BitVec 32 := 1#32
  let arg15 : BitVec 32 := Scf.iv v3544 c1_i32_1300 k0_t2
  let v3704 : BitVec 32 := Scalar.muli c2_i32_1355 arg15
  let c1_i32_1356 : BitVec 32 := 1#32
  let v3705 : BitVec 32 := Scalar.addi v3704 c1_i32_1356
  let c512_i32_1371 : BitVec 32 := 512#32
  let v3737 : BitVec 32 := Scalar.muli v3705 c512_i32_1371
  let v3738 : BitVec 32 := v3737
  let v3742 : Index := Scalar.indexCast v3738
  let c0_1375 : Index := 0#32
  ![v3742.toNat, 0]
def k0_mult9 (i : grid0.Coords) (k0_t2 : Fin (k0_t2_loop i).trips) : BitVec 32 :=
  let c2_i32_1355 : BitVec 32 := 2#32
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1300 : BitVec 32 := 1#32
  let arg15 : BitVec 32 := Scf.iv v3544 c1_i32_1300 k0_t2
  let v3704 : BitVec 32 := Scalar.muli c2_i32_1355 arg15
  let c1_i32_1356 : BitVec 32 := 1#32
  let v3705 : BitVec 32 := Scalar.addi v3704 c1_i32_1356
  let c512_i32_1377 : BitVec 32 := 512#32
  let v3747 : BitVec 32 := Scalar.muli v3705 c512_i32_1377
  v3747
def k0_off14 (i : grid0.Coords) (k0_t2 : Fin (k0_t2_loop i).trips) : Fin 4 → Nat :=
  let c0_1378 : Index := 0#32
  let c0_1379 : Index := 0#32
  let c0_1380 : Index := 0#32
  let c2_i32_1355 : BitVec 32 := 2#32
  let c0_i32_1297 : BitVec 32 := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c0_i32_1291 : BitVec 32 := 0#32
  let v3524 : BitVec 1 := Scalar.cmpi .sgt v3520 c0_i32_1291
  let v3525 : BitVec 32 := Scalar.extui v3524
  let c0_i32_1292 : BitVec 32 := 0#32
  let v3526 : BitVec 1 := Scalar.cmpi .slt v3520 c0_i32_1292
  let v3527 : BitVec 32 := Scalar.extui v3526
  let v3528 : BitVec 32 := Scalar.subi v3525 v3527
  let c2_i32_1290 : BitVec 32 := 2#32
  let c0_i32_1293 : BitVec 32 := 0#32
  let v3529 : BitVec 1 := Scalar.cmpi .sgt c2_i32_1290 c0_i32_1293
  let v3530 : BitVec 32 := Scalar.extui v3529
  let c0_i32_1294 : BitVec 32 := 0#32
  let v3531 : BitVec 1 := Scalar.cmpi .slt c2_i32_1290 c0_i32_1294
  let v3532 : BitVec 32 := Scalar.extui v3531
  let v3533 : BitVec 32 := Scalar.subi v3530 v3532
  let v3534 : BitVec 1 := Scalar.cmpi .ne v3528 v3533
  let v3535 : BitVec 32 := Scalar.remsi v3520 c2_i32_1290
  let c0_i32_1295 : BitVec 32 := 0#32
  let v3536 : BitVec 1 := Scalar.cmpi .ne v3535 c0_i32_1295
  let v3537 : BitVec 1 := Scalar.andi v3534 v3536
  let v3523 : BitVec 32 := Scalar.divsi v3520 c2_i32_1290
  let c1_i32_1296 : BitVec 32 := 1#32
  let v3538 : BitVec 32 := Scalar.subi v3523 c1_i32_1296
  let v3539 : BitVec 32 := Scalar.select v3537 v3538 v3523
  let v3540 : BitVec 32 := Scalar.subi v3539 c0_i32_1297
  let c1_i32_1298 : BitVec 32 := 1#32
  let v3542 : BitVec 32 := Scalar.divsi v3540 c1_i32_1298
  let v3543 : BitVec 32 := Scalar.muli v3542 c1_i32_1298
  let v3544 : BitVec 32 := Scalar.addi c0_i32_1297 v3543
  let c1_i32_1300 : BitVec 32 := 1#32
  let arg15 : BitVec 32 := Scf.iv v3544 c1_i32_1300 k0_t2
  let v3704 : BitVec 32 := Scalar.muli c2_i32_1355 arg15
  let c1_i32_1356 : BitVec 32 := 1#32
  let v3705 : BitVec 32 := Scalar.addi v3704 c1_i32_1356
  let c512_i32_1377 : BitVec 32 := 512#32
  let v3747 : BitVec 32 := Scalar.muli v3705 c512_i32_1377
  let v3748 : BitVec 32 := v3747
  let v3749 : Index := Scalar.indexCast v3748
  ![0, 0, 0, v3749.toNat]
def k0_cond1 (i : grid0.Coords) : BitVec 1 :=
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c2_i32_1301 : BitVec 32 := 2#32
  let c0_i32_1302 : BitVec 32 := 0#32
  let v3547 : BitVec 1 := Scalar.cmpi .eq c2_i32_1301 c0_i32_1302
  let c1_i32_1303 : BitVec 32 := 1#32
  let v3548 : BitVec 32 := Scalar.select v3547 c1_i32_1303 c2_i32_1301
  let v3549 : BitVec 32 := Scalar.remsi v3520 v3548
  let c0_i32_1305 : BitVec 32 := 0#32
  let v3551 : BitVec 1 := Scalar.cmpi .slt v3549 c0_i32_1305
  let c0_i32_1306 : BitVec 32 := 0#32
  let v3552 : BitVec 1 := Scalar.cmpi .slt v3548 c0_i32_1306
  let v3553 : BitVec 1 := Scalar.xori v3551 v3552
  let c0_i32_1304 : BitVec 32 := 0#32
  let v3550 : BitVec 1 := Scalar.cmpi .ne v3549 c0_i32_1304
  let v3554 : BitVec 1 := Scalar.andi v3553 v3550
  let v3555 : BitVec 32 := Scalar.addi v3549 v3548
  let v3556 : BitVec 32 := Scalar.select v3554 v3555 v3549
  let c1_i32_1307 : BitVec 32 := 1#32
  let v3557 : BitVec 1 := Scalar.cmpi .eq v3556 c1_i32_1307
  let v3558 : BitVec 32 := Scalar.extui v3557
  let c0_i32_1308 : BitVec 32 := 0#32
  let v3559 : BitVec 1 := Scalar.cmpi .ne v3558 c0_i32_1308
  v3559

def k0_mult10 (i : grid0.Coords) : BitVec 32 :=
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c1_i32_1355 : BitVec 32 := 1#32
  let v3704 : BitVec 32 := Scalar.subi v3520 c1_i32_1355
  let c512_i32_1356 : BitVec 32 := 512#32
  let v3705 : BitVec 32 := Scalar.muli v3704 c512_i32_1356
  v3705
def k0_off15 (i : grid0.Coords) : Fin 4 → Nat :=
  let c0_1357 : Index := 0#32
  let c0_1358 : Index := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c1_i32_1355 : BitVec 32 := 1#32
  let v3704 : BitVec 32 := Scalar.subi v3520 c1_i32_1355
  let c512_i32_1356 : BitVec 32 := 512#32
  let v3705 : BitVec 32 := Scalar.muli v3704 c512_i32_1356
  let v3706 : BitVec 32 := v3705
  let v3707 : Index := Scalar.indexCast v3706
  let c0_1359 : Index := 0#32
  ![0, 0, v3707.toNat, 0]
def k0_off16 (i : grid0.Coords) : Fin 2 → Nat :=
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c1_i32_1355 : BitVec 32 := 1#32
  let v3704 : BitVec 32 := Scalar.subi v3520 c1_i32_1355
  let c512_i32_1356 : BitVec 32 := 512#32
  let v3705 : BitVec 32 := Scalar.muli v3704 c512_i32_1356
  let v3706 : BitVec 32 := v3705
  let v3710 : Index := Scalar.indexCast v3706
  let c0_1360 : Index := 0#32
  ![v3710.toNat, 0]
def k0_mult11 (i : grid0.Coords) : BitVec 32 :=
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c1_i32_1355 : BitVec 32 := 1#32
  let v3704 : BitVec 32 := Scalar.subi v3520 c1_i32_1355
  let c512_i32_1362 : BitVec 32 := 512#32
  let v3715 : BitVec 32 := Scalar.muli v3704 c512_i32_1362
  v3715
def k0_off17 (i : grid0.Coords) : Fin 4 → Nat :=
  let c0_1363 : Index := 0#32
  let c0_1364 : Index := 0#32
  let c0_1365 : Index := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c1_i32_1355 : BitVec 32 := 1#32
  let v3704 : BitVec 32 := Scalar.subi v3520 c1_i32_1355
  let c512_i32_1362 : BitVec 32 := 512#32
  let v3715 : BitVec 32 := Scalar.muli v3704 c512_i32_1362
  let v3716 : BitVec 32 := v3715
  let v3717 : Index := Scalar.indexCast v3716
  ![0, 0, 0, v3717.toNat]
def k0_mult12 (i : grid0.Coords) : BitVec 32 :=
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c512_i32_1310 : BitVec 32 := 512#32
  let v3565 : BitVec 32 := Scalar.muli v3520 c512_i32_1310
  v3565
def k0_off18 (i : grid0.Coords) : Fin 4 → Nat :=
  let c0_1311 : Index := 0#32
  let c0_1312 : Index := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c512_i32_1310 : BitVec 32 := 512#32
  let v3565 : BitVec 32 := Scalar.muli v3520 c512_i32_1310
  let v3566 : BitVec 32 := v3565
  let v3567 : Index := Scalar.indexCast v3566
  let c0_1313 : Index := 0#32
  ![0, 0, v3567.toNat, 0]
def k0_off19 (i : grid0.Coords) : Fin 2 → Nat :=
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c512_i32_1310 : BitVec 32 := 512#32
  let v3565 : BitVec 32 := Scalar.muli v3520 c512_i32_1310
  let v3566 : BitVec 32 := v3565
  let v3570 : Index := Scalar.indexCast v3566
  let c0_1314 : Index := 0#32
  ![v3570.toNat, 0]
def k0_mult13 (i : grid0.Coords) : BitVec 32 :=
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c512_i32_1318 : BitVec 32 := 512#32
  let v3583 : BitVec 32 := Scalar.muli v3520 c512_i32_1318
  v3583
def k0_off20 (i : grid0.Coords) : Fin 4 → Nat :=
  let c0_1319 : Index := 0#32
  let c0_1320 : Index := 0#32
  let c0_1321 : Index := 0#32
  let arg2 : BitVec 32 := BitVec.ofNat 32 (i 2).val
  let c512_i32 : BitVec 32 := 512#32
  let v0 : BitVec 32 := Scalar.muli arg2 c512_i32
  let c512_i32_1279 : BitVec 32 := 512#32
  let v3502 : BitVec 32 := Scalar.addi v0 c512_i32_1279
  let c1_i32_1280 : BitVec 32 := 1#32
  let v3503 : BitVec 32 := Scalar.subi v3502 c1_i32_1280
  let c0_i32_1282 : BitVec 32 := 0#32
  let v3505 : BitVec 1 := Scalar.cmpi .sgt v3503 c0_i32_1282
  let v3506 : BitVec 32 := Scalar.extui v3505
  let c0_i32_1283 : BitVec 32 := 0#32
  let v3507 : BitVec 1 := Scalar.cmpi .slt v3503 c0_i32_1283
  let v3508 : BitVec 32 := Scalar.extui v3507
  let v3509 : BitVec 32 := Scalar.subi v3506 v3508
  let c512_i32_1281 : BitVec 32 := 512#32
  let c0_i32_1284 : BitVec 32 := 0#32
  let v3510 : BitVec 1 := Scalar.cmpi .sgt c512_i32_1281 c0_i32_1284
  let v3511 : BitVec 32 := Scalar.extui v3510
  let c0_i32_1285 : BitVec 32 := 0#32
  let v3512 : BitVec 1 := Scalar.cmpi .slt c512_i32_1281 c0_i32_1285
  let v3513 : BitVec 32 := Scalar.extui v3512
  let v3514 : BitVec 32 := Scalar.subi v3511 v3513
  let v3515 : BitVec 1 := Scalar.cmpi .ne v3509 v3514
  let v3516 : BitVec 32 := Scalar.remsi v3503 c512_i32_1281
  let c0_i32_1286 : BitVec 32 := 0#32
  let v3517 : BitVec 1 := Scalar.cmpi .ne v3516 c0_i32_1286
  let v3518 : BitVec 1 := Scalar.andi v3515 v3517
  let v3504 : BitVec 32 := Scalar.divsi v3503 c512_i32_1281
  let c1_i32_1287 : BitVec 32 := 1#32
  let v3519 : BitVec 32 := Scalar.subi v3504 c1_i32_1287
  let v3520 : BitVec 32 := Scalar.select v3518 v3519 v3504
  let c512_i32_1318 : BitVec 32 := 512#32
  let v3583 : BitVec 32 := Scalar.muli v3520 c512_i32_1318
  let v3584 : BitVec 32 := v3583
  let v3585 : Index := Scalar.indexCast v3584
  ![0, 0, 0, v3585.toNat]
def k0_off21 (i : grid0.Coords) (c0_i32_1330 : BitVec 32) : Fin 2 → Nat :=
  let arg1 : BitVec 32 := BitVec.ofNat 32 (i 1).val
  let c12_i32 : BitVec 32 := 12#32
  let v3615 : BitVec 32 := Scalar.muli arg1 c12_i32
  let v3616 : BitVec 32 := Scalar.addi v3615 c0_i32_1330
  let v3617 : Index := Scalar.indexCast v3616
  let c0_1331 : Index := 0#32
  ![v3617.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S4x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "drop" => some ⊥
  | "mask" => some ⊥
  | _ => none
-- ==== ReferenceIdeal.lean ====
abbrev S8x16384x128 : Shape := ⟨3, ![8, 16384, 128]⟩
abbrev S24x4x128x4096 : Shape := ⟨4, ![24, 4, 128, 4096]⟩
abbrev S2x16x256x128 : Shape := ⟨4, ![2, 16, 256, 128]⟩
abbrev S2x16x128x256 : Shape := ⟨4, ![2, 16, 128, 256]⟩
abbrev S16384x128 : Shape := ⟨2, ![16384, 128]⟩
abbrev S_ : Shape := ⟨0, ![]⟩
abbrev S16x4x128x4096 : Shape := ⟨4, ![16, 4, 128, 4096]⟩
abbrev S4x4x4x128x4096 : Shape := ⟨5, ![4, 4, 4, 128, 4096]⟩
abbrev S4x4x4x4096x128 : Shape := ⟨5, ![4, 4, 4, 4096, 128]⟩
abbrev S4x4x128x4096 : Shape := ⟨4, ![4, 4, 128, 4096]⟩
abbrev S4x4x4096x128 : Shape := ⟨4, ![4, 4, 4096, 128]⟩
abbrev S4x16384x128 : Shape := ⟨3, ![4, 16384, 128]⟩
abbrev S1x16x256x128 : Shape := ⟨4, ![1, 16, 256, 128]⟩
abbrev S16x256x128 : Shape := ⟨3, ![16, 256, 128]⟩
abbrev S4x4x256x128 : Shape := ⟨4, ![4, 4, 256, 128]⟩
abbrev S4x4x255x128 : Shape := ⟨4, ![4, 4, 255, 128]⟩
abbrev S1x16x128x256 : Shape := ⟨4, ![1, 16, 128, 256]⟩
abbrev S16x128x256 : Shape := ⟨3, ![16, 128, 256]⟩
abbrev S4x4x128x256 : Shape := ⟨4, ![4, 4, 128, 256]⟩
abbrev S16384x48 : Shape := ⟨2, ![16384, 48]⟩
abbrev S4x4096x4x4x3 : Shape := ⟨5, ![4, 4096, 4, 4, 3]⟩
abbrev S4x4x4x4096x3 : Shape := ⟨5, ![4, 4, 4, 4096, 3]⟩
abbrev S4096 : Shape := ⟨1, ![4096]⟩
abbrev S255 : Shape := ⟨1, ![255]⟩
abbrev S1x255 : Shape := ⟨2, ![1, 255]⟩
abbrev S4096x1 : Shape := ⟨2, ![4096, 1]⟩
abbrev S4096x255 : Shape := ⟨2, ![4096, 255]⟩
abbrev S4x4x4x4096x255 : Shape := ⟨5, ![4, 4, 4, 4096, 255]⟩
abbrev S4x4x4x4096 : Shape := ⟨4, ![4, 4, 4, 4096]⟩
abbrev S4x4x4x4096x1 : Shape := ⟨5, ![4, 4, 4, 4096, 1]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S4x4x4096x255 : Shape := ⟨4, ![4, 4, 4096, 255]⟩
abbrev S4x4x4096x64 : Shape := ⟨4, ![4, 4, 4096, 64]⟩
abbrev S4096x64 : Shape := ⟨2, ![4096, 64]⟩
abbrev S4x4x4096x16 : Shape := ⟨4, ![4, 4, 4096, 16]⟩
abbrev S4x4x4096x1x16 : Shape := ⟨5, ![4, 4, 4096, 1, 16]⟩
abbrev S64x1 : Shape := ⟨2, ![64, 1]⟩
abbrev S1x1x1x64x1 : Shape := ⟨5, ![1, 1, 1, 64, 1]⟩
abbrev S4x4x4096x64x16 : Shape := ⟨5, ![4, 4, 4096, 64, 16]⟩
abbrev S4x4x4096x64x1 : Shape := ⟨5, ![4, 4, 4096, 64, 1]⟩
abbrev S4x4x4096x64x64 : Shape := ⟨5, ![4, 4, 4096, 64, 64]⟩
abbrev S4x4x4096x4096 : Shape := ⟨4, ![4, 4, 4096, 4096]⟩
abbrev S1x4096 : Shape := ⟨2, ![1, 4096]⟩
abbrev S4096x4096 : Shape := ⟨2, ![4096, 4096]⟩
abbrev S1x1x4096x4096 : Shape := ⟨4, ![1, 1, 4096, 4096]⟩
abbrev S4x4x1x4096x4096 : Shape := ⟨5, ![4, 4, 1, 4096, 4096]⟩
abbrev S4x4x4x4096x4096 : Shape := ⟨5, ![4, 4, 4, 4096, 4096]⟩
abbrev S4x16x4096x128 : Shape := ⟨4, ![4, 16, 4096, 128]⟩
abbrev S4x4096x16x128 : Shape := ⟨4, ![4, 4096, 16, 128]⟩
abbrev S16384x2048 : Shape := ⟨2, ![16384, 2048]⟩

abbrev nBuf : Space → Nat
  | .hbm => 263
  | .vmem => 0
  | .smem => 0
  | _ => 0

abbrev hbmTy0_0 (i : Nat) : BufTy := match i % 128 with
  | 0 => ⟨S8x16384x128, .bf16⟩
  | 1 => ⟨S24x4x128x4096, .bf16⟩
  | 2 => ⟨S2x16x256x128, .bf16⟩
  | 3 => ⟨S2x16x128x256, .bf16⟩
  | 4 => ⟨S16384x128, .f32⟩
  | 5 => ⟨S8x16384x128, .f32⟩
  | 6 => ⟨S24x4x128x4096, .f32⟩
  | 7 => ⟨S2x16x256x128, .f32⟩
  | 8 => ⟨S2x16x128x256, .f32⟩
  | 9 => ⟨S_, .f32⟩
  | 10 => ⟨S_, .f32⟩
  | 11 => ⟨S_, .f32⟩
  | 12 => ⟨S_, .f32⟩
  | 13 => ⟨S16x4x128x4096, .f32⟩
  | 14 => ⟨S4x4x4x128x4096, .f32⟩
  | 15 => ⟨S4x4x4x4096x128, .f32⟩
  | 16 => ⟨S_, .f32⟩
  | 17 => ⟨S_, .f32⟩
  | 18 => ⟨S_, .f32⟩
  | 19 => ⟨S4x4x4x4096x128, .f32⟩
  | 20 => ⟨S4x4x4x4096x128, .f32⟩
  | 21 => ⟨S4x4x128x4096, .f32⟩
  | 22 => ⟨S4x4x4096x128, .f32⟩
  | 23 => ⟨S4x4x128x4096, .f32⟩
  | 24 => ⟨S4x4x4096x128, .f32⟩
  | 25 => ⟨S4x16384x128, .f32⟩
  | 26 => ⟨S4x4x4096x128, .f32⟩
  | 27 => ⟨S4x4x4096x128, .f32⟩
  | 28 => ⟨S4x16384x128, .f32⟩
  | 29 => ⟨S4x4x4096x128, .f32⟩
  | 30 => ⟨S4x4x4096x128, .f32⟩
  | 31 => ⟨S1x16x256x128, .f32⟩
  | 32 => ⟨S16x256x128, .f32⟩
  | 33 => ⟨S4x4x256x128, .f32⟩
  | 34 => ⟨S4x4x255x128, .f32⟩
  | 35 => ⟨S1x16x128x256, .f32⟩
  | 36 => ⟨S16x128x256, .f32⟩
  | 37 => ⟨S4x4x128x256, .f32⟩
  | 38 => ⟨S4x4x256x128, .f32⟩
  | 39 => ⟨S4x4x255x128, .f32⟩
  | 40 => ⟨S16384x48, .f32⟩
  | 41 => ⟨S4x4096x4x4x3, .f32⟩
  | 42 => ⟨S4x4x4x4096x3, .f32⟩
  | 43 => ⟨S4x4x4x4096x3, .f32⟩
  | 44 => ⟨S4x4x4x4096x3, .f32⟩
  | 45 => ⟨S_, .f32⟩
  | 46 => ⟨S4x4x4x4096x3, .f32⟩
  | 47 => ⟨S4x4x4x4096x3, .f32⟩
  | 48 => ⟨S_, .f32⟩
  | 49 => ⟨S4x4x4x4096x3, .f32⟩
  | 50 => ⟨S4x4x4x4096x3, .f32⟩
  | 51 => ⟨S4096, .i32⟩
  | 52 => ⟨S255, .i32⟩
  | 53 => ⟨S_, .i32⟩
  | 54 => ⟨S255, .i32⟩
  | 55 => ⟨S255, .i32⟩
  | 56 => ⟨S_, .i32⟩
  | 57 => ⟨S255, .i32⟩
  | 58 => ⟨S255, .i32⟩
  | 59 => ⟨S_, .i32⟩
  | 60 => ⟨S255, .i32⟩
  | 61 => ⟨S255, .i32⟩
  | 62 => ⟨S1x255, .i32⟩
  | 63 => ⟨S4096x1, .i32⟩
  | 64 => ⟨S4096x255, .i32⟩
  | 65 => ⟨S4096x255, .i32⟩
  | 66 => ⟨S4096x255, .i1⟩
  | 67 => ⟨S4x4x4x4096x255, .f32⟩
  | 68 => ⟨S4x4x4x4096x255, .f32⟩
  | 69 => ⟨S4x4x4x4096x255, .f32⟩
  | 70 => ⟨S_, .f32⟩
  | 71 => ⟨S_, .f32⟩
  | 72 => ⟨S4x4x4x4096x255, .i1⟩
  | 73 => ⟨S4x4x4x4096x255, .f32⟩
  | 74 => ⟨S4x4x4x4096x255, .f32⟩
  | 75 => ⟨S_, .f32⟩
  | 76 => ⟨S4x4x4x4096, .f32⟩
  | 77 => ⟨S4x4x4x4096x1, .f32⟩
  | 78 => ⟨S4x4x4x4096x1, .f32⟩
  | 79 => ⟨S_, .f32⟩
  | 80 => ⟨S4x4x4x4096x1, .f32⟩
  | 81 => ⟨S4x4x4x4096x1, .i1⟩
  | 82 => ⟨S_, .f32⟩
  | 83 => ⟨S_, .f32⟩
  | 84 => ⟨S4x4x4x4096x1, .f32⟩
  | 85 => ⟨S4x4x4x4096x1, .f32⟩
  | 86 => ⟨S4x4x4x4096x255, .f32⟩
  | 87 => ⟨S4x4x4x4096x255, .f32⟩
  | 88 => ⟨S4x4x4x4096x255, .f32⟩
  | 89 => ⟨S_, .f32⟩
  | 90 => ⟨S4x4x4x4096, .f32⟩
  | 91 => ⟨S4x4x4x4096x1, .f32⟩
  | 92 => ⟨S_, .f32⟩
  | 93 => ⟨S4x4x4x4096x1, .f32⟩
  | 94 => ⟨S4x4x4x4096x1, .f32⟩
  | 95 => ⟨S4x4x4x4096x255, .f32⟩
  | 96 => ⟨S4x4x4x4096x255, .f32⟩
  | 97 => ⟨S4x4x4x4096x128, .f32⟩
  | 98 => ⟨S64, .i32⟩
  | 99 => ⟨S_, .i32⟩
  | 100 => ⟨S64, .i32⟩
  | 101 => ⟨S64, .i32⟩
  | 102 => ⟨S255x1, .i32⟩
  | 103 => ⟨S1x64, .i32⟩
  | 104 => ⟨S_, .i32⟩
  | 105 => ⟨S1x64, .i32⟩
  | 106 => ⟨S1x64, .i32⟩
  | 107 => ⟨S255x64, .i32⟩
  | 108 => ⟨S255x64, .i32⟩
  | 109 => ⟨S255x64, .i1⟩
  | 110 => ⟨S255x1, .i32⟩
  | 111 => ⟨S_, .i32⟩
  | 112 => ⟨S255x1, .i32⟩
  | 113 => ⟨S255x1, .i32⟩
  | 114 => ⟨S1x64, .i32⟩
  | 115 => ⟨S255x64, .i32⟩
  | 116 => ⟨S255x64, .i32⟩
  | 117 => ⟨S255x64, .i1⟩
  | 118 => ⟨S255x64, .i1⟩
  | 119 => ⟨S255x64, .f32⟩
  | 120 => ⟨S_, .f32⟩
  | 121 => ⟨S4x4x4096x255, .f32⟩
  | 122 => ⟨S4x4x4096x64, .f32⟩
  | 123 => ⟨S64, .i32⟩
  | 124 => ⟨S1x64, .i32⟩
  | 125 => ⟨S_, .i32⟩
  | 126 => ⟨S4096, .i32⟩
  | 127 => ⟨S4096, .i32⟩
  | _ => ⟨S8x16384x128, .bf16⟩

abbrev hbmTy0_1 (i : Nat) : BufTy := match i % 128 with
  | 0 => ⟨S4096x1, .i32⟩
  | 1 => ⟨S_, .i32⟩
  | 2 => ⟨S1x64, .i32⟩
  | 3 => ⟨S1x64, .i32⟩
  | 4 => ⟨S4096x1, .i32⟩
  | 5 => ⟨S4096x64, .i32⟩
  | 6 => ⟨S4096x64, .i32⟩
  | 7 => ⟨S4096x64, .i1⟩
  | 8 => ⟨S_, .i32⟩
  | 9 => ⟨S1x64, .i32⟩
  | 10 => ⟨S1x64, .i1⟩
  | 11 => ⟨S4096x64, .i32⟩
  | 12 => ⟨S4096x64, .i32⟩
  | 13 => ⟨S4096x64, .i1⟩
  | 14 => ⟨S4096x64, .i1⟩
  | 15 => ⟨S4096x64, .i1⟩
  | 16 => ⟨S_, .i32⟩
  | 17 => ⟨S4096x1, .i32⟩
  | 18 => ⟨S4096x1, .i32⟩
  | 19 => ⟨S4096x64, .i32⟩
  | 20 => ⟨S4096x64, .i32⟩
  | 21 => ⟨S4096x64, .i1⟩
  | 22 => ⟨S4096x64, .i1⟩
  | 23 => ⟨S_, .f32⟩
  | 24 => ⟨S_, .f32⟩
  | 25 => ⟨S4x4x4096x64, .i1⟩
  | 26 => ⟨S4x4x4096x64, .f32⟩
  | 27 => ⟨S4x4x4096x64, .f32⟩
  | 28 => ⟨S_, .f32⟩
  | 29 => ⟨S_, .f32⟩
  | 30 => ⟨S4x4x4096x64, .i1⟩
  | 31 => ⟨S4x4x4096x64, .f32⟩
  | 32 => ⟨S4x4x4096x64, .f32⟩
  | 33 => ⟨S4x4x4096x16, .f32⟩
  | 34 => ⟨S4x4x4096x16, .i32⟩
  | 35 => ⟨S4x4x4096x16, .f32⟩
  | 36 => ⟨S_, .f32⟩
  | 37 => ⟨S4x4x4096x16, .f32⟩
  | 38 => ⟨S4x4x4096x16, .i1⟩
  | 39 => ⟨S4x4x4096x1x16, .i32⟩
  | 40 => ⟨S64, .i32⟩
  | 41 => ⟨S64x1, .i32⟩
  | 42 => ⟨S1x1x1x64x1, .i32⟩
  | 43 => ⟨S4x4x4096x64x16, .i32⟩
  | 44 => ⟨S4x4x4096x64x16, .i32⟩
  | 45 => ⟨S4x4x4096x64x16, .i1⟩
  | 46 => ⟨S4x4x4096x1x16, .i1⟩
  | 47 => ⟨S4x4x4096x64x16, .i1⟩
  | 48 => ⟨S4x4x4096x64x16, .i1⟩
  | 49 => ⟨S_, .i1⟩
  | 50 => ⟨S4x4x4096x64, .i1⟩
  | 51 => ⟨S4x4x4096x64x1, .i1⟩
  | 52 => ⟨S4x4x4096x64x64, .i1⟩
  | 53 => ⟨S4x4x4096x4096, .i1⟩
  | 54 => ⟨S1x4096, .i32⟩
  | 55 => ⟨S4096x1, .i32⟩
  | 56 => ⟨S4096x4096, .i32⟩
  | 57 => ⟨S4096x4096, .i32⟩
  | 58 => ⟨S4096x4096, .i1⟩
  | 59 => ⟨S1x1x4096x4096, .i1⟩
  | 60 => ⟨S4x4x4096x4096, .i1⟩
  | 61 => ⟨S4x4x4096x4096, .i1⟩
  | 62 => ⟨S4x4x1x4096x4096, .i1⟩
  | 63 => ⟨S4x4x4x4096x4096, .f32⟩
  | 64 => ⟨S4x4x4x4096x4096, .f32⟩
  | 65 => ⟨S4x4x4x4096x4096, .f32⟩
  | 66 => ⟨S_, .f32⟩
  | 67 => ⟨S_, .f32⟩
  | 68 => ⟨S4x4x4x4096x4096, .i1⟩
  | 69 => ⟨S4x4x4x4096x4096, .f32⟩
  | 70 => ⟨S4x4x4x4096x4096, .f32⟩
  | 71 => ⟨S_, .f32⟩
  | 72 => ⟨S4x4x4x4096, .f32⟩
  | 73 => ⟨S_, .f32⟩
  | 74 => ⟨S4x4x4x4096, .f32⟩
  | 75 => ⟨S4x4x4x4096, .f32⟩
  | 76 => ⟨S4x4x4x4096x1, .f32⟩
  | 77 => ⟨S4x4x4x4096x4096, .f32⟩
  | 78 => ⟨S4x4x4x4096x4096, .f32⟩
  | 79 => ⟨S4x4x4x4096x4096, .f32⟩
  | 80 => ⟨S_, .f32⟩
  | 81 => ⟨S4x4x4x4096, .f32⟩
  | 82 => ⟨S4x4x4x4096x1, .f32⟩
  | 83 => ⟨S4x4x4x4096x4096, .f32⟩
  | 84 => ⟨S4x4x4x4096x4096, .f32⟩
  | 85 => ⟨S4x4x4x4096x128, .f32⟩
  | 86 => ⟨S4096x1, .i32⟩
  | 87 => ⟨S1x4096, .i32⟩
  | 88 => ⟨S4096x4096, .i32⟩
  | 89 => ⟨S4096x4096, .i32⟩
  | 90 => ⟨S4096x4096, .i32⟩
  | 91 => ⟨S_, .i32⟩
  | 92 => ⟨S4096x4096, .i32⟩
  | 93 => ⟨S4096x4096, .i1⟩
  | 94 => ⟨S_, .i32⟩
  | 95 => ⟨S4096x4096, .i32⟩
  | 96 => ⟨S4096x4096, .i1⟩
  | 97 => ⟨S4096x4096, .i1⟩
  | 98 => ⟨S4x4x4x4096x4096, .f32⟩
  | 99 => ⟨S4x4x4x4096x4096, .f32⟩
  | 100 => ⟨S4x4x4x4096x4096, .f32⟩
  | 101 => ⟨S_, .f32⟩
  | 102 => ⟨S_, .f32⟩
  | 103 => ⟨S4x4x4x4096x4096, .i1⟩
  | 104 => ⟨S4x4x4x4096x4096, .f32⟩
  | 105 => ⟨S4x4x4x4096x4096, .f32⟩
  | 106 => ⟨S_, .f32⟩
  | 107 => ⟨S4x4x4x4096, .f32⟩
  | 108 => ⟨S_, .f32⟩
  | 109 => ⟨S4x4x4x4096, .f32⟩
  | 110 => ⟨S4x4x4x4096, .f32⟩
  | 111 => ⟨S4x4x4x4096x1, .f32⟩
  | 112 => ⟨S4x4x4x4096x4096, .f32⟩
  | 113 => ⟨S4x4x4x4096x4096, .f32⟩
  | 114 => ⟨S4x4x4x4096x4096, .f32⟩
  | 115 => ⟨S_, .f32⟩
  | 116 => ⟨S4x4x4x4096, .f32⟩
  | 117 => ⟨S4x4x4x4096x1, .f32⟩
  | 118 => ⟨S4x4x4x4096x4096, .f32⟩
  | 119 => ⟨S4x4x4x4096x4096, .f32⟩
  | 120 => ⟨S4x4x4x4096x128, .f32⟩
  | 121 => ⟨S4x4x4x4096x1, .f32⟩
  | 122 => ⟨S4x4x4x4096x128, .f32⟩
  | 123 => ⟨S4x4x4x4096x128, .f32⟩
  | 124 => ⟨S4x4x4x4096x1, .f32⟩
  | 125 => ⟨S4x4x4x4096x128, .f32⟩
  | 126 => ⟨S4x4x4x4096x128, .f32⟩
  | 127 => ⟨S4x4x4x4096x128, .f32⟩
  | _ => ⟨S8x16384x128, .bf16⟩

abbrev hbmTy0_2 (i : Nat) : BufTy := match i % 128 with
  | 0 => ⟨S4x4x4x4096x1, .f32⟩
  | 1 => ⟨S4x4x4x4096x128, .f32⟩
  | 2 => ⟨S4x4x4x4096x128, .f32⟩
  | 3 => ⟨S4x4x4x4096x128, .f32⟩
  | 4 => ⟨S4x16x4096x128, .f32⟩
  | 5 => ⟨S4x4096x16x128, .f32⟩
  | 6 => ⟨S16384x2048, .f32⟩
  | _ => ⟨S8x16384x128, .bf16⟩

abbrev hbmTy (i : Nat) : BufTy := match i / 128 with
  | 0 => hbmTy0_0 i
  | 1 => hbmTy0_1 i
  | 2 => hbmTy0_2 i
  | _ => ⟨S8x16384x128, .bf16⟩

abbrev bufTy : (tb : Table) → Fin (tcTables nBuf tb) → BufTy
  | .hbm, ⟨i, _⟩ => hbmTy i
  | _, _ => ⟨S8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c : Ref sig .tc := ⟨.hbm, 53, rfl⟩
abbrev main_v43 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_v46 : Ref sig .tc := ⟨.hbm, 58, rfl⟩
abbrev main_c_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_call1_v0 : Ref sig .tc := ⟨.hbm, 83, rfl⟩
abbrev main_call1_v1 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_14 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_15 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_c_16 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_c_17 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_c_18 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_c_19 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_20 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_v119 : Ref sig .tc := ⟨.hbm, 155, rfl⟩
abbrev main_cst_21 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_v120 : Ref sig .tc := ⟨.hbm, 160, rfl⟩
abbrev main_values : Ref sig .tc := ⟨.hbm, 161, rfl⟩
abbrev main_indices : Ref sig .tc := ⟨.hbm, 162, rfl⟩
abbrev main_v121 : Ref sig .tc := ⟨.hbm, 163, rfl⟩
abbrev main_cst_22 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_23 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_24 : Ref sig .tc := ⟨.hbm, 194, rfl⟩
abbrev main_call4_v0 : Ref sig .tc := ⟨.hbm, 195, rfl⟩
abbrev main_call4_v1 : Ref sig .tc := ⟨.hbm, 196, rfl⟩
abbrev main_call4_v2 : Ref sig .tc := ⟨.hbm, 197, rfl⟩
abbrev main_v150 : Ref sig .tc := ⟨.hbm, 198, rfl⟩
abbrev main_cst_25 : Ref sig .tc := ⟨.hbm, 199, rfl⟩
abbrev main_v151 : Ref sig .tc := ⟨.hbm, 200, rfl⟩
abbrev main_cst_26 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_27 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_c_28 : Ref sig .tc := ⟨.hbm, 219, rfl⟩
abbrev main_v168 : Ref sig .tc := ⟨.hbm, 220, rfl⟩
abbrev main_v169 : Ref sig .tc := ⟨.hbm, 221, rfl⟩
abbrev main_c_29 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_cst_30 : Ref sig .tc := ⟨.hbm, 229, rfl⟩
abbrev main_call5_v0 : Ref sig .tc := ⟨.hbm, 230, rfl⟩
abbrev main_call5_v1 : Ref sig .tc := ⟨.hbm, 231, rfl⟩
abbrev main_call5_v2 : Ref sig .tc := ⟨.hbm, 232, rfl⟩
abbrev main_v176 : Ref sig .tc := ⟨.hbm, 233, rfl⟩
abbrev main_cst_31 : Ref sig .tc := ⟨.hbm, 234, rfl⟩
abbrev main_v177 : Ref sig .tc := ⟨.hbm, 235, rfl⟩
abbrev main_cst_32 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_33 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩

abbrev nD : Nat := 1
abbrev τ : Topo := Topo.v7x

variable {F : FTy → Type} [FloatOps F]
-- ==== KernelUp.lean ====
abbrev S16384x4096 : Shape := ⟨2, ![16384, 4096]⟩
abbrev S1x4096x11008 : Shape := ⟨3, ![1, 4096, 11008]⟩
abbrev S16384x11008 : Shape := ⟨2, ![16384, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S16384x11008, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2048x256, .bf16⟩
  | .local _ .vmem, ⟨7, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S16384x4096, .f32⟩
  | .hbm, ⟨4, _⟩ => ⟨S4096x11008, .f32⟩
  | .hbm, ⟨5, _⟩ => ⟨S16384x11008, .f32⟩
  | .hbm, ⟨6, _⟩ => ⟨S16384x11008, .f32⟩
  | .hbm, ⟨7, _⟩ => ⟨S16384x11008, .f32⟩
  | .hbm, ⟨8, _⟩ => ⟨S_, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S4096x11008, .f32⟩
  | .hbm, ⟨16, _⟩ => ⟨S16384x11008, .f32⟩
  | .hbm, ⟨17, _⟩ => ⟨S16384x11008, .f32⟩
  | .hbm, ⟨18, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== KernelDown.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownIdeal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16384x11008, .f32⟩
  | .hbm, ⟨4, _⟩ => ⟨S16384x4096, .f32⟩
  | .hbm, ⟨5, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOut.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelNorm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Body.lean ====
/-
  The kernel's body run once at symbolic operands: what it leaves in its output block, as a function of the contents of its
  ten input blocks, with the proof that it runs. The one conditional (a last single tile of the flash loop where the number of
  full tiles is odd) is run both ways, inside the part that holds it.
-/
module

public import proofs.«01_k».proof.Proof.Gen.KernelIdeal.Skeleton
public import proofs.«01_k».proof.Proof.Gen.KernelIdeal.Loops
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The type of the contents of memref `M`'s buffer on device `c`. -/
abbrev Bf (c : Dev nD) {sp : Space} {S : Shape} {e : EltTy} (M : Memref sig .tc sp S e) : Type := Buf (Elt F) (M.view.loc (c : Thread nD τ))
/-- Memref `M`'s buffer on device `c`, held over the elements `M` spans with contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

variable (c : Dev nD) (i : grid0.Coords)
    (M3 : Memref sig .tc .vmem S4x1x128x512 .bf16) (h3 : M3.IsWhole)
    (M4 : Memref sig .tc .vmem S1x1x256x128 .bf16) (h4 : M4.IsWhole)
    (M5 : Memref sig .tc .vmem S1x1x128x256 .bf16) (h5 : M5.IsWhole)
    (M6 : Memref sig .tc .vmem S1x1x4096x128 .bf16) (h6 : M6.IsWhole)
    (M7 : Memref sig .tc .vmem S1x1x128x4096 .bf16) (h7 : M7.IsWhole)
    (M8 : Memref sig .tc .vmem S1x1x4096x128 .bf16) (h8 : M8.IsWhole)
    (M9 : Memref sig .tc .vmem S1x1x128x4096 .bf16) (h9 : M9.IsWhole)
    (M10 : Memref sig .tc .vmem S4096x128 .bf16) (h10 : M10.IsWhole)
    (M11 : Memref sig .tc .vmem S1x1024x512 .f32) (h11 : M11.IsWhole)
    (M12 : Memref sig .tc .vmem S512x128 .f32) (h12 : M12.IsWhole)
    (M13 : Memref sig .tc .vmem S512x512 .f32) (h13 : M13.IsWhole)
    (M14 : Memref sig .tc .vmem S128x512 .f32) (h14 : M14.IsWhole)

/-- The three input blocks the flash loop reads, held whole. -/
abbrev FlashIn (f6 : Bf (F := F) c M6) (f7 : Bf (F := F) c M7) (f10 : Bf (F := F) c M10) : sProp 𝕄 :=
  iprop(pt c M6 f6 ∗ pt c M7 f7 ∗ pt c M10 f10)

/-- The part with the loop and the conditional, where the number of full tiles is odd: it takes the conditional's branch. -/
def flashOdd (hc : k0_cond1 i = 1#1) (f6 : Bf (F := F) c M6) (f7 : Bf (F := F) c M7) (f10 : Bf (F := F) c M10)
    (v12 : IVec S1x512 32) (v3501 : FVec F S256x2048 .bf16) (v3520 : BitVec 32) (v3521 : FVec F S1x2048 .f32) (v3522 : FVec F S144x2048 .f32) (v a : BitVec 32) :
    { R : (Σ' (_ : FVec F S1x2048 .f32) (_ : FVec F S144x2048 .f32) (_ : FVec F S512x2048 .f32), FVec F S512x512 .f32) //
      ∀ (E : Set ℕ), FlashIn c M6 M7 M10 f6 f7 f10
        ⊢ wp frame (wpE (defs₀ (F := F)) Variants.none c none) E
            (k0_part84 i M3 h3 M4 h4 M5 h5 M6 h6 M7 h7 M8 h8 M9 h9 M10 h10 M11 h11 M12 h12 M13 h13 M14 h14 v12 v3501 v3520 v3521 v3522 v a)
            (fun y => iprop(⌜y = R⌝ ∗ FlashIn c M6 M7 M10 f6 f7 f10)) } := by
  refine ⟨?_, fun E => ?run⟩
  case run =>
    rw [k0_part84_eq_skeleton]
    unfold k0_part84_skel
    iintro ⟨H6, H7, H10⟩
    sl_exec
    sl_step
    sl_close

/-- The same part where the number of full tiles is even: it skips the conditional's branch. -/
def flashEven (hc : ¬ k0_cond1 i = 1#1) (f6 : Bf (F := F) c M6) (f7 : Bf (F := F) c M7) (f10 : Bf (F := F) c M10)
    (v12 : IVec S1x512 32) (v3501 : FVec F S256x2048 .bf16) (v3520 : BitVec 32) (v3521 : FVec F S1x2048 .f32) (v3522 : FVec F S144x2048 .f32) (v a : BitVec 32) :
    { R : (Σ' (_ : FVec F S1x2048 .f32) (_ : FVec F S144x2048 .f32) (_ : FVec F S512x2048 .f32), FVec F S512x512 .f32) //
      ∀ (E : Set ℕ), FlashIn c M6 M7 M10 f6 f7 f10
        ⊢ wp frame (wpE (defs₀ (F := F)) Variants.none c none) E
            (k0_part84 i M3 h3 M4 h4 M5 h5 M6 h6 M7 h7 M8 h8 M9 h9 M10 h10 M11 h11 M12 h12 M13 h13 M14 h14 v12 v3501 v3520 v3521 v3522 v a)
            (fun y => iprop(⌜y = R⌝ ∗ FlashIn c M6 M7 M10 f6 f7 f10)) } := by
  refine ⟨?_, fun E => ?run⟩
  case run =>
    rw [k0_part84_eq_skeleton]
    unfold k0_part84_skel
    iintro ⟨H6, H7, H10⟩
    sl_exec
    sl_step
    sl_close

/-- The part with the loop and the conditional: what it returns, by the parity of the number of full tiles. -/
def flash (f6 : Bf (F := F) c M6) (f7 : Bf (F := F) c M7) (f10 : Bf (F := F) c M10)
    (v12 : IVec S1x512 32) (v3501 : FVec F S256x2048 .bf16) (v3520 : BitVec 32) (v3521 : FVec F S1x2048 .f32) (v3522 : FVec F S144x2048 .f32) (v a : BitVec 32) :
    (Σ' (_ : FVec F S1x2048 .f32) (_ : FVec F S144x2048 .f32) (_ : FVec F S512x2048 .f32), FVec F S512x512 .f32) :=
  if hc : k0_cond1 i = 1#1 then (flashOdd c i M3 h3 M4 h4 M5 h5 M6 h6 M7 h7 M8 h8 M9 h9 M10 h10 M11 h11 M12 h12 M13 h13 M14 h14 hc f6 f7 f10 v12 v3501 v3520 v3521 v3522 v a).1
  else (flashEven c i M3 h3 M4 h4 M5 h5 M6 h6 M7 h7 M8 h8 M9 h9 M10 h10 M11 h11 M12 h12 M13 h13 M14 h14 hc f6 f7 f10 v12 v3501 v3520 v3521 v3522 v a).1

/-- That part runs from the three blocks it reads, gives them back and returns `flash`. -/
theorem flash_run (f6 : Bf (F := F) c M6) (f7 : Bf (F := F) c M7) (f10 : Bf (F := F) c M10)
    (v12 : IVec S1x512 32) (v3501 : FVec F S256x2048 .bf16) (v3520 : BitVec 32) (v3521 : FVec F S1x2048 .f32) (v3522 : FVec F S144x2048 .f32) (v a : BitVec 32) (E : Set ℕ) :
    FlashIn c M6 M7 M10 f6 f7 f10
        ⊢ wp frame (wpE (defs₀ (F := F)) Variants.none c none) E
            (k0_part84 i M3 h3 M4 h4 M5 h5 M6 h6 M7 h7 M8 h8 M9 h9 M10 h10 M11 h11 M12 h12 M13 h13 M14 h14 v12 v3501 v3520 v3521 v3522 v a)
            (fun y => iprop(⌜y.1 = (flash c i M3 h3 M4 h4 M5 h5 M6 h6 M7 h7 M8 h8 M9 h9 M10 h10 M11 h11 M12 h12 M13 h13 M14 h14 f6 f7 f10 v12 v3501 v3520 v3521 v3522 v a).1⌝ ∗ ⌜y.2.1 = (flash c i M3 h3 M4 h4 M5 h5 M6 h6 M7 h7 M8 h8 M9 h9 M10 h10 M11 h11 M12 h12 M13 h13 M14 h14 f6 f7 f10 v12 v3501 v3520 v3521 v3522 v a).2.1⌝ ∗ ⌜y.2.2.1 = (flash c i M3 h3 M4 h4 M5 h5 M6 h6 M7 h7 M8 h8 M9 h9 M10 h10 M11 h11 M12 h12 M13 h13 M14 h14 f6 f7 f10 v12 v3501 v3520 v3521 v3522 v a).2.2.1⌝
              ∗ ⌜y.2.2.2 = (flash c i M3 h3 M4 h4 M5 h5 M6 h6 M7 h7 M8 h8 M9 h9 M10 h10 M11 h11 M12 h12 M13 h13 M14 h14 f6 f7 f10 v12 v3501 v3520 v3521 v3522 v a).2.2.2⌝ ∗ FlashIn c M6 M7 M10 f6 f7 f10)) := by
  have h : FlashIn c M6 M7 M10 f6 f7 f10
        ⊢ wp frame (wpE (defs₀ (F := F)) Variants.none c none) E
            (k0_part84 i M3 h3 M4 h4 M5 h5 M6 h6 M7 h7 M8 h8 M9 h9 M10 h10 M11 h11 M12 h12 M13 h13 M14 h14 v12 v3501 v3520 v3521 v3522 v a)
            (fun y => iprop(⌜y = flash c i M3 h3 M4 h4 M5 h5 M6 h6 M7 h7 M8 h8 M9 h9 M10 h10 M11 h11 M12 h12 M13 h13 M14 h14 f6 f7 f10 v12 v3501 v3520 v3521 v3522 v a⌝ ∗ FlashIn c M6 M7 M10 f6 f7 f10)) := by
    unfold flash
    split
    · rename_i hc; exact (flashOdd c i M3 h3 M4 h4 M5 h5 M6 h6 M7 h7 M8 h8 M9 h9 M10 h10 M11 h11 M12 h12 M13 h13 M14 h14 hc f6 f7 f10 v12 v3501 v3520 v3521 v3522 v a).2 E
    · rename_i hc; exact (flashEven c i M3 h3 M4 h4 M5 h5 M6 h6 M7 h7 M8 h8 M9 h9 M10 h10 M11 h11 M12 h12 M13 h13 M14 h14 hc f6 f7 f10 v12 v3501 v3520 v3521 v3522 v a).2 E
  iintro H
  iapply (wp_wand_r frame (wpE (defs₀ (F := F)) Variants.none (c : Thread nD τ) none) E)
  isplitl [H]
  · iapply h; iexact H
  iintro %y ⟨%hy, H⟩
  subst hy
  isplitr; · ipureintro; rfl
  isplitr; · ipureintro; rfl
  isplitr; · ipureintro; rfl
  isplitr; · ipureintro; rfl
  iexact H

/-- What the body leaves in its output block, with the proof that from its ten input blocks held at `f3 … f12`, its output
    block and scratch at anything, it runs to its return, the inputs as they were, the output at the value found. -/
def run
    (f3 : Bf (F := F) c M3)
    (f4 : Bf (F := F) c M4)
    (f5 : Bf (F := F) c M5)
    (f6 : Bf (F := F) c M6)
    (f7 : Bf (F := F) c M7)
    (f8 : Bf (F := F) c M8)
    (f9 : Bf (F := F) c M9)
    (f10 : Bf (F := F) c M10)
    (f11 : Bf (F := F) c M11)
    (f12 : Bf (F := F) c M12) :
    { W : Bf (F := F) c M13 //
      ∀ (f13 : Bf (F := F) c M13) (f14 : Bf (F := F) c M14) (E : Set ℕ) (Q : PUnit → sProp 𝕄),
        iprop(pt c M3 f3 ∗ pt c M4 f4 ∗ pt c M5 f5 ∗ pt c M8 f8 ∗ pt c M9 f9 ∗ pt c M11 f11 ∗ pt c M12 f12 ∗ FlashIn c M6 M7 M10 f6 f7 f10 ∗ pt c M13 f13 ∗ (M14.view.loc (c : Thread nD τ) ↦{fullShare} f14)
          ∗ (iprop(pt c M13 W ∗ pt c M3 f3 ∗ pt c M4 f4 ∗ pt c M5 f5 ∗ pt c M8 f8 ∗ pt c M9 f9 ∗ pt c M11 f11 ∗ pt c M12 f12 ∗ FlashIn c M6 M7 M10 f6 f7 f10 ∗ (∃ f, M14.view.loc (c : Thread nD τ) ↦{fullShare} f)) -∗ Q ⟨⟩))
        ⊢ wp frame (wpE (defs₀ (F := F)) Variants.none c none) E
            (cc0_nsa_attention i M3 h3 M4 h4 M5 h5 M6 h6 M7 h7 M8 h8 M9 h9 M10 h10 M11 h11 M12 h12 M13 h13 M14 h14) Q } := by
  refine ⟨?_, fun f13 f14 E Q => ?run⟩
  case run =>
    have hcut := flash_run c i M3 h3 M4 h4 M5 h5 M6 h6 M7 h7 M8 h8 M9 h9 M10 h10 M11 h11 M12 h12 M13 h13 M14 h14 f6 f7 f10
    iintro ⟨H3, H4, H5, H8, H9, H11, H12, ⟨H6, H7, H10⟩, H13, H14, Hk⟩
    sl_exec_parts!
    sl_step
    subst_vars
    iapply Hk
    isplitl [H13]; · iexact H13
    sl_close

end Cert.KernelIdeal.Body

end
-- ==== Proof.Run.lean ====
/-
  The kernel call's frame: the pipeline's proof data over the body's run, the body obligation and the launch. Every weakly
  fair execution of @main terminates with the output array at what the body leaves block by block, every other array as
  the region found it and every semaphore counter at zero.
-/
module

public import proofs.«01_k».proof.Proof.Body
public import proofs.«01_k».proof.Proof.Gen.KernelIdeal.Launch
public import proofs.«01_k».proof.Proof.Gen.KernelIdeal.Frame
public import proofs.«01_k».proof.Proof.Gen.KernelIdeal.Points

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run at grid point `t`, on the blocks the pipeline has staged. -/
abbrev runAt (c : Dev nD) (t : Fin cfg0.N) :=
  run (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) ((hstage0_9 ((cfg0.slots t 9).cast nbuf0_9)).unread (iblk m c 9 t))

/-- What the body leaves in the output block at grid point `t`. -/
def outBlk (c : Dev nD) (t : Fin cfg0.N) : (cfg0.win 10).block.Idx → Elt F (cfg0.win 10).elt :=
  (st0_10 t).view.read (Elt F) (runAt m c t).1

/-- The pipeline's proof data: each array as the region finds it, each input block left in place, the output block at what
    the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk m c t
  Φ _ := Pipeline.ΦA spec0 c
  q w := if (spec0 w).isOut = false then Pipeline.shareOf spec0 w else fullShare
  owed _ := 0

/-- The proof data's arrays are what the region finds. -/
theorem A_eq (c : Dev nD) (w : Fin cfg0.W) : (dats m 0 c).A w = V m c (Pipeline.arrRef spec0 w) := by
  dsimp only [dats]

/-- At every grid point the body runs from the staged blocks and leaves what the proof data say. -/
theorem body_obligation (c : Dev nD) : BodyObligation (dats m 0 c) (defs₀ (F := F)) Variants.none () Set.univ := fun t => by
  have hb0 : ∀ d, (dats m 0 c).before 0 t d = iblk m c 0 t := fun d => before0_0_of m (dats m 0 c) (A_eq m c 0) (fun _ => by dsimp only [dats]) t d
  have hb1 : ∀ d, (dats m 0 c).before 1 t d = iblk m c 1 t := fun d => before0_1_of m (dats m 0 c) (A_eq m c 1) (fun _ => by dsimp only [dats]) t d
  have hb2 : ∀ d, (dats m 0 c).before 2 t d = iblk m c 2 t := fun d => before0_2_of m (dats m 0 c) (A_eq m c 2) (fun _ => by dsimp only [dats]) t d
  have hb3 : ∀ d, (dats m 0 c).before 3 t d = iblk m c 3 t := fun d => before0_3_of m (dats m 0 c) (A_eq m c 3) (fun _ => by dsimp only [dats]) t d
  have hb4 : ∀ d, (dats m 0 c).before 4 t d = iblk m c 4 t := fun d => before0_4_of m (dats m 0 c) (A_eq m c 4) (fun _ => by dsimp only [dats]) t d
  have hb5 : ∀ d, (dats m 0 c).before 5 t d = iblk m c 5 t := fun d => before0_5_of m (dats m 0 c) (A_eq m c 5) (fun _ => by dsimp only [dats]) t d
  have hb6 : ∀ d, (dats m 0 c).before 6 t d = iblk m c 6 t := fun d => before0_6_of m (dats m 0 c) (A_eq m c 6) (fun _ => by dsimp only [dats]) t d
  have hb7 : ∀ d, (dats m 0 c).before 7 t d = iblk m c 7 t := fun d => before0_7_of m (dats m 0 c) (A_eq m c 7) (fun _ => by dsimp only [dats]) t d
  have hb8 : ∀ d, (dats m 0 c).before 8 t d = iblk m c 8 t := fun d => before0_8_of m (dats m 0 c) (A_eq m c 8) (fun _ => by dsimp only [dats]) t d
  have hb9 : ∀ d, (dats m 0 c).before 9 t d = iblk m c 9 t := fun d => before0_9_of m (dats m 0 c) (A_eq m c 9) (fun _ => by dsimp only [dats]) t d
  rw [bigSep_W0, bigSep_W0]
  rw [show (dats m 0 c).Φ t.castSucc = Pipeline.ΦA spec0 c from rfl, show (dats m 0 c).Φ t.succ = Pipeline.ΦA spec0 c from rfl]
  unfold Pipeline.ΦA Dat.owesAt Pipeline.owesWithin owns
  rw [scopedRest0_eq]
  rw [show (dats m 0 c).owed t.castSucc = 0 from rfl, show (dats m 0 c).owed t.succ = 0 from rfl]
  simp only [show ∀ w x, cfg0.idle w x = false from fun _ _ => rfl]
  iintro ⟨⟨⟨%fs, Hs⟩, Hg⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩⟩
  rw [hb0] at hf0; obtain rfl := (hstage0_0 ((cfg0.slots t 0).cast nbuf0_0)).eq_unread hf0
  rw [hb1] at hf1; obtain rfl := (hstage0_1 ((cfg0.slots t 1).cast nbuf0_1)).eq_unread hf1
  rw [hb2] at hf2; obtain rfl := (hstage0_2 ((cfg0.slots t 2).cast nbuf0_2)).eq_unread hf2
  rw [hb3] at hf3; obtain rfl := (hstage0_3 ((cfg0.slots t 3).cast nbuf0_3)).eq_unread hf3
  rw [hb4] at hf4; obtain rfl := (hstage0_4 ((cfg0.slots t 4).cast nbuf0_4)).eq_unread hf4
  rw [hb5] at hf5; obtain rfl := (hstage0_5 ((cfg0.slots t 5).cast nbuf0_5)).eq_unread hf5
  rw [hb6] at hf6; obtain rfl := (hstage0_6 ((cfg0.slots t 6).cast nbuf0_6)).eq_unread hf6
  rw [hb7] at hf7; obtain rfl := (hstage0_7 ((cfg0.slots t 7).cast nbuf0_7)).eq_unread hf7
  rw [hb8] at hf8; obtain rfl := (hstage0_8 ((cfg0.slots t 8).cast nbuf0_8)).eq_unread hf8
  rw [hb9] at hf9; obtain rfl := (hstage0_9 ((cfg0.slots t 9).cast nbuf0_9)).eq_unread hf9
  iapply (runAt m c t).2 f10 fs Set.univ
  isplitl [H0]; · iexact H0
  isplitl [H1]; · iexact H1
  isplitl [H2]; · iexact H2
  isplitl [H5]; · iexact H5
  isplitl [H6]; · iexact H6
  isplitl [H8]; · iexact H8
  isplitl [H9]; · iexact H9
  isplitl [H3 H4 H7]
  · isplitl [H3]; · iexact H3
    isplitl [H4]; · iexact H4
    iexact H7
  isplitl [H10]; · iexact H10
  isplitl [Hs]; · iexact Hs
  iintro ⟨H10, H0, H1, H2, H5, H6, H8, H9, ⟨H3, H4, H7⟩, Hs⟩
  isplitl [Hs Hg]
  · isplitl [Hs]; · iexact Hs
    iexact Hg
  isplitl [HO]; · iexact HO
  isplitl [H0]; · iexists _; isplitr; swap; (· iexact H0); ipureintro; exact ((hstage0_0 ((cfg0.slots t 0).cast nbuf0_0)).read_unread _)
  isplitl [H1]; · iexists _; isplitr; swap; (· iexact H1); ipureintro; exact ((hstage0_1 ((cfg0.slots t 1).cast nbuf0_1)).read_unread _)
  isplitl [H2]; · iexists _; isplitr; swap; (· iexact H2); ipureintro; exact ((hstage0_2 ((cfg0.slots t 2).cast nbuf0_2)).read_unread _)
  isplitl [H3]; · iexists _; isplitr; swap; (· iexact H3); ipureintro; exact ((hstage0_3 ((cfg0.slots t 3).cast nbuf0_3)).read_unread _)
  isplitl [H4]; · iexists _; isplitr; swap; (· iexact H4); ipureintro; exact ((hstage0_4 ((cfg0.slots t 4).cast nbuf0_4)).read_unread _)
  isplitl [H5]; · iexists _; isplitr; swap; (· iexact H5); ipureintro; exact ((hstage0_5 ((cfg0.slots t 5).cast nbuf0_5)).read_unread _)
  isplitl [H6]; · iexists _; isplitr; swap; (· iexact H6); ipureintro; exact ((hstage0_6 ((cfg0.slots t 6).cast nbuf0_6)).read_unread _)
  isplitl [H7]; · iexists _; isplitr; swap; (· iexact H7); ipureintro; exact ((hstage0_7 ((cfg0.slots t 7).cast nbuf0_7)).read_unread _)
  isplitl [H8]; · iexists _; isplitr; swap; (· iexact H8); ipureintro; exact ((hstage0_8 ((cfg0.slots t 8).cast nbuf0_8)).read_unread _)
  isplitl [H9]; · iexists _; isplitr; swap; (· iexact H9); ipureintro; exact ((hstage0_9 ((cfg0.slots t 9).cast nbuf0_9)).read_unread _)
  iexists _; isplitr; swap; (· iexact H10); ipureintro; dsimp only [dats, outBlk]

/-- Every weakly fair execution of @main ends with each windowed array at what the proof data say, every other array as the
    region found it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) 0 launch₀0 defs₀ Variants.none m ρ main
    (fun c => (body_obligation m c).loose) (fun c w h => by dsimp only [dats]; exact if_pos h) (fun _ _ => rfl) (V m)
    (hmain m Variants.none) (A_eq m) (fun _ _ => rfl)
    (Q' := fun r => Pipeline.FramePost cfgs (dats m) 0 (V m) r ∧ r.2.sem = fun _ => 0)

/-- Every weakly fair execution of @main leaves the output array at what the proof data say, the five argument arrays as they
    were and every semaphore counter at zero. -/
theorem run_read : θ_run defs (onTc (τ := τ) (main (F := F))) ⟨m, fun _ => 0, ρ⟩ (fun r => (∀ c : Dev nD,
      r.2.mem ((c.tc : Thread nD τ).loc main_v31) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 10,
      ((h.1 c).2 main_arg0 (Pipeline.mem_restRefs_of main_arg0 (by decide) (by decide))).trans (V_main_arg0 m c),
      ((h.1 c).1 6).trans (((dats m 0 c).arrAt_in 6 rfl _).trans ((A_eq m c 6).trans (V_main_arg1 m c))),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 9).trans (((dats m 0 c).arrAt_in 9 rfl _).trans ((A_eq m c 9).trans (V_main_arg4 m c)))⟩, h.2⟩)
    (run_main m ρ)

end Cert.KernelIdeal.Body

end
-- ==== Proof.Soft.lean ====
/-
  Softmax over the extended reals, as the two programs compute it: the weights of a row of scores relative to its greatest
  score, in base two and in base e; the weighted sum accumulated tile by tile with a running maximum.
-/
module

public import proofs.«01_k».proof.KernelIdeal

@[expose] public section

noncomputable section

namespace Cert.Soft

open Idealize.ShloMosaic

/-- The greatest of the first `n` scores, minus infinity if there is none. -/
def top (s : ℕ → EReal) (n : ℕ) : EReal := (Finset.range n).sup s

/-- The weight of a score `x` relative to `m`. -/
def wt (m x : EReal) : EReal := Ideal.exp2 (x - m)

theorem exp2_coe (r : ℝ) : Ideal.exp2 (r : EReal) = ((2 : ℝ) ^ r : ℝ) := rfl

theorem exp2_bot : Ideal.exp2 ⊥ = 0 := rfl

theorem exp_coe (r : ℝ) : Ideal.exp (r : EReal) = (Real.exp r : ℝ) := rfl

theorem exp_bot : Ideal.exp ⊥ = 0 := rfl

theorem wt_bot (m : EReal) : wt m ⊥ = 0 := by rw [wt, EReal.bot_sub, exp2_bot]

theorem wt_of_bot (x : EReal) (h : x ≤ ⊥) : wt ⊥ x = 0 := by
  rw [le_bot_iff.mp h, wt_bot]

/-- Relative to plus infinity every weight is zero. -/
theorem wt_top (x : EReal) : wt ⊤ x = 0 := by rw [wt, EReal.sub_top, exp2_bot]

/-- A weight is a nonnegative real number. -/
theorem wt_real {m x : EReal} (hx : x ≤ m) : ∃ r : ℝ, 0 ≤ r ∧ wt m x = (r : EReal) := by
  induction x using EReal.rec with
  | bot => exact ⟨0, le_rfl, by rw [wt_bot]; rfl⟩
  | top => exact ⟨0, le_rfl, by rw [top_le_iff.mp hx, wt_top]; rfl⟩
  | coe a =>
    induction m using EReal.rec with
    | bot => exact absurd (le_bot_iff.mp hx) (EReal.coe_ne_bot a)
    | top => exact ⟨0, le_rfl, by rw [wt_top]; rfl⟩
    | coe b => exact ⟨2 ^ (a - b), by positivity, by rw [wt, ← EReal.coe_sub, exp2_coe]⟩

/-- The greatest score has weight one. -/
theorem wt_self (r : ℝ) : wt (r : EReal) (r : EReal) = 1 := by
  rw [wt, ← EReal.coe_sub, exp2_coe, sub_self, Real.rpow_zero]; rfl

/-- Weights relative to `m` scaled to weights relative to a larger `m'`. -/
theorem wt_rescale {m m' x : EReal} (hx : x ≤ m) (hm : m ≤ m') (hm' : m' ≠ ⊤) : wt m' m * wt m x = wt m' x := by
  induction x using EReal.rec with
  | bot => rw [wt_bot, wt_bot, mul_zero]
  | top => exact absurd (top_le_iff.mp (hx.trans hm)) hm'
  | coe a =>
    induction m using EReal.rec with
    | bot => exact absurd (le_bot_iff.mp hx) (EReal.coe_ne_bot a)
    | top => exact absurd (top_le_iff.mp hm) hm'
    | coe b =>
      induction m' using EReal.rec with
      | bot => exact absurd (le_bot_iff.mp hm) (EReal.coe_ne_bot b)
      | top => exact absurd rfl hm'
      | coe c =>
        rw [wt, wt, wt, ← EReal.coe_sub, ← EReal.coe_sub, ← EReal.coe_sub, exp2_coe, exp2_coe, exp2_coe, ← EReal.coe_mul,
          ← Real.rpow_add two_pos]
        congr 2; ring

/-- A nonnegative real factor distributes over a finite sum of extended reals. -/
theorem mul_sum {ι : Type} (t : Finset ι) (r : ℝ) (hr : 0 ≤ r) (f : ι → EReal) :
    (r : EReal) * ∑ k ∈ t, f k = ∑ k ∈ t, (r : EReal) * f k := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

theorem top_le (s : ℕ → EReal) {n k : ℕ} (h : k < n) : s k ≤ top s n := Finset.le_sup (Finset.mem_range.mpr h)

theorem top_mono (s : ℕ → EReal) {n n' : ℕ} (h : n ≤ n') : top s n ≤ top s n' :=
  Finset.sup_mono (Finset.range_subset_range.mpr h)

theorem top_ne_top (s : ℕ → EReal) (hs : ∀ k, s k ≠ ⊤) (n : ℕ) : top s n ≠ ⊤ := by
  rw [← lt_top_iff_ne_top]
  exact (Finset.sup_lt_iff (by exact bot_lt_top)).mpr fun k _ => lt_top_iff_ne_top.mpr (hs k)

theorem top_eq_bot (s : ℕ → EReal) (n : ℕ) (h : ∀ k < n, s k = ⊥) : top s n = ⊥ :=
  le_bot_iff.mp (Finset.sup_le fun k hk => (h k (Finset.mem_range.mp hk)).le)

/-- The weighted sum of the values `v` over the first `n` scores. -/
def acc (s v : ℕ → EReal) (n : ℕ) : EReal := ∑ k ∈ Finset.range n, v k * wt (top s n) (s k)

/-- The sum of the weights of the first `n` scores. -/
def den (s : ℕ → EReal) (n : ℕ) : EReal := ∑ k ∈ Finset.range n, wt (top s n) (s k)

theorem acc_one (s : ℕ → EReal) (n : ℕ) : acc s (fun _ => 1) n = den s n := by simp [acc, den]

/-- A fold of `max` over a tile is the greatest of its scores. -/
theorem fold_eq (n : ℕ) (f : Fin n → EReal) : (Finset.univ.fold max ⊥ f : EReal) = Finset.univ.sup f := rfl

theorem sup_fin (s : ℕ → EReal) (n : ℕ) : (Finset.univ.sup fun x : Fin n => s x) = top s n := by
  apply le_antisymm
  · exact Finset.sup_le fun k _ => top_le s k.isLt
  · exact Finset.sup_le fun k hk => Finset.le_sup (f := fun x : Fin n => s x) (Finset.mem_univ ⟨k, Finset.mem_range.mp hk⟩)

theorem top_add (s : ℕ → EReal) (a b : ℕ) : top s (a + b) = max (top s a) (Finset.univ.sup fun x : Fin b => s (a + x)) := by
  apply le_antisymm
  · refine Finset.sup_le fun k hk => ?_
    rcases lt_or_ge k a with h | h
    · exact le_max_of_le_left (top_le s h)
    · have hk' := Finset.mem_range.mp hk
      refine le_max_of_le_right ?_
      have := Finset.le_sup (f := fun x : Fin b => s (a + x)) (Finset.mem_univ ⟨k - a, by omega⟩)
      simpa [Nat.add_sub_cancel' h] using this
  · refine max_le (top_mono s (by omega)) (Finset.sup_le fun x _ => top_le s (by omega))

/-- One tile of the accumulation: the running maximum and the running weighted sum over `a` scores, brought to `a + b`. -/
theorem acc_add (s v : ℕ → EReal) (hs : ∀ k, s k ≠ ⊤) (a b : ℕ) :
    wt (top s (a + b)) (top s a) * acc s v a + ∑ x : Fin b, v (a + x) * wt (top s (a + b)) (s (a + x)) = acc s v (a + b) := by
  have ht := top_ne_top s hs (a + b)
  obtain ⟨r, hr, e⟩ := wt_real (top_mono s (Nat.le_add_right a b))
  rw [acc, acc, Finset.sum_range_add, e, mul_sum _ r hr, ← e]
  congr 1
  · refine Finset.sum_congr rfl fun k hk => ?_
    rw [mul_left_comm, wt_rescale (top_le s (Finset.mem_range.mp hk)) (top_mono s (Nat.le_add_right a b)) ht]
  · exact Fin.sum_univ_eq_sum_range (fun x => v (a + x) * wt (top s (a + b)) (s (a + x))) b

/-- Scores at minus infinity past `n` change nothing. -/
theorem top_extend (s : ℕ → EReal) {n n' : ℕ} (h : n ≤ n') (hb : ∀ k, n ≤ k → k < n' → s k = ⊥) : top s n' = top s n := by
  refine le_antisymm (Finset.sup_le fun k hk => ?_) (top_mono s h)
  rcases lt_or_ge k n with hk' | hk'
  · exact top_le s hk'
  · rw [hb k hk' (Finset.mem_range.mp hk)]; exact bot_le

theorem acc_extend (s v : ℕ → EReal) {n n' : ℕ} (h : n ≤ n') (hb : ∀ k, n ≤ k → k < n' → s k = ⊥) : acc s v n' = acc s v n := by
  rw [acc, acc, top_extend s h hb]
  refine (Finset.sum_subset (Finset.range_subset_range.mpr h) fun k hk hk' => ?_).symm
  rw [hb k (by simpa using hk') (Finset.mem_range.mp hk), wt_bot, mul_zero]

theorem den_extend (s : ℕ → EReal) {n n' : ℕ} (h : n ≤ n') (hb : ∀ k, n ≤ k → k < n' → s k = ⊥) : den s n' = den s n := by
  rw [← acc_one, ← acc_one, acc_extend s _ h hb]

/-- Scores at minus infinity outside a stretch of `n` from `w` on change nothing. -/
theorem top_shift (s : ℕ → EReal) {w n n' : ℕ} (h : w + n ≤ n') (hb : ∀ k, k < n' → (k < w ∨ w + n ≤ k) → s k = ⊥) :
    top (fun x => s (w + x)) n = top s n' := by
  apply le_antisymm
  · exact Finset.sup_le fun k hk => top_le s (by have := Finset.mem_range.mp hk; omega)
  · refine Finset.sup_le fun k hk => ?_
    have hk' := Finset.mem_range.mp hk
    by_cases hc : k < w ∨ w + n ≤ k
    · rw [hb k hk' hc]; exact bot_le
    · have := top_le (fun x => s (w + x)) (n := n) (k := k - w) (by omega)
      simpa [show w + (k - w) = k by omega] using this

theorem acc_shift (s v : ℕ → EReal) {w n n' : ℕ} (h : w + n ≤ n') (hb : ∀ k, k < n' → (k < w ∨ w + n ≤ k) → s k = ⊥) :
    acc (fun x => s (w + x)) (fun x => v (w + x)) n = acc s v n' := by
  rw [acc, acc, top_shift s h hb, Finset.range_eq_Ico, Finset.range_eq_Ico,
    Finset.sum_Ico_add (fun k => v k * wt (top s n') (s k)) 0 n w]
  refine Finset.sum_subset (fun k hk => ?_) fun k hk hk' => ?_
  · simp only [Finset.mem_Ico] at hk ⊢; omega
  · simp only [Finset.mem_Ico] at hk hk'
    rw [hb k (by omega) (by omega), wt_bot, mul_zero]

theorem den_shift (s : ℕ → EReal) {w n n' : ℕ} (h : w + n ≤ n') (hb : ∀ k, k < n' → (k < w ∨ w + n ≤ k) → s k = ⊥) :
    den (fun x => s (w + x)) n = den s n' := by
  rw [← acc_one, ← acc_one, ← acc_shift s (fun _ => 1) h hb]

theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

theorem den_real (s : ℕ → EReal) (n : ℕ) : ∃ r : ℝ, 0 ≤ r ∧ den s n = (r : EReal) := by
  have hw : ∀ k : ℕ, ∃ r : ℝ, 0 ≤ r ∧ (k < n → wt (top s n) (s k) = (r : EReal)) := fun k => by
    by_cases hk : k < n
    · obtain ⟨r, h0, h1⟩ := wt_real (top_le s hk)
      exact ⟨r, h0, fun _ => h1⟩
    · exact ⟨0, le_rfl, fun h => absurd h hk⟩
  choose w h0 h1 using hw
  refine ⟨∑ k ∈ Finset.range n, w k, Finset.sum_nonneg fun k _ => h0 k, ?_⟩
  rw [den, coe_sum]
  exact Finset.sum_congr rfl fun k hk => h1 k (Finset.mem_range.mp hk)

/-- With a score above minus infinity the sum of the weights is at least one. -/
theorem one_le_den (s : ℕ → EReal) (hs : ∀ k, s k ≠ ⊤) {n k : ℕ} (hk : k < n) (hb : s k ≠ ⊥) : 1 ≤ den s n := by
  have hne : (Finset.range n).Nonempty := ⟨k, Finset.mem_range.mpr hk⟩
  obtain ⟨j, hj, e⟩ := Finset.exists_mem_eq_sup _ hne s
  have hj' := Finset.mem_range.mp hj
  have htop : top s n = s j := e
  have hw : wt (top s n) (s j) = 1 := by
    have h1 : s j ≠ ⊥ := fun h => hb (le_bot_iff.mp (h ▸ htop ▸ top_le s hk))
    have h2 := hs j
    lift s j to ℝ using ⟨h2, h1⟩ with r hr
    rw [htop]; exact wt_self r
  have hnn : ∀ i ∈ Finset.range n, 0 ≤ wt (top s n) (s i) := fun i hi => by
    obtain ⟨r, h0, h1⟩ := wt_real (top_le s (Finset.mem_range.mp hi))
    rw [h1]; exact_mod_cast h0
  calc (1 : EReal) = wt (top s n) (s j) := hw.symm
    _ ≤ den s n := Finset.single_le_sum (f := fun i => wt (top s n) (s i)) hnn hj

/-- The kernel's normalised sum: the weighted sum times the reciprocal of the sum of the weights. -/
def soft (s v : ℕ → EReal) (n : ℕ) : EReal := acc s v n * Ideal.div 1 (den s n)

/-- The reference's normalised sum, in base `e`: every weight divided by the sum of the weights, then the weighted sum. -/
def softE (s v : ℕ → EReal) (n : ℕ) : EReal :=
  ∑ k ∈ Finset.range n, Ideal.div (Ideal.exp (s k - top s n)) (∑ k ∈ Finset.range n, Ideal.exp (s k - top s n)) * v k

theorem div_coe (x : EReal) {d : ℝ} (hd : 0 < d) : Ideal.div x (d : EReal) = x * ((d⁻¹ : ℝ) : EReal) := by
  have : (d : EReal) ≠ 0 := by exact_mod_cast hd.ne'
  rw [Ideal.div, if_neg this, EReal.coe_inv]

/-- Scaling the scores by a positive constant scales the greatest. -/
theorem top_scale (s : ℕ → EReal) (c : ℝ) (hc : 0 < c) (n : ℕ) :
    top (fun k => s k * (c : EReal)) n = top s n * (c : EReal) := by
  have hc0 : (0 : EReal) ≤ (c : EReal) := by exact_mod_cast hc.le
  induction n with
  | zero =>
    show (⊥ : EReal) = ⊥ * (c : EReal)
    rw [EReal.bot_mul_coe_of_pos hc]
  | succ n ih =>
    have e : ∀ f : ℕ → EReal, top f (n + 1) = max (top f n) (f n) := fun f => by
      rw [top, Finset.range_add_one, Finset.sup_insert, sup_comm]; rfl
    rw [e, e, ih]
    exact (Monotone.map_max fun a b h => mul_le_mul_of_nonneg_right h hc0).symm

/-- Weights in base `e` of scores scaled by `log 2` are the weights in base two. -/
theorem exp_scale {x m : EReal} (hx : x ≤ m) (hm : m ≠ ⊤) :
    Ideal.exp (x * ((Real.log 2 : ℝ) : EReal) - m * ((Real.log 2 : ℝ) : EReal)) = wt m x := by
  have hl : 0 < Real.log 2 := Real.log_pos (by norm_num)
  induction x using EReal.rec with
  | bot => rw [EReal.bot_mul_coe_of_pos hl, EReal.bot_sub, exp_bot, wt_bot]
  | top => exact absurd (top_le_iff.mp hx) hm
  | coe a =>
    induction m using EReal.rec with
    | bot => exact absurd (le_bot_iff.mp hx) (EReal.coe_ne_bot a)
    | top => exact absurd rfl hm
    | coe b =>
      rw [wt, ← EReal.coe_mul, ← EReal.coe_mul, ← EReal.coe_sub, ← EReal.coe_sub, exp_coe, exp2_coe,
        Real.rpow_def_of_pos two_pos]
      congr 2; ring

/-- The two normalised sums are equal when some score is above minus infinity. -/
theorem softE_eq (s v : ℕ → EReal) (hs : ∀ k, s k ≠ ⊤) {n k : ℕ} (hk : k < n) (hb : s k ≠ ⊥) :
    softE (fun k => s k * ((Real.log 2 : ℝ) : EReal)) v n = soft s v n := by
  have hl : 0 < Real.log 2 := Real.log_pos (by norm_num)
  have ht := top_ne_top s hs n
  have hsum : ∑ k ∈ Finset.range n, Ideal.exp (s k * ((Real.log 2 : ℝ) : EReal) - top s n * ((Real.log 2 : ℝ) : EReal)) = den s n :=
    Finset.sum_congr rfl fun k hk => exp_scale (top_le s (Finset.mem_range.mp hk)) ht
  obtain ⟨d, hd0, hd⟩ := den_real s n
  have h1 := one_le_den s hs hk hb
  have hd1 : 0 < d := by
    rw [hd] at h1
    have : (1 : ℝ) ≤ d := by exact_mod_cast h1
    linarith
  rw [softE, top_scale s _ hl, hsum, soft, hd, div_coe _ hd1, one_mul, mul_comm (acc s v n), acc,
    mul_sum _ d⁻¹ (inv_nonneg.mpr hd0)]
  refine Finset.sum_congr rfl fun k hk => ?_
  rw [exp_scale (top_le s (Finset.mem_range.mp hk)) ht, div_coe _ hd1]
  ac_rfl

end Cert.Soft

end
-- ==== Proof.Top.lean ====
/-
  The first sixteen positions of a stable descending sort are the positions that fewer than sixteen others beat.
-/
module

public import proofs.«01_k».proof.KernelIdeal
public import Idealize.ShloMosaic.Lib.SortPrefix

@[expose] public section

noncomputable section

namespace Cert.Top

open Idealize.ShloMosaic

/-- `a` beats `b`: a larger key, or an equal one at a smaller position. -/
def beats {n : ℕ} (key : Fin n → EReal) (a b : Fin n) : Bool :=
  decide (key b < key a) || (decide (key a = key b) && decide (a < b))

theorem strict {n : ℕ} (key : Fin n → EReal) : StrictTotalBefore (beats key) :=
  StrictTotalBefore.of_key_then_position (fun x y => decide (y < x)) key (fun a => by simp)
    (fun a b c h h' => by simp only [decide_eq_true_eq] at *; exact h'.trans h)
    (fun a b => by
      simp only [decide_eq_true_eq]
      rcases lt_trichotomy a b with h | h | h
      · exact Or.inr (Or.inr h)
      · exact Or.inr (Or.inl h)
      · exact Or.inl h)

/-- On a list of increasing positions the stable sort by the key is the sort by the key and then the position. -/
theorem stableSort_eq {n : ℕ} (key : Fin n → EReal) (l : List (Fin n)) (hl : l.Pairwise (· < ·)) :
    stableSort (fun a b => decide (key b < key a)) l = stableSort (beats key) l := by
  induction l with
  | nil => rfl
  | cons a l ih =>
    rw [stableSort, stableSort, ih (List.pairwise_cons.mp hl).2]
    refine insertBefore_congr _ _ a _ fun b hb => ?_
    have hb' : b ∈ l := (perm_stableSort (beats key) l).mem_iff.mp hb
    have hab : a < b := (List.pairwise_cons.mp hl).1 b hb'
    simp [beats, not_lt.mpr hab.le]

theorem sortedFrom_eq {n : ℕ} (key : Fin n → EReal) :
    sortedFrom (fun a b => decide (key b < key a)) = sortedFrom (beats key) := by
  have e : sortPositions n (fun a b => decide (key b < key a)) = sortPositions n (beats key) :=
    stableSort_eq key _ (List.pairwise_lt_finRange n)
  funext k
  simp only [sortedFrom, List.get_eq_getElem, e, Fin.val_cast]

/-- The positions before the `k`-th in the sort are those that beat it. -/
theorem sortedFrom_lt {n : ℕ} (key : Fin n → EReal) (i j : Fin n) :
    beats key (sortedFrom (beats key) i) (sortedFrom (beats key) j) = true ↔ i < j := by
  have hB := strict key
  have hs := hB.sorted_stableSort (List.finRange n)
  have hlt : ∀ a b : Fin n, a < b → beats key (sortedFrom (beats key) b) (sortedFrom (beats key) a) = false := fun a b hab =>
    List.pairwise_iff_get.mp hs (a.cast (length_sortPositions n (beats key)).symm) (b.cast (length_sortPositions n (beats key)).symm) hab
  constructor
  · intro h
    by_contra hij
    rcases eq_or_lt_of_le (not_lt.mp hij) with e | h'
    · rw [e, hB.irrefl] at h; exact absurd h (by decide)
    · rw [hlt j i h'] at h; exact absurd h (by decide)
  · intro h
    have hne : sortedFrom (beats key) i ≠ sortedFrom (beats key) j := fun e => h.ne (sortedFrom_injective _ e)
    rcases hB.total _ _ hne with h' | h'
    · exact h'
    · rw [hlt i j h] at h'; exact absurd h' (by decide)

/-- How many positions beat `p`. -/
def rank {n : ℕ} (key : Fin n → EReal) (p : Fin n) : ℕ := (Finset.univ.filter fun a => beats key a p = true).card

theorem rank_sortedFrom {n : ℕ} (key : Fin n → EReal) (j : Fin n) : rank key (sortedFrom (beats key) j) = j := by
  have hb : Function.Bijective (sortedFrom (beats key)) := ⟨sortedFrom_injective _, sortedFrom_surjective _⟩
  rw [rank, ← Finset.card_map ((Equiv.ofBijective _ hb).symm.toEmbedding)]
  have : (Finset.map ((Equiv.ofBijective _ hb).symm.toEmbedding)
      (Finset.univ.filter fun a => beats key a (sortedFrom (beats key) j) = true)) = Finset.univ.filter fun i => i < j := by
    ext i
    simp only [Finset.mem_map_equiv, Equiv.symm_symm, Finset.mem_filter, Finset.mem_univ, true_and, Equiv.ofBijective_apply]
    exact sortedFrom_lt key i j
  rw [this, ← Fin.card_Iio j]
  congr 1
  ext i
  rw [Finset.mem_filter, Finset.mem_Iio]
  exact ⟨fun h => h.2, fun h => ⟨Finset.mem_univ i, h⟩⟩

/-- A position is among the first `k` of the stable descending sort exactly when fewer than `k` positions beat it. -/
theorem mem_first {n k : ℕ} (hk : k ≤ n) (key : Fin n → EReal) (p : Fin n) :
    (∃ i : Fin k, sortedFrom (fun a b => decide (key b < key a)) (i.castLE hk) = p) ↔ rank key p < k := by
  rw [sortedFrom_eq]
  constructor
  · rintro ⟨i, rfl⟩
    rw [rank_sortedFrom]; exact i.isLt
  · intro h
    obtain ⟨j, rfl⟩ := sortedFrom_surjective (beats key) p
    rw [rank_sortedFrom] at h
    exact ⟨⟨j, h⟩, rfl⟩

end Cert.Top

end
-- ==== Proof.Spec.lean ====
/-
  The attention of one query position and one group of four query heads, as a function of its data: the three branches over
  the extended reals, in base two. The kernel and the reference are each shown to compute it.
-/
module

public import proofs.«01_k».proof.Proof.Soft
public import proofs.«01_k».proof.Proof.Top

@[expose] public section

noncomputable section

namespace Cert.Spec

open Idealize.ShloMosaic Cert.Soft

/-- A position below `n` from a natural number. -/
def fk (n : ℕ) [NeZero n] (k : ℕ) : Fin n := ⟨k % n, Nat.mod_lt _ (Nat.pos_of_neZero n)⟩

@[simp] theorem fk_val {n : ℕ} [NeZero n] (k : Fin n) : fk n k.val = k := Fin.ext (Nat.mod_eq_of_lt k.isLt)

theorem fk_mk {n : ℕ} [NeZero n] (k : ℕ) (h : k < n) : fk n k = ⟨k, h⟩ := Fin.ext (Nat.mod_eq_of_lt h)

/-- A key against a query. -/
def dot (k q : Fin 128 → EReal) : EReal := ∑ d, k d * q d

/-- The small constant the compressed branch's sum is kept above. -/
def eps : EReal := Ideal.ofBits .f32 0x0DA24260#32

/-- The compressed branch's weights from its scores: zero for a query before position 31. -/
def cw (t : ℕ) (s : ℕ → EReal) (n : ℕ) : EReal :=
  wt (top s 256) (s n) * Ideal.div (if 31 ≤ t then 1 else 0) (max (den s 256) eps)

/-- The compressed branch's scores at position `t`: key `n` covers the positions `16 n … 16 n + 31`. -/
def cs (t : ℕ) (x : Fin 256 → EReal) (n : ℕ) : EReal := if 16 * n + 31 ≤ t ∧ n < 255 then x (fk 256 n) else ⊥

/-- Whether compressed key `n` overlaps block `b` of sixty-four positions. -/
def hit (b n : ℕ) : EReal := if 4 * b ≤ n + 1 ∧ n < 4 * (b + 1) then 1 else 0

/-- The importance of block `b`: the weights of the four heads on the compressed keys that overlap it. -/
def imp (p : Fin 4 → ℕ → EReal) (b : ℕ) : EReal := ∑ n : Fin 256, hit b n * (p 0 n + p 1 n + p 2 n + p 3 n)

/-- The score of block `b` in the selection. -/
def score (t : ℕ) (p : Fin 4 → ℕ → EReal) (b : Fin 64) : EReal :=
  if b.val = 0 ∨ b.val = t / 64 ∨ b.val + 1 = t / 64 then Ideal.ofBits .f32 0x49742400#32
  else if b.val * 64 ≤ t then imp p b else ⊥

/-- Whether block `b` is selected. -/
def kept (t : ℕ) (p : Fin 4 → ℕ → EReal) (b : Fin 64) : Prop := Cert.Top.rank (score t p) b < 16 ∧ ⊥ < score t p b

open Classical in
/-- The selected branch's scores. -/
def ss (t : ℕ) (p : Fin 4 → ℕ → EReal) (x : Fin 4096 → EReal) (k : ℕ) : EReal :=
  if k ≤ t ∧ kept t p (fk 64 (k / 64)) then x (fk 4096 k) else ⊥

/-- The window branch's scores: the key's position is at most 511 before the query's. -/
def ws (t : ℕ) (x : Fin 4096 → EReal) (k : ℕ) : EReal := if k ≤ t ∧ t ≤ k + 511 then x (fk 4096 k) else ⊥

/-- The gate of a logit. -/
def gate (x : EReal) : EReal := Ideal.div 1 (1 + Ideal.exp (-x))

/-- The data of one batch entry, group and query position. -/
structure Data where
  /-- the query position -/
  t : ℕ
  /-- the four heads' queries -/
  q : Fin 4 → Fin 128 → EReal
  /-- the compressed keys and values -/
  kc : Fin 256 → Fin 128 → EReal
  vc : Fin 128 → Fin 256 → EReal
  /-- the selected branch's keys and values -/
  ks : Fin 4096 → Fin 128 → EReal
  vs : Fin 128 → Fin 4096 → EReal
  /-- the window branch's keys and values -/
  kw : Fin 4096 → Fin 128 → EReal
  vw : Fin 128 → Fin 4096 → EReal
  /-- the gate logits of the heads and branches -/
  gl : Fin 4 → Fin 3 → EReal

variable (D : Data)

/-- The compressed branch's weights of head `r`. -/
def Data.p (r : Fin 4) (n : ℕ) : EReal := cw D.t (cs D.t fun n => dot (D.kc n) (D.q r)) n

def Data.ocmp (r : Fin 4) (d : Fin 128) : EReal := ∑ n : Fin 256, D.vc d n * D.p r n

def Data.sscore (r : Fin 4) : ℕ → EReal := ss D.t D.p fun k => dot (D.ks k) (D.q r)

def Data.oslc (r : Fin 4) (d : Fin 128) : EReal := soft (D.sscore r) (fun k => D.vs d (fk 4096 k)) 4096

def Data.wscore (r : Fin 4) : ℕ → EReal := ws D.t fun k => dot (D.kw k) (D.q r)

def Data.owin (r : Fin 4) (d : Fin 128) : EReal := soft (D.wscore r) (fun k => D.vw d (fk 4096 k)) 4096

/-- The output of head `r`: the three branches under their gates. -/
def Data.out (r : Fin 4) (d : Fin 128) : EReal :=
  gate (D.gl r 0) * D.ocmp r d + gate (D.gl r 1) * D.oslc r d + gate (D.gl r 2) * D.owin r d

end Cert.Spec

end
-- ==== Proof.Word.lean ====
/-
  Words that hold small naturals: sums, products and comparisons read as those of the naturals.
-/
module

public import proofs.«01_k».proof.KernelIdeal
public import Idealize.ShloMosaic.Lib.Pipeline.ValueKit

@[expose] public section

noncomputable section

namespace Cert.Word

open Idealize.ShloMosaic

theorem addi_nat (a b : ℕ) : IntOp.addi (BitVec.ofNat 32 a) (BitVec.ofNat 32 b) = BitVec.ofNat 32 (a + b) :=
  (BitVec.ofNat_add a b).symm

theorem muli_nat (a b : ℕ) : IntOp.muli (BitVec.ofNat 32 a) (BitVec.ofNat 32 b) = BitVec.ofNat 32 (a * b) :=
  (BitVec.ofNat_mul a b).symm

theorem scalar_muli_nat (a b : ℕ) : Scalar.muli (BitVec.ofNat 32 a) (BitVec.ofNat 32 b) = BitVec.ofNat 32 (a * b) :=
  (BitVec.ofNat_mul a b).symm

theorem subi_nat (a b : ℕ) (h : b ≤ a) : IntOp.subi (BitVec.ofNat 32 a) (BitVec.ofNat 32 b) = BitVec.ofNat 32 (a - b) := by
  show BitVec.ofNat 32 a - BitVec.ofNat 32 b = _
  obtain ⟨c, rfl⟩ := Nat.exists_eq_add_of_le h
  rw [BitVec.ofNat_add, Nat.add_sub_cancel_left, BitVec.add_comm, BitVec.add_sub_cancel]

theorem toInt_nat (a : ℕ) (h : a < 2147483648) : (BitVec.ofNat 32 a).toInt = a := by
  rw [BitVec.toInt_eq_toNat_of_lt] <;> rw [BitVec.toNat_ofNat, Nat.mod_eq_of_lt (by omega)]; omega

theorem sle_nat (a b : ℕ) (ha : a < 2147483648) (hb : b < 2147483648) :
    IntOp.cmpi .sle (BitVec.ofNat 32 a) (BitVec.ofNat 32 b) = BitVec.ofBool (decide (a ≤ b)) := by
  show BitVec.ofBool (BitVec.sle _ _) = _
  rw [BitVec.sle, toInt_nat a ha, toInt_nat b hb]; simp

theorem slt_nat (a b : ℕ) (ha : a < 2147483648) (hb : b < 2147483648) :
    IntOp.cmpi .slt (BitVec.ofNat 32 a) (BitVec.ofNat 32 b) = BitVec.ofBool (decide (a < b)) := by
  show BitVec.ofBool (BitVec.slt _ _) = _
  rw [BitVec.slt, toInt_nat a ha, toInt_nat b hb]; simp

theorem sge_nat (a b : ℕ) (ha : a < 2147483648) (hb : b < 2147483648) :
    IntOp.cmpi .sge (BitVec.ofNat 32 a) (BitVec.ofNat 32 b) = BitVec.ofBool (decide (b ≤ a)) := sle_nat b a hb ha

theorem sgt_nat (a b : ℕ) (ha : a < 2147483648) (hb : b < 2147483648) :
    IntOp.cmpi .sgt (BitVec.ofNat 32 a) (BitVec.ofNat 32 b) = BitVec.ofBool (decide (b < a)) := slt_nat b a hb ha

theorem eq_nat (a b : ℕ) (ha : a < 4294967296) (hb : b < 4294967296) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_eq]
  constructor
  · intro h
    have := congrArg BitVec.toNat h
    rw [BitVec.toNat_ofNat, BitVec.toNat_ofNat, Nat.mod_eq_of_lt (by omega), Nat.mod_eq_of_lt (by omega)] at this
    exact this
  · rintro rfl; rfl

theorem andi_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem ori_bool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem select_bool {α : Type} (p : Prop) [Decidable p] (x y : α) :
    Scalar.select (BitVec.ofBool (decide p)) x y = if p then x else y := by
  by_cases hp : p <;> simp [hp, Scalar.select]

theorem neg_inf : Ideal.ofBits .f32 0xFF800000#32 = ⊥ := by
  simp [Ideal.ofBits, Ideal.ieee, -EReal.coe_mul]

theorem one_f32 : Ideal.ofBits .f32 0x3F800000#32 = 1 := by
  simp [Ideal.ofBits, Ideal.ieee, -EReal.coe_mul]; norm_num

theorem pos_inf : Ideal.ofBits .f32 0x7F800000#32 = ⊤ := by
  simp [Ideal.ofBits, Ideal.ieee, -EReal.coe_mul]

end Cert.Word

end
-- ==== Proof.Cell.lean ====
/-
  The kernel's compressed branch, window branch and block scores read at an element, over the extended reals.
-/
module

public import proofs.«01_k».proof.Proof.Body
public import proofs.«01_k».proof.Proof.Spec
public import proofs.«01_k».proof.Proof.Word

@[expose] public section

set_option backward.proofsInPublic true

noncomputable section

namespace Cert.KernelIdeal.Body

open Cert.KernelIdeal Cert.KernelIdeal.Gen
open Idealize.ShloMosaic
open Cert.Soft Cert.Spec

theorem mask_bot : (Named.named κ "mask" 0xF149F2CA#32 : Ideal .f32) = ⊥ :=
  IdealRules.named_const.ideal_named_scalar _ _ _ _ rfl

theorem drop_bot : (Named.named κ "drop" 0xC7000000#32 : Ideal .f32) = ⊥ :=
  IdealRules.named_const.ideal_named_scalar _ _ _ _ rfl

/-- The query position of column `l` at grid point `i`. -/
def tq (i : grid0.Coords) (l : Fin 2048) : ℕ := (i 2).val * 512 + l.val % 512

theorem tq_lt (i : grid0.Coords) (l : Fin 2048) : tq i l < 4096 := by
  have : (i 2).val < 8 := (i 2).isLt
  have : l.val % 512 < 512 := Nat.mod_lt _ (by decide)
  unfold tq; omega

/-- A head's column of a four-head row. -/
def lane (x : ℕ) : Fin 512 := ⟨x % 512, Nat.mod_lt _ (by decide)⟩

theorem cat4_256 (x : FVec Ideal S256x512 .f32) (j : S256x2048.Idx) :
    concatenate S256x2048 1 [⟨S256x512, x⟩, ⟨S256x512, x⟩, ⟨S256x512, x⟩, ⟨S256x512, x⟩] concatenates_S256x512_S256x512_S256x512_S256x512_S256x2048_d1 j
      = x (ix2 (j 0) (lane (j 1).val)) := by
  have hl : (j 1).val < 2048 := (j 1).isLt
  pointwise [lane]
  split_ifs <;> blk_ext

theorem cat4_1 (x : FVec Ideal S1x512 .f32) (j : S1x2048.Idx) :
    concatenate S1x2048 1 [⟨S1x512, x⟩, ⟨S1x512, x⟩, ⟨S1x512, x⟩, ⟨S1x512, x⟩] concatenates_S1x512_S1x512_S1x512_S1x512_S1x2048_d1 j
      = x (ix2 (j 0) (lane (j 1).val)) := by
  have hl : (j 1).val < 2048 := (j 1).isLt
  pointwise [lane]
  split_ifs <;> blk_ext

theorem cat4_1024 (x : FVec Ideal S1024x512 .f32) (j : S1024x2048.Idx) :
    concatenate S1024x2048 1 [⟨S1024x512, x⟩, ⟨S1024x512, x⟩, ⟨S1024x512, x⟩, ⟨S1024x512, x⟩] concatenates_S1024x512_S1024x512_S1024x512_S1024x512_S1024x2048_d1 j
      = x (ix2 (j 0) (lane (j 1).val)) := by
  have hl : (j 1).val < 2048 := (j 1).isLt
  pointwise [lane]
  split_ifs <;> blk_ext

/-- The query bits of the compressed mask, at an element. -/
theorem ok_apply (i : grid0.Coords) (n : Fin 256) (c : Fin 512) :
    k0_pay12 i (ix2 n c) = BitVec.ofBool (decide (16 * n.val + 31 ≤ (i 2).val * 512 + c.val ∧ n.val < 255)) := by
  have hi : (i 2).val < 8 := (i 2).isLt
  have hn := n.isLt
  have hc := c.isLt
  pointwise [k0_pay12, k0_pay11]
  rw [Word.muli_nat, Word.addi_nat, Word.scalar_muli_nat, Word.addi_nat, Word.sle_nat _ _ (by omega) (by omega),
    Word.slt_nat _ _ (by omega) (by omega), Word.andi_bool, Nat.mul_comm n.val 16]

theorem late_apply (i : grid0.Coords) (c : Fin 512) :
    cmpi .sge (k0_pay11 i) (broadcast S1x512 31#32) (ix2 0 c) = BitVec.ofBool (decide (31 ≤ (i 2).val * 512 + c.val)) := by
  have hi : (i 2).val < 8 := (i 2).isLt
  have hc := c.isLt
  pointwise [k0_pay11]
  rw [Word.scalar_muli_nat, Word.addi_nat, Word.sge_nat _ _ (by omega) (by omega)]

/-- The masked scores of the compressed branch. -/
def cmpScore (i : grid0.Coords) (v27 : FVec Ideal S256x2048 .f32) (l : Fin 2048) : ℕ → EReal :=
  cs (tq i l) fun n => v27 (ix2 n l)

theorem add_mask (p : Prop) [Decidable p] (x : EReal) : (x + if p then 0 else ⊥) = if p then x else ⊥ := by
  split
  · rw [add_zero]
  · rw [EReal.add_bot]

/-- The weights of the compressed branch from its masked scores `s` and the row `w` that switches early queries off. -/
def cmpCore (s : FVec Ideal S256x2048 .f32) (w : FVec Ideal S1x2048 .f32) : FVec Ideal S256x2048 .f32 :=
  let e : FVec Ideal S256x2048 .f32 := exp2 (subf s (broadcastTo S256x2048 (shapeCast S1x2048 (multiReduction .maximumf [0] S2048 s 0xFF800000#32
    reduces_S256x2048_S2048 (.inl rfl) rfl) shapeCasts_S2048_S1x2048) broadcasts_S1x2048_S256x2048))
  mulf e (broadcastTo S256x2048 (divf w (maximumf (shapeCast S1x2048 (multiReduction .add [0] S2048 e 0x00000000#32
    reduces_S256x2048_S2048 (.inl rfl) rfl) shapeCasts_S2048_S1x2048) (broadcast S1x2048 (Scalar.ofBits .f32 0x0DA24260#32))))
    broadcasts_S1x2048_S256x2048)

theorem cmpCore_apply (s : FVec Ideal S256x2048 .f32) (w : FVec Ideal S1x2048 .f32) (n : Fin 256) (l : Fin 2048) :
    cmpCore s w (ix2 n l) = Ideal.exp2 (s (ix2 n l) - Finset.univ.sup fun x => s (ix2 x l))
      * Ideal.div (w (ix2 0 l)) (max (∑ x, Ideal.exp2 (s (ix2 x l) - Finset.univ.sup fun x => s (ix2 x l))) eps) := by
  pointwise [cmpCore]
  rw [Word.neg_inf]
  rfl

/-- The weights of a row from the row's scores, whatever natural-number spelling the scores have. -/
theorem cw_eq (t : ℕ) (s : ℕ → EReal) (f : Fin 256 → EReal) (h : ∀ n, f n = s n.val) (n : Fin 256) (w : EReal) (hw : w = if 31 ≤ t then 1 else 0) :
    Ideal.exp2 (f n - Finset.univ.sup f) * Ideal.div w (max (∑ x, Ideal.exp2 (f x - Finset.univ.sup f)) eps) = cw t s n.val := by
  obtain rfl : f = fun n : Fin 256 => s n.val := funext h
  rw [sup_fin s 256, hw, cw, den, ← Fin.sum_univ_eq_sum_range (fun k => wt (top s 256) (s k)) 256]
  rfl

theorem cmpCore_cw (s : FVec Ideal S256x2048 .f32) (w : FVec Ideal S1x2048 .f32) (t : ℕ) (f : ℕ → EReal) (l : Fin 2048)
    (h : ∀ n : Fin 256, s (ix2 n l) = f n.val) (hw : w (ix2 0 l) = if 31 ≤ t then 1 else 0) (n : Fin 256) :
    cmpCore s w (ix2 n l) = cw t f n.val := by
  rw [cmpCore_apply]
  exact cw_eq t f (fun n => s (ix2 n l)) h n _ hw

theorem p16_eq (v12 : IVec S1x512 32) (v24 : IVec S256x512 1) (v27 : FVec Ideal S256x2048 .f32) (v28 v29 : FVec Ideal S256x512 .f32) :
    k0_pay16 v12 v24 v27 v28 v29 = cmpCore
      (addf v27 (concatenate S256x2048 1 [⟨S256x512, select v24 v28 v29⟩, ⟨S256x512, select v24 v28 v29⟩, ⟨S256x512, select v24 v28 v29⟩, ⟨S256x512, select v24 v28 v29⟩] concatenates_S256x512_S256x512_S256x512_S256x512_S256x2048_d1))
      (let w : FVec Ideal S1x512 .f32 := select (cmpi .sge v12 (broadcast S1x512 31#32)) (broadcast S1x512 (Scalar.ofBits .f32 0x3F800000#32)) (broadcast S1x512 (Scalar.ofBits .f32 0x00000000#32))
       concatenate S1x2048 1 [⟨S1x512, w⟩, ⟨S1x512, w⟩, ⟨S1x512, w⟩, ⟨S1x512, w⟩] concatenates_S1x512_S1x512_S1x512_S1x512_S1x2048_d1) := rfl

theorem p16_apply (i : grid0.Coords) (v27 : FVec Ideal S256x2048 .f32) (n : Fin 256) (l : Fin 2048) :
    k0_pay16 (k0_pay11 i) (k0_pay12 i) v27 k0_pay14 k0_pay15 (ix2 n l) = cw (tq i l) (cmpScore i v27 l) n.val := by
  rw [p16_eq]
  refine cmpCore_cw _ _ (tq i l) _ l (fun n => ?_) ?_ n
  · show v27 (ix2 n l) + _ = _
    rw [cat4_256]
    show v27 (ix2 n l) + Scalar.select (k0_pay12 i (ix2 n (lane l.val))) (Ideal.ofBits .f32 0x00000000#32) (Named.named κ "mask" 0xF149F2CA#32) = _
    rw [ok_apply, Word.select_bool, mask_bot, Ideal.ofBits_zero_f32, add_mask, cmpScore, cs, fk_val]
    rfl
  · rw [cat4_1]
    show Scalar.select (cmpi .sge (k0_pay11 i) (broadcast S1x512 31#32) (ix2 0 (lane l.val))) (Ideal.ofBits .f32 0x3F800000#32) (Ideal.ofBits .f32 0x00000000#32) = _
    rw [late_apply, Word.select_bool, Ideal.ofBits_zero_f32, Word.one_f32]
    rfl

theorem p17_apply (v12 v24 v27 v28 v29) (v51 : FVec Ideal S1x1x128x256 .bf16) (d : Fin 128) (l : Fin 2048) :
    k0_pay17 (F := Ideal) v12 v24 v27 v28 v29 v51 (ix2 d l) = ∑ n : Fin 256, v51 (ix4 0 0 d n) * k0_pay16 (F := Ideal) v12 v24 v27 v28 v29 (ix2 n l) := by
  pointwise [k0_pay17]

theorem p20_apply (s m : FVec Ideal S1024x2048 .f32) (v : FVec Ideal S1x1x128x1024 .bf16) (d : Fin 128) (l : Fin 2048) :
    k0_pay20 s m v (ix2 d l) = (∑ x, v (ix4 0 0 d x) * Ideal.exp2 (s (ix2 x l) - m (ix2 x l)))
      * Ideal.div 1 (∑ x, Ideal.exp2 (s (ix2 x l) - m (ix2 x l))) := by
  pointwise [k0_pay20]
  rfl

theorem p18_apply (v9 : FVec Ideal S128x2048 .bf16) (k : FVec Ideal S1x1x1024x128 .bf16) (b : FVec Ideal S1x1024x512 .f32) (x : Fin 1024) (l : Fin 2048) :
    k0_pay18 (F := Ideal) v9 k b (ix2 x l) = dot (fun d => k (ix4 0 0 x d)) (fun d => v9 (ix2 d l)) + b (ix3 0 x (lane l.val)) := by
  have e : k0_pay18 (F := Ideal) v9 k b = addf (matmul dot_S1024x128_S128x2048_S1024x2048_1_0_0_1_n_n none (shapeCast S1024x128 k shapeCasts_S1x1x1024x128_S1024x128) v9 (constant S1024x2048 .f32 0x00000000#32))
      (concatenate S1024x2048 1 [⟨S1024x512, shapeCast S1024x512 b shapeCasts_S1x1024x512_S1024x512⟩, ⟨S1024x512, shapeCast S1024x512 b shapeCasts_S1x1024x512_S1024x512⟩, ⟨S1024x512, shapeCast S1024x512 b shapeCasts_S1x1024x512_S1024x512⟩, ⟨S1024x512, shapeCast S1024x512 b shapeCasts_S1x1024x512_S1024x512⟩] concatenates_S1024x512_S1024x512_S1024x512_S1024x512_S1024x2048_d1) := rfl
  rw [e]
  refine congrArg₂ (· + ·) ?_ ?_
  · pointwise [dot]
  · rw [cat4_1024]
    pointwise

theorem p19_apply (v9 : FVec Ideal S128x2048 .bf16) (k : FVec Ideal S1x1x1024x128 .bf16) (b : FVec Ideal S1x1024x512 .f32) (x : Fin 1024) (l : Fin 2048) :
    k0_pay19 (F := Ideal) v9 k b (ix2 x l) = Finset.univ.sup fun x => k0_pay18 (F := Ideal) v9 k b (ix2 x l) := by
  pointwise [k0_pay19]
  rw [Word.neg_inf]
  rfl

/-- The normalised weighted sum over a stretch of scores, read from any row of scores and values. -/
theorem soft_fin {n : ℕ} (f g : Fin n → EReal) (s v : ℕ → EReal) (hf : ∀ x, f x = s x.val) (hg : ∀ x, g x = v x.val) :
    (∑ x, g x * Ideal.exp2 (f x - Finset.univ.sup f)) * Ideal.div 1 (∑ x, Ideal.exp2 (f x - Finset.univ.sup f)) = soft s v n := by
  obtain rfl : f = fun x : Fin n => s x.val := funext hf
  obtain rfl : g = fun x : Fin n => v x.val := funext hg
  rw [sup_fin s n, soft, acc, den, ← Fin.sum_univ_eq_sum_range (fun k => v k * wt (top s n) (s k)) n,
    ← Fin.sum_univ_eq_sum_range (fun k => wt (top s n) (s k)) n]
  rfl

/-- The window branch at an element. -/
theorem win_apply (v9 : FVec Ideal S128x2048 .bf16) (k : FVec Ideal S1x1x1024x128 .bf16) (b : FVec Ideal S1x1024x512 .f32)
    (v : FVec Ideal S1x1x128x1024 .bf16) (d : Fin 128) (l : Fin 2048) (s u : ℕ → EReal)
    (hs : ∀ x : Fin 1024, dot (fun d => k (ix4 0 0 x d)) (fun d => v9 (ix2 d l)) + b (ix3 0 x (lane l.val)) = s x.val)
    (hv : ∀ x : Fin 1024, v (ix4 0 0 d x) = u x.val) :
    k0_pay20 (F := Ideal) (k0_pay18 v9 k b) (k0_pay19 v9 k b) v (ix2 d l) = soft s u 1024 := by
  rw [p20_apply, ← soft_fin (fun x => k0_pay18 (F := Ideal) v9 k b (ix2 x l)) (fun x => v (ix4 0 0 d x)) s u
    (fun x => (p18_apply v9 k b x l).trans (hs x)) hv]
  simp only [p19_apply]

theorem hits_word : ∀ (b : Fin 64) (n : Fin 256),
    IntOp.andi (IntOp.cmpi .sge (BitVec.ofNat 32 n.val) (IntOp.subi (IntOp.muli 4#32 (BitVec.ofNat 32 b.val)) 1#32))
      (IntOp.cmpi .slt (BitVec.ofNat 32 n.val) (IntOp.muli 4#32 (IntOp.addi (BitVec.ofNat 32 b.val) 1#32)))
      = BitVec.ofBool (decide (4 * b.val ≤ n.val + 1 ∧ n.val < 4 * (b.val + 1))) := by decide +kernel

theorem hits_apply (b : Fin 64) (n : Fin 256) : k0_pay22 (F := Ideal) (ix2 b n) = hit b.val n.val := by
  pointwise [k0_pay22]
  rw [hits_word, Word.select_bool]
  rfl

/-- The four heads' columns of position `c`. -/
def col (r : Fin 4) (c : Fin 512) : Fin 2048 := ⟨512 * r.val + c.val, by omega⟩

theorem p21_apply (v : FVec Ideal S256x2048 .f32) (n : Fin 256) (c : Fin 512) :
    k0_pay21 v (ix2 n c) = v (ix2 n (col 0 c)) + v (ix2 n (col 1 c)) + v (ix2 n (col 2 c)) + v (ix2 n (col 3 c)) := by
  pointwise [k0_pay21, col]

theorem forced_word : ∀ (b u : Fin 64),
    IntOp.ori (IntOp.ori (IntOp.cmpi .eq (BitVec.ofNat 32 b.val) 0#32) (IntOp.cmpi .eq (BitVec.ofNat 32 b.val) (BitVec.ofNat 32 u.val)))
      (IntOp.cmpi .eq (BitVec.ofNat 32 b.val) (IntOp.subi (BitVec.ofNat 32 u.val) 1#32))
      = BitVec.ofBool (decide (b.val = 0 ∨ b.val = u.val ∨ b.val + 1 = u.val)) := by decide +kernel

theorem block_word : ∀ t : Fin 4096, IntOp.shrsi .vector (BitVec.ofNat 32 t.val) 6#32 = BitVec.ofNat 32 (t.val / 64) := by decide +kernel

/-- The score of a block, from the four heads' weights. -/
theorem p25_apply (i : grid0.Coords) (v : FVec Ideal S256x2048 .f32) (p : Fin 4 → ℕ → EReal) (c : Fin 512)
    (hv : ∀ (n : Fin 256) (r : Fin 4), v (ix2 n (col r c)) = p r n.val) (hp : ∀ r n, ∃ x : ℝ, p r n = (x : EReal)) (b : Fin 64) :
    k0_pay25 (F := Ideal) (k0_pay11 i) (iota .tc S64x1 32 [0] iota_S64x1_d0_w32) k0_pay22 (k0_pay23 v) (k0_pay24 v) (constant S64x512 .f32 0x00000000#32) (ix2 b c)
      = score ((i 2).val * 512 + c.val) p b := by
  have hi : (i 2).val < 8 := (i 2).isLt
  have hc := c.isLt
  have hb := b.isLt
  have h21 : ∀ n : Fin 256, k0_pay21 v (ix2 n c) = p 0 n.val + p 1 n.val + p 2 n.val + p 3 n.val := fun n => by
    rw [p21_apply, hv, hv, hv, hv]
  have h0 : ∀ n : Fin 256, hit b.val n.val * (p 0 n.val + p 1 n.val + p 2 n.val + p 3 n.val - (p 0 n.val + p 1 n.val + p 2 n.val + p 3 n.val)) = 0 := fun n => by
    obtain ⟨x0, e0⟩ := hp 0 n.val
    obtain ⟨x1, e1⟩ := hp 1 n.val
    obtain ⟨x2, e2⟩ := hp 2 n.val
    obtain ⟨x3, e3⟩ := hp 3 n.val
    rw [e0, e1, e2, e3, ← EReal.coe_add, ← EReal.coe_add, ← EReal.coe_add, ← EReal.coe_sub, sub_self, EReal.coe_zero, mul_zero]
  pointwise [k0_pay25, k0_pay24, k0_pay23, k0_pay11]
  rw [Word.scalar_muli_nat, Word.addi_nat, block_word ⟨(i 2).val * 512 + c.val, by omega⟩,
    forced_word b ⟨((i 2).val * 512 + c.val) / 64, by omega⟩, Word.select_bool, Word.muli_nat,
    Word.sle_nat _ _ (by omega) (by omega), Word.select_bool, Word.neg_inf, score]
  simp only [h21, hits_apply, h0, Finset.sum_const_zero, add_zero]
  rfl

end Cert.KernelIdeal.Body

end
-- ==== Proof.Tile.lean ====
/-
  One tile of the selected branch's keys: the running maximum and sums, and the last tile's division.
-/
module

public import proofs.«01_k».proof.Proof.Cell

@[expose] public section

set_option backward.proofsInPublic true

noncomputable section

namespace Cert.KernelIdeal.Body

open Cert.KernelIdeal Cert.KernelIdeal.Gen
open Idealize.ShloMosaic
open Cert.Soft Cert.Spec

/-- The rows of a value tile with the row of ones under it. -/
def uv (v : Fin 128 → ℕ → EReal) (d : Fin 144) (n : ℕ) : EReal := if h : d.val < 128 then v ⟨d.val, h⟩ n else 1

/-- The running maximum and the running sums after the first `n` keys. -/
structure At (s : Fin 2048 → ℕ → EReal) (v : Fin 128 → ℕ → EReal) (n : ℕ) (m : FVec Ideal S1x2048 .f32) (a : FVec Ideal S144x2048 .f32) : Prop where
  hm : ∀ l : Fin 2048, m (ix2 0 l) = top (s l) n
  ha : ∀ (d : Fin 144) (l : Fin 2048), a (ix2 d l) = acc (s l) (uv v d) n

/-- Before any key. -/
theorem at_zero (s : Fin 2048 → ℕ → EReal) (v : Fin 128 → ℕ → EReal) : At s v 0 (k0_pay732 (F := Ideal)) (k0_pay733 (F := Ideal)) where
  hm l := mask_bot
  ha d l := by
    have : k0_pay733 (F := Ideal) (ix2 d l) = Ideal.ofBits .f32 0x00000000#32 := rfl
    rw [this, Ideal.ofBits_zero_f32]; simp [acc]

theorem pay741_apply (qa : FVec Ideal S256x2048 .bf16) (K : FVec Ideal S1x1x512x128 .bf16) (E : FVec Ideal S512x128 .bf16) (m : FVec Ideal S1x2048 .f32) (l : Fin 2048) :
    k0_pay741 (F := Ideal) qa m K E (ix2 0 l) = max (m (ix2 0 l)) (Finset.univ.sup fun x : Fin 512 => k0_pay740 (F := Ideal) qa K E (ix2 x l)) := by
  pointwise [k0_pay741]
  rw [Word.neg_inf]; rfl

theorem pay742_apply (qa : FVec Ideal S256x2048 .bf16) (K : FVec Ideal S1x1x512x128 .bf16) (E : FVec Ideal S512x128 .bf16) (m : FVec Ideal S1x2048 .f32) (a : FVec Ideal S144x2048 .f32)
    (V : FVec Ideal S1x1x128x512 .bf16) (d : Fin 144) (l : Fin 2048) :
    k0_pay742 (F := Ideal) qa m a K E V (ix2 d l) = Ideal.exp2 (m (ix2 0 l) - k0_pay741 (F := Ideal) qa m K E (ix2 0 l)) * a (ix2 d l)
      + ∑ x : Fin 512, (if h : d.val < 128 then V (ix4 0 0 ⟨d.val, h⟩ x) else 1) * Ideal.exp2 (k0_pay740 (F := Ideal) qa K E (ix2 x l) - k0_pay741 (F := Ideal) qa m K E (ix2 0 l)) := by
  pointwise [k0_pay742]
  rfl

/-- One tile of 512 keys. -/
theorem at_step {s : Fin 2048 → ℕ → EReal} {v : Fin 128 → ℕ → EReal} (hs : ∀ l k, s l k ≠ ⊤) {n : ℕ} {m : FVec Ideal S1x2048 .f32} {a : FVec Ideal S144x2048 .f32}
    (h : At s v n m a) (qa : FVec Ideal S256x2048 .bf16) (K : FVec Ideal S1x1x512x128 .bf16) (E : FVec Ideal S512x128 .bf16) (V : FVec Ideal S1x1x128x512 .bf16)
    (hK : ∀ (x : Fin 512) (l : Fin 2048), k0_pay740 (F := Ideal) qa K E (ix2 x l) = s l (n + x.val))
    (hV : ∀ (d : Fin 128) (x : Fin 512), V (ix4 0 0 d x) = v d (n + x.val)) :
    At s v (n + 512) (k0_pay741 (F := Ideal) qa m K E) (k0_pay742 (F := Ideal) qa m a K E V) := by
  have hm : ∀ l : Fin 2048, k0_pay741 (F := Ideal) qa m K E (ix2 0 l) = top (s l) (n + 512) := fun l => by
    rw [pay741_apply, h.hm, top_add]
    simp only [hK]
  refine ⟨hm, fun d l => ?_⟩
  rw [pay742_apply, h.hm, h.ha, hm, ← acc_add (s l) (uv v d) (hs l) n 512]
  simp only [hK, hV, uv, wt]

/-- The last tile's scores: the tile's, under the causal mask. -/
def lastTile (qa : FVec Ideal S256x2048 .bf16) (K : FVec Ideal S1x1x512x128 .bf16) (E : FVec Ideal S512x128 .bf16) (w : FVec Ideal S512x512 .f32) : FVec Ideal S512x2048 .f32 :=
  addf (k0_pay743 (F := Ideal) qa K E) (concatenate S512x2048 1 [⟨S512x512, w⟩, ⟨S512x512, w⟩, ⟨S512x512, w⟩, ⟨S512x512, w⟩] concatenates_S512x512_S512x512_S512x512_S512x512_S512x2048_d1)

/-- The maximum after the last tile. -/
def lastMax (m : FVec Ideal S1x2048 .f32) (s : FVec Ideal S512x2048 .f32) : FVec Ideal S1x2048 .f32 :=
  maximumf m (shapeCast S1x2048 (multiReduction .maximumf [0] S2048 s 0xFF800000#32 reduces_S512x2048_S2048 (.inl rfl) rfl) shapeCasts_S2048_S1x2048)

/-- The sums after the last tile. -/
def lastAcc (m : FVec Ideal S1x2048 .f32) (a : FVec Ideal S144x2048 .f32) (s : FVec Ideal S512x2048 .f32) (V : FVec Ideal S1x1x128x512 .bf16) : FVec Ideal S144x2048 .f32 :=
  have v3587 : FVec Ideal S128x512 .bf16 := shapeCast S128x512 V shapeCasts_S1x1x128x512_S128x512
  have cst_1322 : Ideal .bf16 := Scalar.ofBits .bf16 0x3F80#16
  have v3588 : FVec Ideal S16x512 .bf16 := broadcast S16x512 cst_1322
  have v3589 : FVec Ideal S144x512 .bf16 := concatenate S144x512 0 [⟨S128x512, v3587⟩, ⟨S16x512, v3588⟩] concatenates_S128x512_S16x512_S144x512_d0
  addf (mulf (broadcastTo S144x2048 (exp2 (subf m (lastMax m s))) broadcasts_S1x2048_S144x2048) a)
    (matmul dot_S144x512_S512x2048_S144x2048_1_0_0_1_n_n none v3589 (truncf .bf16 (exp2 (subf s (broadcastTo S512x2048 (lastMax m s) broadcasts_S1x2048_S512x2048))) bitsLt_bf16_f32) (constant S144x2048 .f32 0x00000000#32))

/-- The selected branch's output from its sums. -/
def lastOut (a : FVec Ideal S144x2048 .f32) : FVec Ideal S128x2048 .f32 :=
  mulf (extractStridedSlice S128x2048 ![0, 0] a slices_S144x2048_o0_0_S128x2048)
    (broadcastTo S128x2048 (divf (broadcast S1x2048 (Scalar.ofBits .f32 0x3F800000#32 : Ideal .f32)) (extractStridedSlice S1x2048 ![128, 0] a slices_S144x2048_o128_0_S1x2048)) broadcasts_S1x2048_S128x2048)

theorem p745_eq (qa : FVec Ideal S256x2048 .bf16) (K : FVec Ideal S1x1x512x128 .bf16) (E : FVec Ideal S512x128 .bf16) (w : FVec Ideal S512x512 .f32)
    (m : FVec Ideal S1x2048 .f32) (a : FVec Ideal S144x2048 .f32) (V : FVec Ideal S1x1x128x512 .bf16) :
    k0_pay745 (F := Ideal) m a (k0_pay743 (F := Ideal) qa K E) w V = lastOut (lastAcc m a (lastTile qa K E w) V) := rfl

theorem lastMax_apply (m : FVec Ideal S1x2048 .f32) (s : FVec Ideal S512x2048 .f32) (l : Fin 2048) :
    lastMax m s (ix2 0 l) = max (m (ix2 0 l)) (Finset.univ.sup fun x : Fin 512 => s (ix2 x l)) := by
  pointwise [lastMax]
  rw [Word.neg_inf]; rfl

theorem lastAcc_apply (m : FVec Ideal S1x2048 .f32) (a : FVec Ideal S144x2048 .f32) (s : FVec Ideal S512x2048 .f32) (V : FVec Ideal S1x1x128x512 .bf16) (d : Fin 144) (l : Fin 2048) :
    lastAcc m a s V (ix2 d l) = Ideal.exp2 (m (ix2 0 l) - lastMax m s (ix2 0 l)) * a (ix2 d l)
      + ∑ x : Fin 512, (if h : d.val < 128 then V (ix4 0 0 ⟨d.val, h⟩ x) else 1) * Ideal.exp2 (s (ix2 x l) - lastMax m s (ix2 0 l)) := by
  pointwise [lastAcc]
  rfl

theorem lastOut_apply (a : FVec Ideal S144x2048 .f32) (d : Fin 128) (l : Fin 2048) :
    lastOut a (ix2 d l) = a (ix2 ⟨d.val, by omega⟩ l) * Ideal.div 1 (a (ix2 128 l)) := by
  pointwise [lastOut]

/-- The last tile and the division: the whole softmax. -/
theorem last_step {s : Fin 2048 → ℕ → EReal} {v : Fin 128 → ℕ → EReal} (hs : ∀ l k, s l k ≠ ⊤) {n : ℕ} {m : FVec Ideal S1x2048 .f32} {a : FVec Ideal S144x2048 .f32}
    (h : At s v n m a) (qa : FVec Ideal S256x2048 .bf16) (K : FVec Ideal S1x1x512x128 .bf16) (E : FVec Ideal S512x128 .bf16) (V : FVec Ideal S1x1x128x512 .bf16) (w : FVec Ideal S512x512 .f32)
    (hK : ∀ (x : Fin 512) (l : Fin 2048), lastTile qa K E w (ix2 x l) = s l (n + x.val))
    (hV : ∀ (d : Fin 128) (x : Fin 512), V (ix4 0 0 d x) = v d (n + x.val)) (d : Fin 128) (l : Fin 2048) :
    k0_pay745 (F := Ideal) m a (k0_pay743 (F := Ideal) qa K E) w V (ix2 d l) = soft (s l) (v d) (n + 512) := by
  have hm : lastMax m (lastTile qa K E w) (ix2 0 l) = top (s l) (n + 512) := by
    rw [lastMax_apply, h.hm, top_add]
    simp only [hK]
  have ha : ∀ e : Fin 144, lastAcc m a (lastTile qa K E w) V (ix2 e l) = acc (s l) (uv v e) (n + 512) := fun e => by
    rw [lastAcc_apply, h.hm, h.ha, hm, ← acc_add (s l) (uv v e) (hs l) n 512]
    simp only [hK, hV, uv, wt]
  rw [p745_eq, lastOut_apply, ha, ha, soft, ← acc_one]
  congr 2
  funext k; simp [uv]

end Cert.KernelIdeal.Body

end
-- ==== Proof.Scores.lean ====
/-
  The scores of a tile of keys against the queries with their bias rows, the last tile's mask, and where the tiles sit.
-/
module

public import proofs.«01_k».proof.Proof.Cell

@[expose] public section

set_option backward.proofsInPublic true

noncomputable section

namespace Cert.KernelIdeal.Body

open Cert.KernelIdeal Cert.KernelIdeal.Gen
open Idealize.ShloMosaic
open Cert.Soft Cert.Spec

theorem cat4_512 (x : FVec Ideal S512x512 .f32) (j : S512x2048.Idx) :
    concatenate S512x2048 1 [⟨S512x512, x⟩, ⟨S512x512, x⟩, ⟨S512x512, x⟩, ⟨S512x512, x⟩] concatenates_S512x512_S512x512_S512x512_S512x512_S512x2048_d1 j
      = x (ix2 (j 0) (lane (j 1).val)) := by
  have hl : (j 1).val < 2048 := (j 1).isLt
  pointwise [lane]
  split_ifs <;> blk_ext

theorem cat4_128 (x : FVec Ideal S128x512 .bf16) (j : S128x2048.Idx) :
    concatenate S128x2048 1 [⟨S128x512, x⟩, ⟨S128x512, x⟩, ⟨S128x512, x⟩, ⟨S128x512, x⟩] concatenates_S128x512_S128x512_S128x512_S128x512_S128x2048_d1 j
      = x (ix2 (j 0) (lane (j 1).val)) := by
  have hl : (j 1).val < 2048 := (j 1).isLt
  pointwise [lane]
  split_ifs <;> blk_ext

theorem lastv : ∀ i : grid0.Coords, run.sl.v3520 i = BitVec.ofNat 32 (i 2).val := by decide +kernel

/-- The mask of the last tile at an element: key `512 last + x` is at or before the query. -/
theorem p744_apply (i : grid0.Coords) (x l : Fin 512) :
    k0_pay744 (F := Ideal) (k0_pay11 i) (run.sl.v3520 i) (ix2 x l) = if x.val ≤ l.val then 0 else ⊥ := by
  pointwise [k0_pay744, k0_pay11]
  have hi : (i 2).val < 8 := (i 2).isLt
  rw [lastv, Word.scalar_muli_nat, Word.addi_nat, Word.addi_nat]
  rw [Word.sle_nat _ _ (by omega) (by omega), Word.select_bool, mask_bot]
  congr 1
  simp

/-- The queries with the bias rows under them, at an element. -/
theorem p731_lo (q : FVec Ideal S128x2048 .bf16) (b : FVec Ideal S128x512 .bf16) (d : Fin 128) (h) (l : Fin 2048) :
    k0_pay731 (F := Ideal) q b (ix2 ⟨d.val, h⟩ l) = q (ix2 d l) := by
  pointwise [k0_pay731]

theorem p731_hi (q : FVec Ideal S128x2048 .bf16) (b : FVec Ideal S128x512 .bf16) (d : Fin 128) (h) (l : Fin 2048) :
    k0_pay731 (F := Ideal) q b (ix2 ⟨128 + d.val, h⟩ l) = b (ix2 d (lane l.val)) := by
  have hl := l.isLt
  pointwise [k0_pay731, lane]
  split_ifs <;> blk_ext

theorem p740_apply (q : FVec Ideal S128x2048 .bf16) (b : FVec Ideal S128x512 .bf16) (K : FVec Ideal S1x1x512x128 .bf16) (E : FVec Ideal S512x128 .bf16) (x : Fin 512) (l : Fin 2048) :
    k0_pay740 (F := Ideal) (k0_pay731 q b) K E (ix2 x l) = ∑ d : Fin 128, K (ix4 0 0 x d) * q (ix2 d l) + ∑ e : Fin 128, E (ix2 x e) * b (ix2 e (lane l.val)) := by
  pointwise [k0_pay740]
  simp only [p731_lo, p731_hi]

theorem p743_eq (qa : FVec Ideal S256x2048 .bf16) (K : FVec Ideal S1x1x512x128 .bf16) (E : FVec Ideal S512x128 .bf16) :
    k0_pay743 (F := Ideal) qa K E = k0_pay740 (F := Ideal) qa K E := rfl

/-- A one-hot row picks its block's bias. -/
theorem onehot (E b : Fin 128 → EReal) (e : Fin 128) (h : ∀ j, E j = if j = e then 1 else 0) : ∑ j, E j * b j = b e := by
  rw [Finset.sum_eq_single e]
  · rw [h, if_pos rfl, one_mul]
  · intro j _ hj; rw [h, if_neg hj, zero_mul]
  · intro h; exact absurd (Finset.mem_univ _) h

theorem off18 : ∀ i : grid0.Coords, k0_off18 i = ![0, 0, 512 * (i 2).val, 0] ∧ k0_off19 i = ![512 * (i 2).val, 0] ∧ k0_off20 i = ![0, 0, 0, 512 * (i 2).val] := by decide +kernel

theorem off15 : ∀ i : grid0.Coords, k0_cond1 i = 1#1 → (i 2).val % 2 = 1 ∧ k0_off15 i = ![0, 0, 512 * ((i 2).val - 1), 0] ∧ k0_off16 i = ![512 * ((i 2).val - 1), 0] ∧ k0_off17 i = ![0, 0, 0, 512 * ((i 2).val - 1)] := by decide +kernel

theorem even : ∀ i : grid0.Coords, ¬ k0_cond1 i = 1#1 → (i 2).val % 2 = 0 := by decide +kernel

theorem trips : ∀ i : grid0.Coords, (k0_t1_loop i).trips = (i 2).val / 2 ∧ (k0_t2_loop i).trips = 0 := by decide +kernel

theorem off3 : ∀ i : grid0.Coords, ∀ k : Fin (k0_t1_loop i).trips, k0_off3 i k = ![0, 0, 1024 * k.val, 0] ∧ k0_off4 i k = ![1024 * k.val, 0] ∧ k0_off5 i k = ![0, 0, 0, 1024 * k.val] := by decide +kernel

theorem off6 : ∀ i : grid0.Coords, ∀ k : Fin (k0_t1_loop i).trips, k0_off6 i k = ![0, 0, 1024 * k.val + 512, 0] ∧ k0_off7 i k = ![1024 * k.val + 512, 0] ∧ k0_off8 i k = ![0, 0, 0, 1024 * k.val + 512] := by decide +kernel

end Cert.KernelIdeal.Body

end
-- ==== Proof.Flash.lean ====
/-
  The selected branch: the loop over pairs of full tiles, the conditional single tile and the masked last tile together are
  the softmax over all keys.
-/
module

public import proofs.«01_k».proof.Proof.Tile
public import proofs.«01_k».proof.Proof.Scores

@[expose] public section

set_option backward.proofsInPublic true
set_option maxRecDepth 65536
set_option maxHeartbeats 4000000

noncomputable section

namespace Cert.KernelIdeal.Body

open Cert.KernelIdeal Cert.KernelIdeal.Gen
open Idealize.ShloMosaic
open Cert.Soft Cert.Spec

variable (c : Dev nD) (i : grid0.Coords) (M3 : Memref sig .tc .vmem S4x1x128x512 .bf16) (h3 : M3.IsWhole) (M4 : Memref sig .tc .vmem S1x1x256x128 .bf16) (h4 : M4.IsWhole) (M5 : Memref sig .tc .vmem S1x1x128x256 .bf16) (h5 : M5.IsWhole) (M6 : Memref sig .tc .vmem S1x1x4096x128 .bf16) (h6 : M6.IsWhole) (M7 : Memref sig .tc .vmem S1x1x128x4096 .bf16) (h7 : M7.IsWhole)
  (M8 : Memref sig .tc .vmem S1x1x4096x128 .bf16) (h8 : M8.IsWhole) (M9 : Memref sig .tc .vmem S1x1x128x4096 .bf16) (h9 : M9.IsWhole) (M10 : Memref sig .tc .vmem S4096x128 .bf16) (h10 : M10.IsWhole) (M11 : Memref sig .tc .vmem S1x1024x512 .f32) (h11 : M11.IsWhole) (M12 : Memref sig .tc .vmem S512x128 .f32) (h12 : M12.IsWhole) (M13 : Memref sig .tc .vmem S512x512 .f32) (h13 : M13.IsWhole) (M14 : Memref sig .tc .vmem S128x512 .f32) (h14 : M14.IsWhole)

/-- Five hundred and twelve keys read from row `off` on. -/
abbrev ldK (f6 : Bf (F := Ideal) c M6) (off : Fin 4 → ℕ) (h : ∀ a, off a + S1x1x512x128.size a ≤ S1x1x4096x128.size a) : FVec Ideal S1x1x512x128 .bf16 :=
  View.readAt (Elt Ideal) M6.view (Rect.unit (s := S1x1x4096x128) off S1x1x512x128.size h).toLoadRect f6

/-- The one-hot rows of five hundred and twelve keys. -/
abbrev ldE (f10 : Bf (F := Ideal) c M10) (off : Fin 2 → ℕ) (h : ∀ a, off a + S512x128.size a ≤ S4096x128.size a) : FVec Ideal S512x128 .bf16 :=
  View.readAt (Elt Ideal) M10.view (Rect.unit (s := S4096x128) off S512x128.size h).toLoadRect f10

/-- Five hundred and twelve values read from column `off` on. -/
abbrev ldV (f7 : Bf (F := Ideal) c M7) (off : Fin 4 → ℕ) (h : ∀ a, off a + S1x1x128x512.size a ≤ S1x1x128x4096.size a) : FVec Ideal S1x1x128x512 .bf16 :=
  View.readAt (Elt Ideal) M7.view (Rect.unit (s := S1x1x128x4096) off S1x1x128x512.size h).toLoadRect f7

theorem ldK_apply (K : FVec Ideal S1x1x4096x128 .bf16) (n : ℕ) (hn : n + 512 ≤ 4096) {off : Fin 4 → ℕ} (ho : off = ![0, 0, n, 0]) (h) (x : Fin 512) (d : Fin 128) :
    ldK c M6 (h6.unread K) off h (ix4 0 0 x d) = K (ix4 0 0 ⟨n + x.val, by omega⟩ d) := by
  subst ho
  unfold ldK
  rw [View.readAt_eq_ld, Memref.IsWhole.read_unread]
  pointwise

theorem ldE_apply (E : FVec Ideal S4096x128 .bf16) (n : ℕ) (hn : n + 512 ≤ 4096) {off : Fin 2 → ℕ} (ho : off = ![n, 0]) (h) (x : Fin 512) (d : Fin 128) :
    ldE c M10 (h10.unread E) off h (ix2 x d) = E (ix2 ⟨n + x.val, by omega⟩ d) := by
  subst ho
  unfold ldE
  rw [View.readAt_eq_ld, Memref.IsWhole.read_unread]
  pointwise

theorem ldV_apply (V : FVec Ideal S1x1x128x4096 .bf16) (n : ℕ) (hn : n + 512 ≤ 4096) {off : Fin 4 → ℕ} (ho : off = ![0, 0, 0, n]) (h) (d : Fin 128) (x : Fin 512) :
    ldV c M7 (h7.unread V) off h (ix4 0 0 d x) = V (ix4 0 0 d ⟨n + x.val, by omega⟩) := by
  subst ho
  unfold ldV
  rw [View.readAt_eq_ld, Memref.IsWhole.read_unread]
  pointwise

/-- One tile on the carried pair. -/
abbrev tile (qa : FVec Ideal S256x2048 .bf16) (p : FVec Ideal S1x2048 .f32 × FVec Ideal S144x2048 .f32) (K : FVec Ideal S1x1x512x128 .bf16) (E : FVec Ideal S512x128 .bf16) (V : FVec Ideal S1x1x128x512 .bf16) :
    FVec Ideal S1x2048 .f32 × FVec Ideal S144x2048 .f32 :=
  (k0_pay741 (F := Ideal) qa p.1 K E, k0_pay742 (F := Ideal) qa p.1 p.2 K E V)

variable (f6 : Bf (F := Ideal) c M6) (f7 : Bf (F := Ideal) c M7) (f10 : Bf (F := Ideal) c M10)
variable (v12 : IVec S1x512 32) (qa : FVec Ideal S256x2048 .bf16) (v3520 : BitVec 32) (v3521 : FVec Ideal S1x2048 .f32) (v3522 : FVec Ideal S144x2048 .f32) (v a : BitVec 32)

/-- The carried pair before trip `k` of the loop. -/
abbrev loopAt (k : ℕ) : FVec Ideal S1x2048 .f32 × FVec Ideal S144x2048 .f32 :=
  st_k0_t1 (F := Ideal) Variants.none c none i M3 h3 M4 h4 M5 h5 M6 h6 M7 h7 M8 h8 M9 h9 M10 h10 M11 h11 M12 h12 M13 h13 M14 h14 v12 qa v3520 v3521 v3522 v a f6 f7 f10 (v3521, v3522) k

theorem loopAt_succ (k : Fin (k0_t1_loop i).trips) :
    loopAt c i M3 h3 M4 h4 M5 h5 M6 h6 M7 h7 M8 h8 M9 h9 M10 h10 M11 h11 M12 h12 M13 h13 M14 h14 f6 f7 f10 v12 qa v3520 v3521 v3522 v a (k.val + 1)
      = tile qa (tile qa (loopAt c i M3 h3 M4 h4 M5 h5 M6 h6 M7 h7 M8 h8 M9 h9 M10 h10 M11 h11 M12 h12 M13 h13 M14 h14 f6 f7 f10 v12 qa v3520 v3521 v3522 v a k.val)
          (ldK c M6 f6 (k0_off3 i k) (k0_off3_inb i k)) (ldE c M10 f10 (k0_off4 i k) (k0_off4_inb i k)) (ldV c M7 f7 (k0_off5 i k) (k0_off5_inb i k)))
          (ldK c M6 f6 (k0_off6 i k) (k0_off6_inb i k)) (ldE c M10 f10 (k0_off7 i k) (k0_off7_inb i k)) (ldV c M7 f7 (k0_off8 i k) (k0_off8_inb i k)) := by
  unfold loopAt
  rw [st_k0_t1_succ]
  unfold tripR_k0_t1 trip_k0_t1
  rfl

/-- The carried pair after `n` trips of the second loop, which makes none. -/
abbrev loop2 (n : ℕ) : FVec Ideal S1x2048 .f32 × FVec Ideal S144x2048 .f32 :=
  st_k0_t2 (F := Ideal) Variants.none c none i M3 h3 M4 h4 M5 h5 M6 h6 M7 h7 M8 h8 M9 h9 M10 h10 M11 h11 M12 h12 M13 h13 M14 h14 v12 qa v3520 v3521 v3522 v a (Scalar.addi v (Scalar.muli (Scalar.divsi a 1#32) 1#32)) f6 f7 f10 (loopAt c i M3 h3 M4 h4 M5 h5 M6 h6 M7 h7 M8 h8 M9 h9 M10 h10 M11 h11 M12 h12 M13 h13 M14 h14 f6 f7 f10 v12 qa v3520 v3521 v3522 v a (k0_t1_loop i).trips) n

theorem flashOdd_eq (hc : k0_cond1 i = 1#1) :
    (flashOdd (F := Ideal) c i M3 h3 M4 h4 M5 h5 M6 h6 M7 h7 M8 h8 M9 h9 M10 h10 M11 h11 M12 h12 M13 h13 M14 h14 hc f6 f7 f10 v12 qa v3520 v3521 v3522 v a).1
      = ⟨(tile qa (loop2 c i M3 h3 M4 h4 M5 h5 M6 h6 M7 h7 M8 h8 M9 h9 M10 h10 M11 h11 M12 h12 M13 h13 M14 h14 f6 f7 f10 v12 qa v3520 v3521 v3522 v a (k0_t2_loop i).trips)
            (ldK c M6 f6 (k0_off15 i) (k0_off15_inb i hc)) (ldE c M10 f10 (k0_off16 i) (k0_off16_inb i hc)) (ldV c M7 f7 (k0_off17 i) (k0_off17_inb i hc))).1,
          (tile qa (loop2 c i M3 h3 M4 h4 M5 h5 M6 h6 M7 h7 M8 h8 M9 h9 M10 h10 M11 h11 M12 h12 M13 h13 M14 h14 f6 f7 f10 v12 qa v3520 v3521 v3522 v a (k0_t2_loop i).trips)
            (ldK c M6 f6 (k0_off15 i) (k0_off15_inb i hc)) (ldE c M10 f10 (k0_off16 i) (k0_off16_inb i hc)) (ldV c M7 f7 (k0_off17 i) (k0_off17_inb i hc))).2,
          k0_pay743 (F := Ideal) qa (ldK c M6 f6 (k0_off18 i) (k0_off18_inb i)) (ldE c M10 f10 (k0_off19 i) (k0_off19_inb i)), k0_pay744 (F := Ideal) v12 v3520⟩ := rfl

theorem flashEven_eq (hc : ¬ k0_cond1 i = 1#1) :
    (flashEven (F := Ideal) c i M3 h3 M4 h4 M5 h5 M6 h6 M7 h7 M8 h8 M9 h9 M10 h10 M11 h11 M12 h12 M13 h13 M14 h14 hc f6 f7 f10 v12 qa v3520 v3521 v3522 v a).1
      = ⟨(loop2 c i M3 h3 M4 h4 M5 h5 M6 h6 M7 h7 M8 h8 M9 h9 M10 h10 M11 h11 M12 h12 M13 h13 M14 h14 f6 f7 f10 v12 qa v3520 v3521 v3522 v a (k0_t2_loop i).trips).1,
          (loop2 c i M3 h3 M4 h4 M5 h5 M6 h6 M7 h7 M8 h8 M9 h9 M10 h10 M11 h11 M12 h12 M13 h13 M14 h14 f6 f7 f10 v12 qa v3520 v3521 v3522 v a (k0_t2_loop i).trips).2,
          k0_pay743 (F := Ideal) qa (ldK c M6 f6 (k0_off18 i) (k0_off18_inb i)) (ldE c M10 f10 (k0_off19 i) (k0_off19_inb i)), k0_pay744 (F := Ideal) v12 v3520⟩ := rfl

theorem loop2_zero (n : ℕ) (hn : n = 0) :
    loop2 c i M3 h3 M4 h4 M5 h5 M6 h6 M7 h7 M8 h8 M9 h9 M10 h10 M11 h11 M12 h12 M13 h13 M14 h14 f6 f7 f10 v12 qa v3520 v3521 v3522 v a n = loopAt c i M3 h3 M4 h4 M5 h5 M6 h6 M7 h7 M8 h8 M9 h9 M10 h10 M11 h11 M12 h12 M13 h13 M14 h14 f6 f7 f10 v12 qa v3520 v3521 v3522 v a (k0_t1_loop i).trips := by
  subst hn
  exact st_k0_t2_zero ..

end Cert.KernelIdeal.Body

end
-- ==== Proof.FlashVal.lean ====
/-
  The value of the selected branch: the flash loop's running maximum and sums after every pair of tiles, after the conditional
  tile and after the masked last tile.
-/
module

public import proofs.«01_k».proof.Proof.Flash

@[expose] public section

set_option backward.proofsInPublic true
set_option maxRecDepth 65536
set_option maxHeartbeats 4000000

noncomputable section

namespace Cert.KernelIdeal.Body

open Cert.KernelIdeal Cert.KernelIdeal.Gen
open Idealize.ShloMosaic
open Cert.Soft Cert.Spec

/-- The score of key `k` for column `l` before the causal mask of the last tile: the product with the query and the bias of
    the key's block. -/
def rawS (q : FVec Ideal S128x2048 .bf16) (bm : FVec Ideal S128x512 .bf16) (K : FVec Ideal S1x1x4096x128 .bf16) (E : FVec Ideal S4096x128 .bf16)
    (l : Fin 2048) (k : ℕ) : EReal :=
  ∑ d : Fin 128, K (ix4 0 0 (fk 4096 k) d) * q (ix2 d l) + ∑ e : Fin 128, E (ix2 (fk 4096 k) e) * bm (ix2 e (lane l.val))

/-- The value rows by key. -/
def rowsV (V : FVec Ideal S1x1x128x4096 .bf16) (d : Fin 128) (k : ℕ) : EReal := V (ix4 0 0 d (fk 4096 k))

theorem fk_of (k : ℕ) (h : k < 4096) : (⟨k, h⟩ : Fin 4096) = fk 4096 k := (fk_val (⟨k, h⟩ : Fin 4096)).symm

variable (c : Dev nD) (i : grid0.Coords) (M3 : Memref sig .tc .vmem S4x1x128x512 .bf16) (h3 : M3.IsWhole) (M4 : Memref sig .tc .vmem S1x1x256x128 .bf16) (h4 : M4.IsWhole) (M5 : Memref sig .tc .vmem S1x1x128x256 .bf16) (h5 : M5.IsWhole) (M6 : Memref sig .tc .vmem S1x1x4096x128 .bf16) (h6 : M6.IsWhole) (M7 : Memref sig .tc .vmem S1x1x128x4096 .bf16) (h7 : M7.IsWhole)
  (M8 : Memref sig .tc .vmem S1x1x4096x128 .bf16) (h8 : M8.IsWhole) (M9 : Memref sig .tc .vmem S1x1x128x4096 .bf16) (h9 : M9.IsWhole) (M10 : Memref sig .tc .vmem S4096x128 .bf16) (h10 : M10.IsWhole) (M11 : Memref sig .tc .vmem S1x1024x512 .f32) (h11 : M11.IsWhole) (M12 : Memref sig .tc .vmem S512x128 .f32) (h12 : M12.IsWhole) (M13 : Memref sig .tc .vmem S512x512 .f32) (h13 : M13.IsWhole) (M14 : Memref sig .tc .vmem S128x512 .f32) (h14 : M14.IsWhole)

variable (q : FVec Ideal S128x2048 .bf16) (bm : FVec Ideal S128x512 .bf16) (K : FVec Ideal S1x1x4096x128 .bf16) (E : FVec Ideal S4096x128 .bf16) (V : FVec Ideal S1x1x128x4096 .bf16)

theorem tile_score (n : ℕ) (hn : n + 512 ≤ 4096) {o1 : Fin 4 → ℕ} {o2 : Fin 2 → ℕ} (ho1 : o1 = ![0, 0, n, 0]) (ho2 : o2 = ![n, 0]) (b1) (b2) (x : Fin 512) (l : Fin 2048) :
    k0_pay740 (F := Ideal) (k0_pay731 q bm) (ldK c M6 (h6.unread K) o1 b1) (ldE c M10 (h10.unread E) o2 b2) (ix2 x l) = rawS q bm K E l (n + x.val) := by
  rw [p740_apply, rawS]
  simp only [ldK_apply c M6 h6 K n hn ho1, ldE_apply c M10 h10 E n hn ho2, fk_of]

/-- One tile carries the running maximum and sums over its five hundred and twelve keys. -/
theorem tile_at {s : Fin 2048 → ℕ → EReal} (hs : ∀ l k, s l k ≠ ⊤) (n : ℕ) (hn : n + 512 ≤ 4096)
    (hS : ∀ (x : Fin 512) l, rawS q bm K E l (n + x.val) = s l (n + x.val)) {o1 : Fin 4 → ℕ} {o2 : Fin 2 → ℕ} {o3 : Fin 4 → ℕ}
    (ho1 : o1 = ![0, 0, n, 0]) (ho2 : o2 = ![n, 0]) (ho3 : o3 = ![0, 0, 0, n]) (b1) (b2) (b3)
    (p : FVec Ideal S1x2048 .f32 × FVec Ideal S144x2048 .f32) (h : At s (rowsV V) n p.1 p.2) :
    At s (rowsV V) (n + 512) (tile (k0_pay731 q bm) p (ldK c M6 (h6.unread K) o1 b1) (ldE c M10 (h10.unread E) o2 b2) (ldV c M7 (h7.unread V) o3 b3)).1
      (tile (k0_pay731 q bm) p (ldK c M6 (h6.unread K) o1 b1) (ldE c M10 (h10.unread E) o2 b2) (ldV c M7 (h7.unread V) o3 b3)).2 :=
  at_step hs h _ _ _ _ (fun x l => (tile_score c M6 h6 M10 h10 q bm K E n hn ho1 ho2 b1 b2 x l).trans (hS x l))
    (fun d x => by rw [ldV_apply c M7 h7 V n hn ho3, fk_of, rowsV])

variable (v12 : IVec S1x512 32) (v3520 : BitVec 32) (v a : BitVec 32)

/-- The loop: after `k` trips the running maximum and sums are those of the first `1024 k` keys. -/
theorem loop_at {s : Fin 2048 → ℕ → EReal} (hs : ∀ l k, s l k ≠ ⊤) (hS : ∀ l k, k < 512 * (i 2).val → rawS q bm K E l k = s l k) :
    ∀ k : ℕ, k ≤ (k0_t1_loop i).trips →
      At s (rowsV V) (1024 * k) (loopAt c i M3 h3 M4 h4 M5 h5 M6 h6 M7 h7 M8 h8 M9 h9 M10 h10 M11 h11 M12 h12 M13 h13 M14 h14 (h6.unread K) (h7.unread V) (h10.unread E) v12 (k0_pay731 q bm) v3520 (k0_pay732 (F := Ideal)) (k0_pay733 (F := Ideal)) v a k).1 (loopAt c i M3 h3 M4 h4 M5 h5 M6 h6 M7 h7 M8 h8 M9 h9 M10 h10 M11 h11 M12 h12 M13 h13 M14 h14 (h6.unread K) (h7.unread V) (h10.unread E) v12 (k0_pay731 q bm) v3520 (k0_pay732 (F := Ideal)) (k0_pay733 (F := Ideal)) v a k).2 := by
  have hi : (i 2).val < 8 := (i 2).isLt
  have ht := (trips i).1
  intro k
  induction k with
  | zero =>
    intro _
    exact at_zero s (rowsV V)
  | succ k ih =>
    intro hk
    have h3' := off3 i ⟨k, hk⟩
    have h6' := off6 i ⟨k, hk⟩
    have hkk : 2 * (k + 1) ≤ (i 2).val := by omega
    rw [loopAt_succ c i M3 h3 M4 h4 M5 h5 M6 h6 M7 h7 M8 h8 M9 h9 M10 h10 M11 h11 M12 h12 M13 h13 M14 h14 (h6.unread K) (h7.unread V) (h10.unread E) v12 (k0_pay731 q bm) v3520 (k0_pay732 (F := Ideal)) (k0_pay733 (F := Ideal)) v a ⟨k, hk⟩]
    have e := tile_at c M6 h6 M7 h7 M10 h10 q bm K E V hs (1024 * k + 512) (by omega) (fun x l => hS l _ (by omega))
      h6'.1 h6'.2.1 h6'.2.2 (k0_off6_inb i ⟨k, hk⟩) (k0_off7_inb i ⟨k, hk⟩) (k0_off8_inb i ⟨k, hk⟩) _
      (tile_at c M6 h6 M7 h7 M10 h10 q bm K E V hs (1024 * k) (by omega) (fun x l => hS l _ (by omega))
        h3'.1 h3'.2.1 h3'.2.2 (k0_off3_inb i ⟨k, hk⟩) (k0_off4_inb i ⟨k, hk⟩) (k0_off5_inb i ⟨k, hk⟩) _ (ih (by omega)))
    rw [show 1024 * (k + 1) = 1024 * k + 512 + 512 by omega]
    exact e

/-- The last tile after the carried pair of all full tiles. -/
theorem last_val {s : Fin 2048 → ℕ → EReal} (hs : ∀ l k, s l k ≠ ⊤)
    (hL : ∀ l (x : Fin 512), rawS q bm K E l (512 * (i 2).val + x.val) + (if x.val ≤ (lane l.val).val then 0 else ⊥) = s l (512 * (i 2).val + x.val))
    (p : FVec Ideal S1x2048 .f32 × FVec Ideal S144x2048 .f32) (h : At s (rowsV V) (512 * (i 2).val) p.1 p.2) (d : Fin 128) (l : Fin 2048) :
    k0_pay745 (F := Ideal) p.1 p.2 (k0_pay743 (F := Ideal) (k0_pay731 q bm) (ldK c M6 (h6.unread K) (k0_off18 i) (k0_off18_inb i)) (ldE c M10 (h10.unread E) (k0_off19 i) (k0_off19_inb i)))
      (k0_pay744 (F := Ideal) (k0_pay11 i) (run.sl.v3520 i)) (ldV c M7 (h7.unread V) (k0_off20 i) (k0_off20_inb i)) (ix2 d l)
      = soft (s l) (rowsV V d) (512 * (i 2).val + 512) := by
  have hi : (i 2).val < 8 := (i 2).isLt
  have ho := off18 i
  refine last_step hs h _ _ _ _ _ (fun x l => ?_) (fun d x => by rw [ldV_apply c M7 h7 V _ (by omega) ho.2.2, fk_of, rowsV]) d l
  rw [← hL l x, ← tile_score c M6 h6 M10 h10 q bm K E (512 * (i 2).val) (by omega) ho.1 ho.2.1 (k0_off18_inb i) (k0_off19_inb i) x l, ← p744_apply i x (lane l.val), ← p743_eq]
  show _ + concatenate _ _ _ _ _ = _
  rw [cat4_512]
  rfl

/-- The selected branch at an element: the normalised weighted sum over the keys up to the end of the last tile. -/
theorem flash_val {s : Fin 2048 → ℕ → EReal} (hs : ∀ l k, s l k ≠ ⊤) (hS : ∀ l k, k < 512 * (i 2).val → rawS q bm K E l k = s l k)
    (hL : ∀ l (x : Fin 512), rawS q bm K E l (512 * (i 2).val + x.val) + (if x.val ≤ (lane l.val).val then 0 else ⊥) = s l (512 * (i 2).val + x.val))
    (d : Fin 128) (l : Fin 2048) :
    k0_pay745 (F := Ideal)
      (flash (F := Ideal) c i M3 h3 M4 h4 M5 h5 M6 h6 M7 h7 M8 h8 M9 h9 M10 h10 M11 h11 M12 h12 M13 h13 M14 h14 (h6.unread K) (h7.unread V) (h10.unread E) (k0_pay11 i) (k0_pay731 q bm) (run.sl.v3520 i) (k0_pay732 (F := Ideal)) (k0_pay733 (F := Ideal)) v a).1
      (flash (F := Ideal) c i M3 h3 M4 h4 M5 h5 M6 h6 M7 h7 M8 h8 M9 h9 M10 h10 M11 h11 M12 h12 M13 h13 M14 h14 (h6.unread K) (h7.unread V) (h10.unread E) (k0_pay11 i) (k0_pay731 q bm) (run.sl.v3520 i) (k0_pay732 (F := Ideal)) (k0_pay733 (F := Ideal)) v a).2.1
      (flash (F := Ideal) c i M3 h3 M4 h4 M5 h5 M6 h6 M7 h7 M8 h8 M9 h9 M10 h10 M11 h11 M12 h12 M13 h13 M14 h14 (h6.unread K) (h7.unread V) (h10.unread E) (k0_pay11 i) (k0_pay731 q bm) (run.sl.v3520 i) (k0_pay732 (F := Ideal)) (k0_pay733 (F := Ideal)) v a).2.2.1
      (flash (F := Ideal) c i M3 h3 M4 h4 M5 h5 M6 h6 M7 h7 M8 h8 M9 h9 M10 h10 M11 h11 M12 h12 M13 h13 M14 h14 (h6.unread K) (h7.unread V) (h10.unread E) (k0_pay11 i) (k0_pay731 q bm) (run.sl.v3520 i) (k0_pay732 (F := Ideal)) (k0_pay733 (F := Ideal)) v a).2.2.2
      (ldV c M7 (h7.unread V) (k0_off20 i) (k0_off20_inb i)) (ix2 d l)
      = soft (s l) (rowsV V d) (512 * (i 2).val + 512) := by
  have hi : (i 2).val < 8 := (i 2).isLt
  have ht := trips i
  have hl := loop_at c i M3 h3 M4 h4 M5 h5 M6 h6 M7 h7 M8 h8 M9 h9 M10 h10 M11 h11 M12 h12 M13 h13 M14 h14 q bm K E V (k0_pay11 i) (run.sl.v3520 i) v a hs hS (k0_t1_loop i).trips le_rfl
  have h2 := loop2_zero c i M3 h3 M4 h4 M5 h5 M6 h6 M7 h7 M8 h8 M9 h9 M10 h10 M11 h11 M12 h12 M13 h13 M14 h14 (h6.unread K) (h7.unread V) (h10.unread E) (k0_pay11 i) (k0_pay731 q bm) (run.sl.v3520 i) (k0_pay732 (F := Ideal)) (k0_pay733 (F := Ideal)) v a (k0_t2_loop i).trips ht.2
  rw [← h2] at hl
  unfold flash
  by_cases hc : k0_cond1 i = 1#1
  · have ho := off15 i hc
    rw [dif_pos hc, flashOdd_eq]
    refine last_val c i M6 h6 M7 h7 M10 h10 q bm K E V hs hL (tile (k0_pay731 q bm) (loop2 c i M3 h3 M4 h4 M5 h5 M6 h6 M7 h7 M8 h8 M9 h9 M10 h10 M11 h11 M12 h12 M13 h13 M14 h14 (h6.unread K) (h7.unread V) (h10.unread E) (k0_pay11 i) (k0_pay731 q bm) (run.sl.v3520 i) (k0_pay732 (F := Ideal)) (k0_pay733 (F := Ideal)) v a (k0_t2_loop i).trips) (ldK c M6 (h6.unread K) (k0_off15 i) (k0_off15_inb i hc)) (ldE c M10 (h10.unread E) (k0_off16 i) (k0_off16_inb i hc)) (ldV c M7 (h7.unread V) (k0_off17 i) (k0_off17_inb i hc))) ?_ d l
    have e := tile_at c M6 h6 M7 h7 M10 h10 q bm K E V hs (512 * ((i 2).val - 1)) (by omega) (fun x l => hS l _ (by omega))
      ho.2.1 ho.2.2.1 ho.2.2.2 (k0_off15_inb i hc) (k0_off16_inb i hc) (k0_off17_inb i hc) _
      (show At s (rowsV V) (512 * ((i 2).val - 1)) _ _ by
        rw [show 512 * ((i 2).val - 1) = 1024 * (k0_t1_loop i).trips by omega]; exact hl)
    rw [show 512 * (i 2).val = 512 * ((i 2).val - 1) + 512 by omega]
    exact e
  · have ho := even i hc
    rw [dif_neg hc, flashEven_eq]
    refine last_val c i M6 h6 M7 h7 M10 h10 q bm K E V hs hL (loop2 c i M3 h3 M4 h4 M5 h5 M6 h6 M7 h7 M8 h8 M9 h9 M10 h10 M11 h11 M12 h12 M13 h13 M14 h14 (h6.unread K) (h7.unread V) (h10.unread E) (k0_pay11 i) (k0_pay731 q bm) (run.sl.v3520 i) (k0_pay732 (F := Ideal)) (k0_pay733 (F := Ideal)) v a (k0_t2_loop i).trips) ?_ d l
    rw [show 512 * (i 2).val = 1024 * (k0_t1_loop i).trips by omega]
    exact hl

end Cert.KernelIdeal.Body

end
-- ==== Proof.Branch.lean ====
/-
  The three branches as the run names them, read at an element of the staged blocks.
-/
module

public import proofs.«01_k».proof.Proof.Cell

@[expose] public section

set_option backward.proofsInPublic true

noncomputable section

namespace Cert.KernelIdeal.Body

open Cert.KernelIdeal Cert.KernelIdeal.Gen
open Idealize.ShloMosaic
open Cert.Soft Cert.Spec

theorem off1 : ∀ i : grid0.Coords, k0_off1 i = ![0, 0, 512 * ((i 2).val - 1), 0] ∧ k0_off2 i = ![0, 0, 0, 512 * ((i 2).val - 1)] := by decide +kernel

/-- The four heads' queries side by side. -/
def qOf (X3 : FVec Ideal S4x1x128x512 .bf16) : FVec Ideal S128x2048 .bf16 :=
  k0_pay10
    (View.ld X3 (Rect.unit (s := S4x1x128x512) ![0, 0, 0, 0] S1x1x128x512.size inb_S4x1x128x512_S1x1x128x512_0_0_0_0))
    (View.ld X3 (Rect.unit (s := S4x1x128x512) ![1, 0, 0, 0] S1x1x128x512.size inb_S4x1x128x512_S1x1x128x512_1_0_0_0))
    (View.ld X3 (Rect.unit (s := S4x1x128x512) ![2, 0, 0, 0] S1x1x128x512.size inb_S4x1x128x512_S1x1x128x512_2_0_0_0))
    (View.ld X3 (Rect.unit (s := S4x1x128x512) ![3, 0, 0, 0] S1x1x128x512.size inb_S4x1x128x512_S1x1x128x512_3_0_0_0))

theorem qOf_apply (X3 : FVec Ideal S4x1x128x512 .bf16) (d : Fin 128) (r : Fin 4) (x : Fin 512) : qOf X3 (ix2 d (col r x)) = X3 (ix4 r 0 d x) := by
  have hx := x.isLt
  match r with
  | 0 => pointwise [qOf, k0_pay10, col]
  | 1 => pointwise [qOf, k0_pay10, col]
  | 2 =>
    pointwise [qOf, k0_pay10, col]
    split_ifs <;> first | omega | blk_ext
  | 3 =>
    pointwise [qOf, k0_pay10, col]
    split_ifs <;> first | omega | blk_ext

theorem p13_apply (v1 v3 v5 v7 : FVec Ideal S1x1x128x512 .bf16) (k : FVec Ideal S1x1x256x128 .bf16) (n : Fin 256) (l : Fin 2048) :
    k0_pay13 (F := Ideal) v1 v3 v5 v7 k (ix2 n l) = dot (fun d => k (ix4 0 0 n d)) (fun d => k0_pay10 (F := Ideal) v1 v3 v5 v7 (ix2 d l)) := by
  pointwise [k0_pay13, dot]

theorem ld11 (X : FVec Ideal S1x1024x512 .f32) (h) (y : Fin 1024) (x : Fin 512) :
    View.ld (Val := Elt Ideal) (e' := .f32) X (Rect.unit (s := S1x1024x512) ![0, 0, 0] S1x1024x512.size h) (ix3 0 y x) = X (ix3 0 y x) := by
  pointwise

theorem ld4 (X : FVec Ideal S1x1x256x128 .bf16) (h) (n : Fin 256) (d : Fin 128) :
    View.ld (Val := Elt Ideal) (e' := .bf16) X (Rect.unit (s := S1x1x256x128) ![0, 0, 0, 0] S1x1x256x128.size h) (ix4 0 0 n d) = X (ix4 0 0 n d) := by
  pointwise

theorem ld5 (X : FVec Ideal S1x1x128x256 .bf16) (h) (d : Fin 128) (n : Fin 256) :
    View.ld (Val := Elt Ideal) (e' := .bf16) X (Rect.unit (s := S1x1x128x256) ![0, 0, 0, 0] S1x1x128x256.size h) (ix4 0 0 d n) = X (ix4 0 0 d n) := by
  pointwise

theorem ld8 (X : FVec Ideal S1x1x4096x128 .bf16) (w : ℕ) (hw : w + 1024 ≤ 4096) {off : Fin 4 → ℕ} (ho : off = ![0, 0, w, 0]) (h) (y : Fin 1024) (d : Fin 128) :
    View.ld (Val := Elt Ideal) (e' := .bf16) X (Rect.unit (s := S1x1x4096x128) off S1x1x1024x128.size h) (ix4 0 0 y d) = X (ix4 0 0 ⟨w + y.val, by omega⟩ d) := by
  subst ho
  pointwise

theorem ld9 (X : FVec Ideal S1x1x128x4096 .bf16) (w : ℕ) (hw : w + 1024 ≤ 4096) {off : Fin 4 → ℕ} (ho : off = ![0, 0, 0, w]) (h) (d : Fin 128) (y : Fin 1024) :
    View.ld (Val := Elt Ideal) (e' := .bf16) X (Rect.unit (s := S1x1x128x4096) off S1x1x128x1024.size h) (ix4 0 0 d y) = X (ix4 0 0 d ⟨w + y.val, by omega⟩) := by
  subst ho
  pointwise

variable (c : Dev nD) (i : grid0.Coords) (M3 : Memref sig .tc .vmem S4x1x128x512 .bf16) (h3 : M3.IsWhole) (M4 : Memref sig .tc .vmem S1x1x256x128 .bf16) (h4 : M4.IsWhole) (M5 : Memref sig .tc .vmem S1x1x128x256 .bf16) (h5 : M5.IsWhole) (M6 : Memref sig .tc .vmem S1x1x4096x128 .bf16) (h6 : M6.IsWhole) (M7 : Memref sig .tc .vmem S1x1x128x4096 .bf16) (h7 : M7.IsWhole)
  (M8 : Memref sig .tc .vmem S1x1x4096x128 .bf16) (h8 : M8.IsWhole) (M9 : Memref sig .tc .vmem S1x1x128x4096 .bf16) (h9 : M9.IsWhole) (M10 : Memref sig .tc .vmem S4096x128 .bf16) (h10 : M10.IsWhole) (M11 : Memref sig .tc .vmem S1x1024x512 .f32) (h11 : M11.IsWhole) (M12 : Memref sig .tc .vmem S512x128 .f32) (h12 : M12.IsWhole) (M13 : Memref sig .tc .vmem S512x512 .f32) (h13 : M13.IsWhole) (M14 : Memref sig .tc .vmem S128x512 .f32) (h14 : M14.IsWhole)

variable (X3 : FVec Ideal S4x1x128x512 .bf16) (X4 : FVec Ideal S1x1x256x128 .bf16) (X5 : FVec Ideal S1x1x128x256 .bf16)
  (X8 : FVec Ideal S1x1x4096x128 .bf16) (X9 : FVec Ideal S1x1x128x4096 .bf16) (X11 : FVec Ideal S1x1024x512 .f32)

theorem r_eq : run.sl.r c M3 (h3.unread X3) = qOf X3 := by
  unfold run.sl.r qOf
  simp only [View.readAt_eq_ld, Memref.IsWhole.read_unread]

theorem r3_eq : run.sl.r_3 (F := Ideal) c i M3 M4 (h3.unread X3) (h4.unread X4) = k0_pay731 (qOf X3) (run.sl.r_2 (F := Ideal) c i M3 M4 (h3.unread X3) (h4.unread X4)) := by
  rw [← r_eq c M3 h3 X3]
  rfl

/-- The compressed scores before their mask. -/
def c27 (X3 : FVec Ideal S4x1x128x512 .bf16) (X4 : FVec Ideal S1x1x256x128 .bf16) : FVec Ideal S256x2048 .f32 :=
  k0_pay13
    (View.ld X3 (Rect.unit (s := S4x1x128x512) ![0, 0, 0, 0] S1x1x128x512.size inb_S4x1x128x512_S1x1x128x512_0_0_0_0))
    (View.ld X3 (Rect.unit (s := S4x1x128x512) ![1, 0, 0, 0] S1x1x128x512.size inb_S4x1x128x512_S1x1x128x512_1_0_0_0))
    (View.ld X3 (Rect.unit (s := S4x1x128x512) ![2, 0, 0, 0] S1x1x128x512.size inb_S4x1x128x512_S1x1x128x512_2_0_0_0))
    (View.ld X3 (Rect.unit (s := S4x1x128x512) ![3, 0, 0, 0] S1x1x128x512.size inb_S4x1x128x512_S1x1x128x512_3_0_0_0))
    (View.ld X4 (Rect.unit (s := S1x1x256x128) ![0, 0, 0, 0] S1x1x256x128.size inb_S1x1x256x128_S1x1x256x128_0_0_0_0))

theorem c27_apply (n : Fin 256) (r : Fin 4) (x : Fin 512) :
    c27 X3 X4 (ix2 n (col r x)) = dot (fun d => X4 (ix4 0 0 n d)) (fun d => X3 (ix4 r 0 d x)) := by
  rw [c27, p13_apply]
  congr 1
  · funext d; exact ld4 X4 _ n d
  · funext d; exact qOf_apply X3 d r x

set_option maxRecDepth 65536 in
set_option maxHeartbeats 4000000 in
theorem v50_eq : run.sl.v50 (F := Ideal) c i M3 M4 (h3.unread X3) (h4.unread X4)
    = k0_pay16 (k0_pay11 i) (k0_pay12 i) (c27 X3 X4) k0_pay14 k0_pay15 := by
  have e : run.sl.v50 (F := Ideal) c i M3 M4 (h3.unread X3) (h4.unread X4) = k0_pay16 (k0_pay11 i) (k0_pay12 i) (k0_pay13
    (View.readAt (Elt Ideal) M3.view (Rect.unit (s := S4x1x128x512) ![0, 0, 0, 0] S1x1x128x512.size inb_S4x1x128x512_S1x1x128x512_0_0_0_0).toLoadRect (h3.unread X3))
    (View.readAt (Elt Ideal) M3.view (Rect.unit (s := S4x1x128x512) ![1, 0, 0, 0] S1x1x128x512.size inb_S4x1x128x512_S1x1x128x512_1_0_0_0).toLoadRect (h3.unread X3))
    (View.readAt (Elt Ideal) M3.view (Rect.unit (s := S4x1x128x512) ![2, 0, 0, 0] S1x1x128x512.size inb_S4x1x128x512_S1x1x128x512_2_0_0_0).toLoadRect (h3.unread X3))
    (View.readAt (Elt Ideal) M3.view (Rect.unit (s := S4x1x128x512) ![3, 0, 0, 0] S1x1x128x512.size inb_S4x1x128x512_S1x1x128x512_3_0_0_0).toLoadRect (h3.unread X3))
    (View.readAt (Elt Ideal) M4.view (Rect.unit (s := S1x1x256x128) ![0, 0, 0, 0] S1x1x256x128.size inb_S1x1x256x128_S1x1x256x128_0_0_0_0).toLoadRect (h4.unread X4))) k0_pay14 k0_pay15 := rfl
  rw [e, c27]
  simp only [View.readAt_eq_ld, Memref.IsWhole.read_unread]

set_option maxRecDepth 65536 in
set_option maxHeartbeats 4000000 in
theorem v54_apply (d : Fin 128) (l : Fin 2048) : run.sl.v54 (F := Ideal) c i M3 M4 M5 (h3.unread X3) (h4.unread X4) (h5.unread X5) (ix2 d l)
    = ∑ n : Fin 256, X5 (ix4 0 0 d n) * cw (tq i l) (cmpScore i (c27 X3 X4) l) n.val := by
  have e : run.sl.v54 (F := Ideal) c i M3 M4 M5 (h3.unread X3) (h4.unread X4) (h5.unread X5)
      = matmul dot_S128x256_S256x2048_S128x2048_1_0_0_1_n_n none (shapeCast S128x256 (View.readAt (Elt Ideal) M5.view (Rect.unit (s := S1x1x128x256) ![0, 0, 0, 0] S1x1x128x256.size inb_S1x1x128x256_S1x1x128x256_0_0_0_0).toLoadRect (h5.unread X5)) shapeCasts_S1x1x128x256_S128x256)
          (truncf .bf16 (run.sl.v50 (F := Ideal) c i M3 M4 (h3.unread X3) (h4.unread X4)) bitsLt_bf16_f32) (constant S128x2048 .f32 0x00000000#32) := rfl
  have e' : run.sl.v54 (F := Ideal) c i M3 M4 M5 (h3.unread X3) (h4.unread X4) (h5.unread X5)
      = k0_pay17 (k0_pay11 i) (k0_pay12 i) (c27 X3 X4) k0_pay14 k0_pay15 (View.ld X5 (Rect.unit (s := S1x1x128x256) ![0, 0, 0, 0] S1x1x128x256.size inb_S1x1x128x256_S1x1x128x256_0_0_0_0)) := by
    rw [e, v50_eq c i M3 h3 M4 h4 X3 X4, View.readAt_eq_ld, Memref.IsWhole.read_unread]
    rfl
  rw [e', p17_apply]
  refine Finset.sum_congr rfl fun n _ => ?_
  rw [p16_apply]
  exact congrArg (· * _) (ld5 X5 _ d n)

set_option maxRecDepth 65536 in
set_option maxHeartbeats 4000000 in
theorem v142_eq : run.sl.v142 (F := Ideal) c i M3 M4 (h3.unread X3) (h4.unread X4)
    = k0_pay25 (k0_pay11 i) (iota .tc S64x1 32 [0] iota_S64x1_d0_w32) k0_pay22 (k0_pay23 (k0_pay16 (k0_pay11 i) (k0_pay12 i) (c27 X3 X4) k0_pay14 k0_pay15))
        (k0_pay24 (k0_pay16 (k0_pay11 i) (k0_pay12 i) (c27 X3 X4) k0_pay14 k0_pay15)) (constant S64x512 .f32 0x00000000#32) := by
  have e : run.sl.v142 (F := Ideal) c i M3 M4 (h3.unread X3) (h4.unread X4)
    = k0_pay25 (k0_pay11 i) (iota .tc S64x1 32 [0] iota_S64x1_d0_w32) k0_pay22 (k0_pay23 (run.sl.v50 (F := Ideal) c i M3 M4 (h3.unread X3) (h4.unread X4)))
        (k0_pay24 (run.sl.v50 (F := Ideal) c i M3 M4 (h3.unread X3) (h4.unread X4))) (constant S64x512 .f32 0x00000000#32) := rfl
  rw [e, v50_eq c i M3 h3 M4 h4 X3 X4]

set_option maxRecDepth 65536 in
set_option maxHeartbeats 4000000 in
theorem v83_eq : run.sl.v83 (F := Ideal) c i M3 M8 M9 M11 (h3.unread X3) (h8.unread X8) (h9.unread X9) (h11.unread X11)
    = k0_pay20 (k0_pay18 (qOf X3) (View.ld X8 (Rect.unit (s := S1x1x4096x128) (k0_off1 i) S1x1x1024x128.size (k0_off1_inb i)))
          (View.ld X11 (Rect.unit (s := S1x1024x512) ![0, 0, 0] S1x1024x512.size inb_S1x1024x512_S1x1024x512_0_0_0)))
        (k0_pay19 (qOf X3) (View.ld X8 (Rect.unit (s := S1x1x4096x128) (k0_off1 i) S1x1x1024x128.size (k0_off1_inb i)))
          (View.ld X11 (Rect.unit (s := S1x1024x512) ![0, 0, 0] S1x1024x512.size inb_S1x1024x512_S1x1024x512_0_0_0)))
        (View.ld X9 (Rect.unit (s := S1x1x128x4096) (k0_off2 i) S1x1x128x1024.size (k0_off2_inb i))) := by
  have e : run.sl.v83 (F := Ideal) c i M3 M8 M9 M11 (h3.unread X3) (h8.unread X8) (h9.unread X9) (h11.unread X11)
    = k0_pay20 (k0_pay18 (run.sl.r c M3 (h3.unread X3)) (View.readAt (Elt Ideal) M8.view (Rect.unit (s := S1x1x4096x128) (k0_off1 i) S1x1x1024x128.size (k0_off1_inb i)).toLoadRect (h8.unread X8))
          (View.readAt (Elt Ideal) M11.view (Rect.unit (s := S1x1024x512) ![0, 0, 0] S1x1024x512.size inb_S1x1024x512_S1x1024x512_0_0_0).toLoadRect (h11.unread X11)))
        (k0_pay19 (run.sl.r c M3 (h3.unread X3)) (View.readAt (Elt Ideal) M8.view (Rect.unit (s := S1x1x4096x128) (k0_off1 i) S1x1x1024x128.size (k0_off1_inb i)).toLoadRect (h8.unread X8))
          (View.readAt (Elt Ideal) M11.view (Rect.unit (s := S1x1024x512) ![0, 0, 0] S1x1024x512.size inb_S1x1024x512_S1x1024x512_0_0_0).toLoadRect (h11.unread X11)))
        (View.readAt (Elt Ideal) M9.view (Rect.unit (s := S1x1x128x4096) (k0_off2 i) S1x1x128x1024.size (k0_off2_inb i)).toLoadRect (h9.unread X9)) := rfl
  rw [e, r_eq c M3 h3 X3]
  simp only [View.readAt_eq_ld, Memref.IsWhole.read_unread]

set_option maxRecDepth 65536 in
set_option maxHeartbeats 4000000 in
theorem v3608_eq (X7 : FVec Ideal S1x1x128x4096 .bf16) (a : FVec Ideal S1x2048 .f32) (b : FVec Ideal S144x2048 .f32) (s : FVec Ideal S512x2048 .f32) (w : FVec Ideal S512x512 .f32) :
    run.sl.v3608 (F := Ideal) c i M7 (h7.unread X7) a b s w
      = k0_pay745 a b s w (View.readAt (Elt Ideal) M7.view (Rect.unit (s := S1x1x128x4096) (k0_off20 i) S1x1x128x512.size (k0_off20_inb i)).toLoadRect (h7.unread X7)) := rfl

end Cert.KernelIdeal.Body

end
-- ==== Proof.Out.lean ====
/-
  The kernel's output block: for every head the three branches under their gates, read at an element.
-/
module

public import proofs.«01_k».proof.Proof.Cell
public import Idealize.ShloMosaic.Lib.WritesUnit
public import Idealize.ShloMosaic.Lib.VecWindow

@[expose] public section

set_option backward.proofsInPublic true

noncomputable section

namespace Cert.KernelIdeal.Body

open Cert.KernelIdeal Cert.KernelIdeal.Gen
open Idealize.ShloMosaic
open Cert.Soft Cert.Spec

theorem p746_apply (G : FVec Ideal S512x128 .f32) (a : Fin 128) (x : Fin 512) : k0_pay746 (F := Ideal) G (ix2 a x) = gate (G (ix2 x a)) := by
  pointwise [k0_pay746, gate]
  rfl

/-- A head's row of the output: the gates `g0 g1 g2` on the three branches. -/
def mix (cmp slc win : FVec Ideal S128x2048 .f32) (g0 g1 g2 : FVec Ideal S1x512 .f32) (d : Fin 128) (x : Fin 512) (l : Fin 2048) : EReal :=
  g0 (ix2 0 x) * cmp (ix2 d l) + g1 (ix2 0 x) * slc (ix2 d l) + g2 (ix2 0 x) * win (ix2 d l)

theorem head0 (cmp slc win : FVec Ideal S128x2048 .f32) (g0 g1 g2 : FVec Ideal S1x512 .f32) (x : Fin 512) (d : Fin 128) :
    k0_pay748 (F := Ideal) win slc (k0_pay747 cmp g0) g1 g2 (ix2 x d) = mix cmp slc win g0 g1 g2 d x (col 0 x) := by
  pointwise [k0_pay748, k0_pay747, mix, col]

theorem head1 (cmp slc win : FVec Ideal S128x2048 .f32) (g0 g1 g2 : FVec Ideal S1x512 .f32) (x : Fin 512) (d : Fin 128) :
    k0_pay749 (F := Ideal) cmp win slc g0 g1 g2 (ix2 x d) = mix cmp slc win g0 g1 g2 d x (col 1 x) := by
  pointwise [k0_pay749, mix, col]

theorem head2 (cmp slc win : FVec Ideal S128x2048 .f32) (g0 g1 g2 : FVec Ideal S1x512 .f32) (x : Fin 512) (d : Fin 128) :
    k0_pay751 (F := Ideal) win slc (k0_pay750 cmp g0) g1 g2 (ix2 x d) = mix cmp slc win g0 g1 g2 d x (col 2 x) := by
  pointwise [k0_pay751, k0_pay750, mix, col]

theorem head3 (cmp slc win : FVec Ideal S128x2048 .f32) (g0 g1 g2 : FVec Ideal S1x512 .f32) (x : Fin 512) (d : Fin 128) :
    k0_pay1 (F := Ideal) win (k0_pay752 cmp g0) g1 (k0_pay753 slc) g2 (ix2 x d) = mix cmp slc win g0 g1 g2 d x (col 3 x) := by
  pointwise [k0_pay1, k0_pay752, k0_pay753, mix, col]

theorem gate_lt (i : grid0.Coords) (n : Fin 12) : 12 * (i 1).val + n.val < 128 := by
  have h : (i 1).val < 4 := (i 1).isLt
  omega

theorem off21 : ∀ i : grid0.Coords, ∀ n : Fin 12, k0_off21 i (BitVec.ofNat 32 n.val) = ![12 * (i 1).val + n.val, 0] := by decide +kernel

variable (c : Dev nD) (i : grid0.Coords) (M3 : Memref sig .tc .vmem S4x1x128x512 .bf16) (h3 : M3.IsWhole) (M4 : Memref sig .tc .vmem S1x1x256x128 .bf16) (h4 : M4.IsWhole) (M5 : Memref sig .tc .vmem S1x1x128x256 .bf16) (h5 : M5.IsWhole) (M6 : Memref sig .tc .vmem S1x1x4096x128 .bf16) (h6 : M6.IsWhole) (M7 : Memref sig .tc .vmem S1x1x128x4096 .bf16) (h7 : M7.IsWhole)
  (M8 : Memref sig .tc .vmem S1x1x4096x128 .bf16) (h8 : M8.IsWhole) (M9 : Memref sig .tc .vmem S1x1x128x4096 .bf16) (h9 : M9.IsWhole) (M10 : Memref sig .tc .vmem S4096x128 .bf16) (h10 : M10.IsWhole) (M11 : Memref sig .tc .vmem S1x1024x512 .f32) (h11 : M11.IsWhole) (M12 : Memref sig .tc .vmem S512x128 .f32) (h12 : M12.IsWhole) (M13 : Memref sig .tc .vmem S512x512 .f32) (h13 : M13.IsWhole) (M14 : Memref sig .tc .vmem S128x512 .f32) (h14 : M14.IsWhole)

/-- Row `n` of the group's gates, as the body reads it back from its scratch. -/
abbrev gateRow (f12 : Bf (F := Ideal) c M12) (n : BitVec 32) (h : ∀ a, k0_off21 i n a + S1x512.size a ≤ S128x512.size a) : FVec Ideal S1x512 .f32 :=
  View.readAt (Elt Ideal) M14.view (Rect.unit (s := S128x512) (k0_off21 i n) S1x512.size h).toLoadRect
    (M14.view.writes (Elt Ideal) M14.view.junk (run.sl.H14_1 c M12 f12))

theorem v3614_eq (f12 : Bf (F := Ideal) c M12) :
    run.sl.v3614 (F := Ideal) c M12 f12 = k0_pay746 (View.readAt (Elt Ideal) M12.view (Rect.unit (s := S512x128) ![0, 0] S512x128.size inb_S512x128_S512x128_0_0).toLoadRect f12) := rfl

theorem gateRow_apply (X12 : FVec Ideal S512x128 .f32) (n : Fin 12) (h : ∀ a, k0_off21 i (BitVec.ofNat 32 n.val) a + S1x512.size a ≤ S128x512.size a) (x : Fin 512) :
    gateRow c i M12 M14 (h12.unread X12) (BitVec.ofNat 32 n.val) h (ix2 0 x) = gate (X12 (ix2 x ⟨12 * (i 1).val + n.val, gate_lt i n⟩)) := by
  have hi : (i 1).val < 4 := (i 1).isLt
  have ho := off21 i n
  unfold gateRow
  rw [View.readAt_eq_ld, run.sl.H14_1]
  rw [View.read_writes_full, v3614_eq, View.readAt_eq_ld, Memref.IsWhole.read_unread]
  revert h
  rw [ho]
  intro h
  rw [← p746_apply]
  pointwise
  rw [p746_apply, p746_apply]
  pointwise

set_option maxRecDepth 65536 in
set_option maxHeartbeats 4000000 in
theorem run_eq (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) :
    (run (F := Ideal) c i M3 h3 M4 h4 M5 h5 M6 h6 M7 h7 M8 h8 M9 h9 M10 h10 M11 h11 M12 h12 M13 h13 M14 h14 f3 f4 f5 f6 f7 f8 f9 f10 f11 f12).1
      = M13.view.writes (Elt Ideal) M13.view.junk (run.sl.H13_4 (F := Ideal) c i M3 M4 M5 M7 M8 M9 M11 M12 M14 f3 f4 f5 f7 f8 f9 f11 f12
          (flash (F := Ideal) c i M3 h3 M4 h4 M5 h5 M6 h6 M7 h7 M8 h8 M9 h9 M10 h10 M11 h11 M12 h12 M13 h13 M14 h14 f6 f7 f10 (k0_pay11 i) (run.sl.r_3 c i M3 M4 f3 f4) (run.sl.v3520 i) k0_pay732 k0_pay733 (0#32) (run.sl.v3540 i)).1
          (flash (F := Ideal) c i M3 h3 M4 h4 M5 h5 M6 h6 M7 h7 M8 h8 M9 h9 M10 h10 M11 h11 M12 h12 M13 h13 M14 h14 f6 f7 f10 (k0_pay11 i) (run.sl.r_3 c i M3 M4 f3 f4) (run.sl.v3520 i) k0_pay732 k0_pay733 (0#32) (run.sl.v3540 i)).2.1
          (flash (F := Ideal) c i M3 h3 M4 h4 M5 h5 M6 h6 M7 h7 M8 h8 M9 h9 M10 h10 M11 h11 M12 h12 M13 h13 M14 h14 f6 f7 f10 (k0_pay11 i) (run.sl.r_3 c i M3 M4 f3 f4) (run.sl.v3520 i) k0_pay732 k0_pay733 (0#32) (run.sl.v3540 i)).2.2.1
          (flash (F := Ideal) c i M3 h3 M4 h4 M5 h5 M6 h6 M7 h7 M8 h8 M9 h9 M10 h10 M11 h11 M12 h12 M13 h13 M14 h14 f6 f7 f10 (k0_pay11 i) (run.sl.r_3 c i M3 M4 f3 f4) (run.sl.v3520 i) k0_pay732 k0_pay733 (0#32) (run.sl.v3540 i)).2.2.2) := rfl

set_option maxRecDepth 65536 in
set_option maxHeartbeats 4000000 in
/-- The four pieces the body stores, by head. -/
theorem pieces_eq (f3 : Bf (F := Ideal) c M3) (f4 : Bf (F := Ideal) c M4) (f5 : Bf (F := Ideal) c M5) (f7 : Bf (F := Ideal) c M7) (f8 : Bf (F := Ideal) c M8) (f9 : Bf (F := Ideal) c M9) (f11 : Bf (F := Ideal) c M11) (f12 : Bf (F := Ideal) c M12)
    (a : FVec Ideal S1x2048 .f32) (b : FVec Ideal S144x2048 .f32) (s : FVec Ideal S512x2048 .f32) (w : FVec Ideal S512x512 .f32) :
    run.sl.H13_4 (F := Ideal) c i M3 M4 M5 M7 M8 M9 M11 M12 M14 f3 f4 f5 f7 f8 f9 f11 f12 a b s w =
      [⟨Rect.unit (s := S512x512) ![0, 384] S512x128.size inb_S512x512_S512x128_0_384,
          k0_pay1 (run.sl.v83 c i M3 M8 M9 M11 f3 f8 f9 f11) (k0_pay752 (run.sl.v54 c i M3 M4 M5 f3 f4 f5) (gateRow c i M12 M14 f12 9#32 (k0_off21_inb i 9)))
            (gateRow c i M12 M14 f12 10#32 (k0_off21_inb i 10)) (k0_pay753 (run.sl.v3608 c i M7 f7 a b s w)) (gateRow c i M12 M14 f12 11#32 (k0_off21_inb i 11))⟩,
        ⟨Rect.unit (s := S512x512) ![0, 256] S512x128.size inb_S512x512_S512x128_0_256,
          k0_pay751 (run.sl.v83 c i M3 M8 M9 M11 f3 f8 f9 f11) (run.sl.v3608 c i M7 f7 a b s w) (k0_pay750 (run.sl.v54 c i M3 M4 M5 f3 f4 f5) (gateRow c i M12 M14 f12 6#32 (k0_off21_inb i 6)))
            (gateRow c i M12 M14 f12 7#32 (k0_off21_inb i 7)) (gateRow c i M12 M14 f12 8#32 (k0_off21_inb i 8))⟩,
        ⟨Rect.unit (s := S512x512) ![0, 128] S512x128.size inb_S512x512_S512x128_0_128,
          k0_pay749 (run.sl.v54 c i M3 M4 M5 f3 f4 f5) (run.sl.v83 c i M3 M8 M9 M11 f3 f8 f9 f11) (run.sl.v3608 c i M7 f7 a b s w)
            (gateRow c i M12 M14 f12 3#32 (k0_off21_inb i 3)) (gateRow c i M12 M14 f12 4#32 (k0_off21_inb i 4)) (gateRow c i M12 M14 f12 5#32 (k0_off21_inb i 5))⟩,
        ⟨Rect.unit (s := S512x512) ![0, 0] S512x128.size inb_S512x512_S512x128_0_0,
          k0_pay748 (run.sl.v83 c i M3 M8 M9 M11 f3 f8 f9 f11) (run.sl.v3608 c i M7 f7 a b s w) (k0_pay747 (run.sl.v54 c i M3 M4 M5 f3 f4 f5) (gateRow c i M12 M14 f12 0#32 (k0_off21_inb i 0)))
            (gateRow c i M12 M14 f12 1#32 (k0_off21_inb i 1)) (gateRow c i M12 M14 f12 2#32 (k0_off21_inb i 2))⟩] := rfl

end Cert.KernelIdeal.Body

end
-- ==== Proof.Rank.lean ====
/-
  The selection of blocks as the kernel computes it: for every block of keys the count of the blocks that beat it (a larger
  score, or an equal one at a smaller position), accumulated one block after the other in eight groups of eight rows; a block
  is kept if fewer than sixteen beat it and its score is above minus infinity.
-/
module

public import proofs.«01_k».proof.Proof.Body

@[expose] public section

set_option backward.proofsInPublic true

noncomputable section

namespace Cert.KernelIdeal.Body

open Cert.KernelIdeal Cert.KernelIdeal.Gen
open Idealize.ShloMosaic

variable {F : FTy → Type} [FloatOps F] [Named F]

theorem slices_group (g : Nat) (hg : g < 8) : S64x512.Slices ![8 * g, 0] S8x512 :=
  ⟨rfl, fun a => by
    match a with
    | ⟨0, _⟩ => show 8 * g + 8 ≤ 64; omega
    | ⟨1, _⟩ => show 0 + 512 ≤ 512; omega⟩

theorem slices_row (n : Nat) : S8x512.Slices ![n % 8, 0] S1x512 :=
  ⟨rfl, fun a => by
    match a with
    | ⟨0, _⟩ => show n % 8 + 1 ≤ 8; omega
    | ⟨1, _⟩ => show 0 + 512 ≤ 512; omega⟩

/-- The rows `8 g … 8 g + 7` of the scores. -/
def group (score : FVec F S64x512 .f32) (g : Nat) : FVec F S8x512 .f32 :=
  bif g.blt 8 then extractStridedSlice S8x512 ![8 * (g % 8), 0] score (slices_group (g % 8) (Nat.mod_lt _ (by decide))) else broadcast S8x512 (Scalar.ofBits .f32 0x00000000#32)

/-- Row `n` of the scores, in every row of a group. -/
def rowOf (score : FVec F S64x512 .f32) (n : Nat) : FVec F S8x512 .f32 :=
  broadcastTo S8x512 (shapeCast S1x512 (extractStridedSlice S1x512 ![n % 8, 0] (group score (n / 8)) (slices_row n)) shapeCasts_S1x512_S1x512) broadcasts_S1x512_S8x512

/-- One where `p` holds, zero elsewhere. -/
def ones (p : IVec S8x512 1) : FVec F S8x512 .f32 :=
  select p (broadcast S8x512 (Scalar.ofBits .f32 0x3F800000#32)) (broadcast S8x512 (Scalar.ofBits .f32 0x00000000#32))

/-- Whether block `n` beats the blocks of group `g`. -/
def beats (score : FVec F S64x512 .f32) (g n : Nat) : FVec F S8x512 .f32 :=
  bif (n / 8).blt g then ones (cmpf .oge (rowOf score n) (group score g))
  else bif g.blt (n / 8) then ones (cmpf .ogt (rowOf score n) (group score g))
  else select (broadcastTo S8x512 (shapeCast S8x1 (cmpi .sgt (iota .tc S8x1 32 [0] iota_S8x1_d0_w32) (broadcast S8x1 (BitVec.ofNat 32 (n % 8)))) shapeCasts_S8x1_S8x1) broadcasts_S8x1_S8x512)
      (ones (cmpf .oge (rowOf score n) (group score g))) (ones (cmpf .ogt (rowOf score n) (group score g)))

/-- How many of the first `n` blocks beat the blocks of group `g`. -/
def rank (score : FVec F S64x512 .f32) (g : Nat) : Nat → FVec F S8x512 .f32
  | 0 => broadcast S8x512 (Scalar.ofBits .f32 0x00000000#32)
  | n + 1 => addf (rank score g n) (beats score g n)

/-- The bias the selection adds to a score: zero for a kept block, the value that drops it elsewhere. -/
def biasOf (score : FVec F S64x512 .f32) : FVec F S128x512 .bf16 :=
  truncf .bf16 (concatenate S128x512 0
    [⟨S64x512, select (andi (cmpf .olt (concatenate S64x512 0
        [⟨S8x512, rank score 0 64⟩, ⟨S8x512, rank score 1 64⟩, ⟨S8x512, rank score 2 64⟩, ⟨S8x512, rank score 3 64⟩,
          ⟨S8x512, rank score 4 64⟩, ⟨S8x512, rank score 5 64⟩, ⟨S8x512, rank score 6 64⟩, ⟨S8x512, rank score 7 64⟩]
        concatenates_S8x512_S8x512_S8x512_S8x512_S8x512_S8x512_S8x512_S8x512_S64x512_d0) (broadcast S64x512 (Scalar.ofBits .f32 0x41800000#32)))
        (cmpf .ogt score (broadcast S64x512 (Scalar.ofBits .f32 0xFF800000#32))))
        (broadcast S64x512 (Scalar.ofBits .f32 0x00000000#32)) (broadcast S64x512 (Named.named κ "drop" 0xC7000000#32))⟩,
      ⟨S64x512, broadcast S64x512 (Named.named κ "drop" 0xC7000000#32)⟩]
    concatenates_S64x512_S64x512_S128x512_d0) bitsLt_bf16_f32

set_option maxRecDepth 65536 in
set_option maxHeartbeats 4000000 in
/-- The run's bias is the bias of its scores. -/
theorem bias_eq (c : Dev nD) (i : grid0.Coords) (M3 : Memref sig .tc .vmem S4x1x128x512 .bf16)
    (M4 : Memref sig .tc .vmem S1x1x256x128 .bf16) (f3 : Bf (F := F) c M3) (f4 : Bf (F := F) c M4) :
    run.sl.r_2 c i M3 M4 f3 f4 = biasOf (run.sl.v142 c i M3 M4 f3 f4) := rfl

end Cert.KernelIdeal.Body

end
-- ==== Proof.Keep.lean ====
/-
  The selection of blocks read at an element: the accumulated counts are the ranks of the scores, and the bias of a kept block
  is zero, of any other minus infinity.
-/
module

public import proofs.«01_k».proof.Proof.Cell
public import proofs.«01_k».proof.Proof.Rank

@[expose] public section

set_option backward.proofsInPublic true

noncomputable section

namespace Cert.KernelIdeal.Body

open Cert.KernelIdeal Cert.KernelIdeal.Gen
open Idealize.ShloMosaic
open Cert.Soft Cert.Spec

theorem group_apply (score : FVec Ideal S64x512 .f32) (g : ℕ) (hg : g < 8) (x : Fin 8) (c : Fin 512) :
    group score g (ix2 x c) = score (ix2 ⟨8 * g + x.val, by omega⟩ c) := by
  have hx := x.isLt
  have e : g.blt 8 = true := by simpa [Nat.blt_eq] using hg
  unfold group
  rw [e, cond_true]
  pointwise
  first | done | (congr 2; first | done | (apply Fin.ext; show _ = _; simp [Nat.mod_eq_of_lt hg]))

theorem rowOf_apply (score : FVec Ideal S64x512 .f32) (n : ℕ) (hn : n < 64) (x : Fin 8) (c : Fin 512) :
    rowOf score n (ix2 x c) = score (ix2 ⟨n, hn⟩ c) := by
  pointwise [rowOf]
  rw [group_apply score (n / 8) (by omega)]
  congr 2
  apply Fin.ext
  show 8 * (n / 8) + n % 8 = n
  omega

theorem ones_apply (p : IVec S8x512 1) (x : Fin 8) (c : Fin 512) (b : Bool) (h : p (ix2 x c) = BitVec.ofBool b) :
    ones (F := Ideal) p (ix2 x c) = if b then 1 else 0 := by
  pointwise [ones]
  rw [h]
  cases b <;> rfl

theorem cmp_bool (score : FVec Ideal S64x512 .f32) (g n : ℕ) (hg : g < 8) (hn : n < 64) (x : Fin 8) (c : Fin 512) :
    cmpf .oge (rowOf score n) (group score g) (ix2 x c) = BitVec.ofBool (decide (score (ix2 ⟨8 * g + x.val, by omega⟩ c) ≤ score (ix2 ⟨n, hn⟩ c)))
      ∧ cmpf .ogt (rowOf score n) (group score g) (ix2 x c) = BitVec.ofBool (decide (score (ix2 ⟨8 * g + x.val, by omega⟩ c) < score (ix2 ⟨n, hn⟩ c))) := by
  rw [← rowOf_apply score n hn x c, ← group_apply score g hg x c]
  exact ⟨rfl, rfl⟩

theorem later_apply (n : ℕ) (x : Fin 8) (c : Fin 512) :
    broadcastTo S8x512 (shapeCast S8x1 (cmpi .sgt (iota .tc S8x1 32 [0] iota_S8x1_d0_w32) (broadcast S8x1 (BitVec.ofNat 32 (n % 8)))) shapeCasts_S8x1_S8x1) broadcasts_S8x1_S8x512 (ix2 x c)
      = BitVec.ofBool (decide (n % 8 < x.val)) := by
  have hx := x.isLt
  pointwise
  rw [Word.sgt_nat _ _ (by omega) (by omega)]

/-- A block's indicator of beating another. -/
def ind (b : Bool) : EReal := if b then 1 else 0

theorem beats_apply (score : FVec Ideal S64x512 .f32) (g n : ℕ) (hg : g < 8) (hn : n < 64) (x : Fin 8) (c : Fin 512) :
    beats score g n (ix2 x c) = ind (Cert.Top.beats (fun b : Fin 64 => score (ix2 b c)) ⟨n, hn⟩ ⟨8 * g + x.val, by omega⟩) := by
  have hx := x.isLt
  obtain ⟨hge, hgt⟩ := cmp_bool score g n hg hn x c
  have h1 : ones (F := Ideal) (cmpf .oge (rowOf score n) (group score g)) (ix2 x c) = ind _ := ones_apply _ x c _ hge
  have h2 : ones (F := Ideal) (cmpf .ogt (rowOf score n) (group score g)) (ix2 x c) = ind _ := ones_apply _ x c _ hgt
  have ge_beats : n < 8 * g + x.val → decide (score (ix2 ⟨8 * g + x.val, by omega⟩ c) ≤ score (ix2 ⟨n, hn⟩ c)) = Cert.Top.beats (fun b : Fin 64 => score (ix2 b c)) ⟨n, hn⟩ ⟨8 * g + x.val, by omega⟩ := fun h => by
    rw [Bool.eq_iff_iff]
    simp only [Cert.Top.beats, Bool.or_eq_true, Bool.and_eq_true, decide_eq_true_eq, Fin.lt_def]
    constructor
    · intro hle; rcases hle.lt_or_eq with hl | hl
      · exact Or.inl hl
      · exact Or.inr ⟨hl.symm, h⟩
    · rintro (hl | ⟨hl, _⟩)
      · exact hl.le
      · exact hl.ge
  have gt_beats : ¬ n < 8 * g + x.val → decide (score (ix2 ⟨8 * g + x.val, by omega⟩ c) < score (ix2 ⟨n, hn⟩ c)) = Cert.Top.beats (fun b : Fin 64 => score (ix2 b c)) ⟨n, hn⟩ ⟨8 * g + x.val, by omega⟩ := fun h => by
    rw [Bool.eq_iff_iff]
    simp only [Cert.Top.beats, Bool.or_eq_true, Bool.and_eq_true, decide_eq_true_eq, Fin.lt_def]
    constructor
    · exact Or.inl
    · rintro (hl | ⟨_, hl⟩)
      · exact hl
      · exact absurd hl h
  unfold beats
  by_cases c1 : n / 8 < g
  · rw [show (n / 8).blt g = true by simpa [Nat.blt_eq] using c1, cond_true, h1, ge_beats (by omega)]
  rw [show (n / 8).blt g = false by simpa [Bool.eq_false_iff, Nat.blt_eq] using c1, cond_false]
  by_cases c2 : g < n / 8
  · rw [show g.blt (n / 8) = true by simpa [Nat.blt_eq] using c2, cond_true, h2, gt_beats (by omega)]
  rw [show g.blt (n / 8) = false by simpa [Bool.eq_false_iff, Nat.blt_eq] using c2, cond_false]
  show Scalar.select _ _ _ = _
  rw [later_apply, Word.select_bool, h1, h2]
  by_cases c3 : n % 8 < x.val
  · rw [if_pos c3, ge_beats (by omega)]
  · rw [if_neg c3, gt_beats (by omega)]

theorem rank_apply (score : FVec Ideal S64x512 .f32) (g : ℕ) (hg : g < 8) (x : Fin 8) (c : Fin 512) (n : ℕ) (hn : n ≤ 64) :
    rank score g n (ix2 x c) = ∑ a : Fin n, ind (Cert.Top.beats (fun b : Fin 64 => score (ix2 b c)) (a.castLE hn) ⟨8 * g + x.val, by omega⟩) := by
  induction n with
  | zero =>
    have : rank score g 0 (ix2 x c) = Ideal.ofBits .f32 0x00000000#32 := rfl
    rw [this, Ideal.ofBits_zero_f32]; simp
  | succ n ih =>
    have : rank score g (n + 1) (ix2 x c) = rank score g n (ix2 x c) + beats score g n (ix2 x c) := rfl
    rw [this, ih (by omega), beats_apply score g n hg (by omega), Fin.sum_univ_castSucc]
    rfl

theorem rank_card (score : FVec Ideal S64x512 .f32) (g : ℕ) (hg : g < 8) (x : Fin 8) (c : Fin 512) :
    rank score g 64 (ix2 x c) = ((Cert.Top.rank (fun b : Fin 64 => score (ix2 b c)) ⟨8 * g + x.val, by omega⟩ : ℝ) : EReal) := by
  rw [rank_apply score g hg x c 64 le_rfl, Cert.Top.rank, Finset.card_filter]
  push_cast
  rw [Soft.coe_sum]
  refine Finset.sum_congr rfl fun a _ => ?_
  unfold ind
  show (if Cert.Top.beats _ a _ = true then (1 : EReal) else 0) = _
  split <;> simp

theorem sixteen : Ideal.ofBits .f32 0x41800000#32 = ((16 : ℝ) : EReal) := by
  simp [Ideal.ofBits, Ideal.ieee, -EReal.coe_mul]; norm_num

/-- How many blocks beat each block. -/
def ranks (score : FVec Ideal S64x512 .f32) : FVec Ideal S64x512 .f32 :=
  concatenate S64x512 0
    [⟨S8x512, rank score 0 64⟩, ⟨S8x512, rank score 1 64⟩, ⟨S8x512, rank score 2 64⟩, ⟨S8x512, rank score 3 64⟩,
      ⟨S8x512, rank score 4 64⟩, ⟨S8x512, rank score 5 64⟩, ⟨S8x512, rank score 6 64⟩, ⟨S8x512, rank score 7 64⟩]
    concatenates_S8x512_S8x512_S8x512_S8x512_S8x512_S8x512_S8x512_S8x512_S64x512_d0

theorem ranks_apply (score : FVec Ideal S64x512 .f32) (b : Fin 64) (c : Fin 512) :
    ranks score (ix2 b c) = ((Cert.Top.rank (fun b : Fin 64 => score (ix2 b c)) b : ℝ) : EReal) := by
  have hb := b.isLt
  pointwise [ranks]
  split_ifs <;> rw [rank_card _ _ (by decide)] <;> (congr 4; dsimp only; omega)

/-- Which blocks are kept. -/
def keepMask (score : FVec Ideal S64x512 .f32) : IVec S64x512 1 :=
  andi (cmpf .olt (ranks score) (broadcast S64x512 (Scalar.ofBits .f32 0x41800000#32))) (cmpf .ogt score (broadcast S64x512 (Scalar.ofBits .f32 0xFF800000#32)))

theorem keepMask_apply (score : FVec Ideal S64x512 .f32) (b : Fin 64) (c : Fin 512) :
    keepMask score (ix2 b c) = BitVec.ofBool (decide (Cert.Top.rank (fun b : Fin 64 => score (ix2 b c)) b < 16 ∧ ⊥ < score (ix2 b c))) := by
  have h1 : cmpf .olt (ranks score) (broadcast S64x512 (Scalar.ofBits .f32 0x41800000#32)) (ix2 b c) = BitVec.ofBool (decide (Cert.Top.rank (fun b : Fin 64 => score (ix2 b c)) b < 16)) := by
    show BitVec.ofBool (decide (ranks score (ix2 b c) < Ideal.ofBits .f32 0x41800000#32)) = _
    rw [ranks_apply, sixteen]
    congr 2
    rw [EReal.coe_lt_coe_iff]
    exact propext (by exact_mod_cast Iff.rfl)
  have h2 : cmpf .ogt score (broadcast S64x512 (Scalar.ofBits .f32 0xFF800000#32)) (ix2 b c) = BitVec.ofBool (decide (⊥ < score (ix2 b c))) := by
    show BitVec.ofBool (decide (Ideal.ofBits .f32 0xFF800000#32 < score (ix2 b c))) = _
    rw [Word.neg_inf]
  show IntOp.andi _ _ = _
  rw [h1, h2, Word.andi_bool]

theorem biasOf_eq (score : FVec Ideal S64x512 .f32) :
    biasOf score = truncf .bf16 (concatenate S128x512 0
      [⟨S64x512, select (keepMask score) (broadcast S64x512 (Scalar.ofBits .f32 0x00000000#32)) (broadcast S64x512 (Named.named κ "drop" 0xC7000000#32))⟩,
        ⟨S64x512, broadcast S64x512 (Named.named κ "drop" 0xC7000000#32)⟩]
      concatenates_S64x512_S64x512_S128x512_d0) bitsLt_bf16_f32 := rfl

/-- The bias of a kept block is zero and of any other minus infinity. -/
theorem biasOf_apply (score : FVec Ideal S64x512 .f32) (b : Fin 64) (h) (c : Fin 512) :
    biasOf score (ix2 ⟨b.val, h⟩ c) = if Cert.Top.rank (fun b : Fin 64 => score (ix2 b c)) b < 16 ∧ ⊥ < score (ix2 b c) then 0 else ⊥ := by
  rw [biasOf_eq]
  pointwise
  rw [keepMask_apply, Word.select_bool, drop_bot]
end Cert.KernelIdeal.Body

end
-- ==== Proof.Facts.lean ====
/-
  Facts about the attention of one query position whose queries and keys are real numbers.
-/
module

public import proofs.«01_k».proof.Proof.Spec

@[expose] public section

noncomputable section

namespace Cert.Spec

open Idealize.ShloMosaic Cert.Soft

/-- A value that is a real number. -/
def Real' (x : EReal) : Prop := ∃ r : ℝ, x = (r : EReal)

theorem Real'.ne_top {x : EReal} (h : Real' x) : x ≠ ⊤ := by obtain ⟨r, rfl⟩ := h; exact EReal.coe_ne_top r

theorem Real'.ne_bot {x : EReal} (h : Real' x) : x ≠ ⊥ := by obtain ⟨r, rfl⟩ := h; exact EReal.coe_ne_bot r

theorem Real'.neg_ne_top {x : EReal} (h : Real' x) : -x ≠ ⊤ := by
  obtain ⟨r, rfl⟩ := h
  rw [← EReal.coe_neg]
  exact EReal.coe_ne_top _

theorem Real'.mul {x y : EReal} (h : Real' x) (h' : Real' y) : Real' (x * y) := by
  obtain ⟨r, rfl⟩ := h
  obtain ⟨s, rfl⟩ := h'
  exact ⟨r * s, (EReal.coe_mul r s).symm⟩

theorem Real'.add {x y : EReal} (h : Real' x) (h' : Real' y) : Real' (x + y) := by
  obtain ⟨r, rfl⟩ := h
  obtain ⟨s, rfl⟩ := h'
  exact ⟨r + s, (EReal.coe_add r s).symm⟩

theorem Real'.sum {ι : Type} (s : Finset ι) (f : ι → EReal) (h : ∀ i, Real' (f i)) : Real' (∑ i ∈ s, f i) := by
  choose r hr using h
  exact ⟨∑ i ∈ s, r i, by rw [coe_sum]; exact Finset.sum_congr rfl fun i _ => hr i⟩

theorem Real'.zero : Real' 0 := ⟨0, rfl⟩

theorem Real'.one : Real' 1 := ⟨1, rfl⟩

theorem dot_real (k q : Fin 128 → EReal) (hk : ∀ d, Real' (k d)) (hq : ∀ d, Real' (q d)) : Real' (dot k q) :=
  Real'.sum _ _ fun d => (hk d).mul (hq d)

theorem eps_real : ∃ e : ℝ, 0 < e ∧ eps = (e : EReal) := by
  unfold eps
  simp only [Ideal.ofBits, Ideal.ieee]
  norm_num [-EReal.coe_mul]
  refine ⟨_, ?_, rfl⟩
  rw [if_neg (by decide)]
  positivity

theorem forced_real : Real' (Ideal.ofBits .f32 0x49742400#32) := by
  simp only [Ideal.ofBits, Ideal.ieee]
  norm_num [-EReal.coe_mul]
  exact ⟨_, rfl⟩

variable (D : Data)

/-- The queries and the keys of the selected and the windowed branch are real numbers. -/
structure Data.Finite : Prop where
  q : ∀ r d, Real' (D.q r d)
  ks : ∀ k d, Real' (D.ks k d)
  kw : ∀ k d, Real' (D.kw k d)

variable {D}

/-- The compressed scores of a head. -/
abbrev Data.cscore (D : Data) (r : Fin 4) : ℕ → EReal := cs D.t fun n => dot (D.kc n) (D.q r)

theorem cs_bot (D : Data) (r : Fin 4) (n : ℕ) (hn : 255 ≤ n) : D.cscore r n = ⊥ := by
  unfold Data.cscore cs
  rw [if_neg (by omega)]

theorem cs_early (D : Data) (r : Fin 4) (n : ℕ) (ht : D.t < 31) : D.cscore r n = ⊥ := by
  unfold Data.cscore cs
  rw [if_neg (by omega)]

/-- The sum the compressed weights are divided by. -/
theorem floor_real (D : Data) (r : Fin 4) : ∃ e : ℝ, 0 < e ∧ max (den (D.cscore r) 256) eps = (e : EReal) := by
  obtain ⟨x, hx, e1⟩ := den_real (D.cscore r) 256
  obtain ⟨y, hy, e2⟩ := eps_real
  exact ⟨max x y, lt_max_of_lt_right hy, by rw [e1, e2]; exact (EReal.coe_strictMono.monotone.map_max).symm⟩

/-- The compressed weight as the reference writes it. -/
theorem p_eq (D : Data) (r : Fin 4) (n : ℕ) :
    D.p r n = Ideal.div (wt (top (D.cscore r) 256) (D.cscore r n)) (max (den (D.cscore r) 256) eps) := by
  obtain ⟨e, he, e1⟩ := floor_real D r
  rw [Data.p, cw]
  change wt (top (D.cscore r) 256) (D.cscore r n) * Ideal.div (if 31 ≤ D.t then 1 else 0) (max (den (D.cscore r) 256) eps) = _
  rw [e1, div_coe _ he, div_coe _ he]
  split
  · rw [one_mul]
  · rw [cs_early D r n (by omega), wt_bot, zero_mul, zero_mul]

theorem p_real (D : Data) (r : Fin 4) (n : ℕ) (hn : n < 256) : Real' (D.p r n) := by
  obtain ⟨e, he, e1⟩ := floor_real D r
  rw [p_eq D, e1, div_coe _ he]
  obtain ⟨x, -, e2⟩ := wt_real (top_le (D.cscore r) hn)
  exact Real'.mul ⟨x, e2⟩ ⟨_, rfl⟩

theorem p_bot (D : Data) (r : Fin 4) (n : ℕ) (hn : 255 ≤ n) : D.p r n = 0 := by
  rw [Data.p, cw]
  change wt (top (D.cscore r) 256) (D.cscore r n) * _ = _
  rw [cs_bot D r n hn, wt_bot, zero_mul]

theorem hit_real (b n : ℕ) : Real' (hit b n) := by
  unfold hit
  split
  · exact Real'.one
  · exact Real'.zero

theorem imp_real (D : Data) (b : ℕ) : Real' (imp D.p b) :=
  Real'.sum _ _ fun n => (hit_real b n).mul ((((p_real D 0 n n.isLt).add (p_real D 1 n n.isLt)).add (p_real D 2 n n.isLt)).add (p_real D 3 n n.isLt))

theorem score_real (D : Data) (b : Fin 64) : Real' (score D.t D.p b) ∨ score D.t D.p b = ⊥ := by
  unfold score
  split
  · exact .inl forced_real
  · split
    · exact .inl (imp_real D b)
    · exact .inr rfl

theorem score_causal (b : Fin 64) (hb : score D.t D.p b ≠ ⊥) : b.val * 64 ≤ D.t := by
  unfold score at hb
  split at hb
  · omega
  · split at hb
    · assumption
    · exact absurd rfl hb

/-- Some block with a key at or before the query's position is selected. -/
theorem exists_kept : ∃ b : Fin 64, kept D.t D.p b ∧ b.val * 64 ≤ D.t := by
  have hr := Cert.Top.rank_sortedFrom (score D.t D.p) 0
  generalize sortedFrom (Cert.Top.beats (score D.t D.p)) 0 = b at hr
  have h0 : score D.t D.p 0 ≠ ⊥ := by
    have : score D.t D.p 0 = Ideal.ofBits .f32 0x49742400#32 := by
      unfold score
      exact if_pos (Or.inl rfl)
    rw [this]
    exact forced_real.ne_bot
  have hb : score D.t D.p 0 ≤ score D.t D.p b := by
    by_contra hlt
    rw [Cert.Top.rank, Fin.val_zero, Finset.card_eq_zero] at hr
    have : (0 : Fin 64) ∈ (∅ : Finset (Fin 64)) := by
      rw [← hr]
      refine Finset.mem_filter.mpr ⟨Finset.mem_univ _, ?_⟩
      simp [Cert.Top.beats, not_le.mp hlt]
    exact absurd this (Finset.notMem_empty _)
  have hbot : ⊥ < score D.t D.p b := (bot_lt_iff_ne_bot.mpr h0).trans_le hb
  exact ⟨b, ⟨by rw [hr]; decide, hbot⟩, score_causal b hbot.ne'⟩

theorem ss_ne_top (h : D.Finite) (r : Fin 4) (k : ℕ) : D.sscore r k ≠ ⊤ := by
  unfold Data.sscore ss
  split
  · exact (dot_real _ _ (h.ks _) (h.q r)).ne_top
  · exact bot_ne_top

theorem ss_key (h : D.Finite) (ht : D.t < 4096) (r : Fin 4) : ∃ k < 4096, D.sscore r k ≠ ⊥ := by
  obtain ⟨b, hk, hb⟩ := exists_kept (D := D)
  refine ⟨b.val * 64, by omega, ?_⟩
  unfold Data.sscore ss
  rw [if_pos ⟨hb, by rw [Nat.mul_div_cancel _ (by omega), fk_val]; exact hk⟩]
  exact (dot_real _ _ (h.ks _) (h.q r)).ne_bot

theorem ws_ne_top (h : D.Finite) (r : Fin 4) (k : ℕ) : D.wscore r k ≠ ⊤ := by
  unfold Data.wscore ws
  split
  · exact (dot_real _ _ (h.kw _) (h.q r)).ne_top
  · exact bot_ne_top

theorem ws_key (h : D.Finite) (r : Fin 4) : D.wscore r D.t ≠ ⊥ := by
  unfold Data.wscore ws
  rw [if_pos ⟨le_rfl, by omega⟩]
  exact (dot_real _ _ (h.kw _) (h.q r)).ne_bot

end Cert.Spec

end
-- ==== Proof.BlockVal.lean ====
/-
  The kernel's output block is the attention of the data in its staged blocks.
-/
module

public import proofs.«01_k».proof.Proof.FlashVal
public import proofs.«01_k».proof.Proof.Branch
public import proofs.«01_k».proof.Proof.Out
public import proofs.«01_k».proof.Proof.Keep
public import proofs.«01_k».proof.Proof.Facts

@[expose] public section

set_option backward.proofsInPublic true

set_option maxRecDepth 65536

noncomputable section

namespace Cert.KernelIdeal.Body

open Cert.KernelIdeal Cert.KernelIdeal.Gen
open Idealize.ShloMosaic
open Cert.Soft Cert.Spec

/-- Four blocks of 128 columns stored side by side, read at an element of each. -/
theorem read_four (v : View sig .tc .vmem S512x512 .f32) (f : v.ty.Contents (Elt Ideal)) (w3 w2 w1 w0 : S512x128.Idx → Elt Ideal .f32) (x : Fin 512) (d : Fin 128) :
    let L : List (View.Piece (Elt Ideal) S512x512 .f32) := [⟨Rect.unit (s := S512x512) ![0, 384] S512x128.size inb_S512x512_S512x128_0_384, w3⟩, ⟨Rect.unit (s := S512x512) ![0, 256] S512x128.size inb_S512x512_S512x128_0_256, w2⟩,
      ⟨Rect.unit (s := S512x512) ![0, 128] S512x128.size inb_S512x512_S512x128_0_128, w1⟩, ⟨Rect.unit (s := S512x512) ![0, 0] S512x128.size inb_S512x512_S512x128_0_0, w0⟩]
    v.read (Elt Ideal) (v.writes (Elt Ideal) f L) (ix2 x ⟨384 + d.val, by omega⟩) = w3 (ix2 x d)
      ∧ v.read (Elt Ideal) (v.writes (Elt Ideal) f L) (ix2 x ⟨256 + d.val, by omega⟩) = w2 (ix2 x d)
      ∧ v.read (Elt Ideal) (v.writes (Elt Ideal) f L) (ix2 x ⟨128 + d.val, by omega⟩) = w1 (ix2 x d)
      ∧ v.read (Elt Ideal) (v.writes (Elt Ideal) f L) (ix2 x ⟨0 + d.val, by omega⟩) = w0 (ix2 x d) := by
  have hd := d.isLt
  intro L
  refine ⟨?_, ?_, ?_, ?_⟩
  · exact View.read_writes_cons_unit_of_mem v f _ w3 _ _ (ix2 x d) rfl (Fin.forall_fin_two.mpr ⟨(Nat.zero_add _).symm, rfl⟩)
  · refine (View.read_writes_cons_unit_of_not_mem v f _ w3 _ _ rfl 1 (Or.inl (show 256 + d.val < 384 by omega))).trans ?_
    exact View.read_writes_cons_unit_of_mem v f _ w2 _ _ (ix2 x d) rfl (Fin.forall_fin_two.mpr ⟨(Nat.zero_add _).symm, rfl⟩)
  · refine (View.read_writes_cons_unit_of_not_mem v f _ w3 _ _ rfl 1 (Or.inl (show 128 + d.val < 384 by omega))).trans ?_
    refine (View.read_writes_cons_unit_of_not_mem v f _ w2 _ _ rfl 1 (Or.inl (show 128 + d.val < 256 by omega))).trans ?_
    exact View.read_writes_cons_unit_of_mem v f _ w1 _ _ (ix2 x d) rfl (Fin.forall_fin_two.mpr ⟨(Nat.zero_add _).symm, rfl⟩)
  · refine (View.read_writes_cons_unit_of_not_mem v f _ w3 _ _ rfl 1 (Or.inl (show 0 + d.val < 384 by omega))).trans ?_
    refine (View.read_writes_cons_unit_of_not_mem v f _ w2 _ _ rfl 1 (Or.inl (show 0 + d.val < 256 by omega))).trans ?_
    refine (View.read_writes_cons_unit_of_not_mem v f _ w1 _ _ rfl 1 (Or.inl (show 0 + d.val < 128 by omega))).trans ?_
    exact View.read_writes_cons_unit_of_mem v f _ w0 _ _ (ix2 x d) rfl (Fin.forall_fin_two.mpr ⟨(Nat.zero_add _).symm, rfl⟩)

theorem lane_col (r : Fin 4) (x : Fin 512) : lane (col r x).val = x := by
  have hx := x.isLt
  apply Fin.ext
  show (512 * r.val + x.val) % 512 = x.val
  omega

theorem tq_col (i : grid0.Coords) (r : Fin 4) (x : Fin 512) : tq i (col r x) = (i 2).val * 512 + x.val := by
  have hx := x.isLt
  show (i 2).val * 512 + (512 * r.val + x.val) % 512 = _
  omega

/-- The head of a column. -/
def hd (l : Fin 2048) : Fin 4 := ⟨l.val / 512, by omega⟩

theorem hd_col (r : Fin 4) (x : Fin 512) : hd (col r x) = r := by
  have hx := x.isLt
  apply Fin.ext
  show (512 * r.val + x.val) / 512 = r.val
  omega

theorem col_hd (l : Fin 2048) : col (hd l) (lane l.val) = l := by
  apply Fin.ext
  show 512 * (l.val / 512) + l.val % 512 = l.val
  omega

/-- The data the blocks of one grid point hold for the query at column `x`. -/
def blk (i : grid0.Coords) (X3 : FVec Ideal S4x1x128x512 .bf16) (X4 : FVec Ideal S1x1x256x128 .bf16) (X5 : FVec Ideal S1x1x128x256 .bf16) (X6 : FVec Ideal S1x1x4096x128 .bf16)
    (X7 : FVec Ideal S1x1x128x4096 .bf16) (X8 : FVec Ideal S1x1x4096x128 .bf16) (X9 : FVec Ideal S1x1x128x4096 .bf16) (X12 : FVec Ideal S512x128 .f32) (x : Fin 512) : Data where
  t := (i 2).val * 512 + x.val
  q r d := X3 (ix4 r 0 d x)
  kc n d := X4 (ix4 0 0 n d)
  vc d n := X5 (ix4 0 0 d n)
  ks k d := X6 (ix4 0 0 k d)
  vs d k := X7 (ix4 0 0 d k)
  kw k d := X8 (ix4 0 0 k d)
  vw d k := X9 (ix4 0 0 d k)
  gl r b := X12 (ix2 x ⟨12 * (i 1).val + (⟨3 * r.val + b.val, by omega⟩ : Fin 12).val, gate_lt i _⟩)

theorem p_all (D : Data) (r : Fin 4) (n : ℕ) : ∃ x : ℝ, D.p r n = (x : EReal) := by
  by_cases hn : n < 255
  · exact p_real D r n (by omega)
  · rw [p_eq D]
    obtain ⟨e, he, e1⟩ := floor_real D r
    have e2 : D.cscore r n = ⊥ := if_neg fun h => hn h.2
    rw [e1, e2, wt_bot, div_coe _ he]
    exact ⟨0, by simp⟩

variable (c : Dev nD) (i : grid0.Coords) (M3 : Memref sig .tc .vmem S4x1x128x512 .bf16) (h3 : M3.IsWhole) (M4 : Memref sig .tc .vmem S1x1x256x128 .bf16) (h4 : M4.IsWhole) (M5 : Memref sig .tc .vmem S1x1x128x256 .bf16) (h5 : M5.IsWhole) (M6 : Memref sig .tc .vmem S1x1x4096x128 .bf16) (h6 : M6.IsWhole) (M7 : Memref sig .tc .vmem S1x1x128x4096 .bf16) (h7 : M7.IsWhole)
  (M8 : Memref sig .tc .vmem S1x1x4096x128 .bf16) (h8 : M8.IsWhole) (M9 : Memref sig .tc .vmem S1x1x128x4096 .bf16) (h9 : M9.IsWhole) (M10 : Memref sig .tc .vmem S4096x128 .bf16) (h10 : M10.IsWhole) (M11 : Memref sig .tc .vmem S1x1024x512 .f32) (h11 : M11.IsWhole) (M12 : Memref sig .tc .vmem S512x128 .f32) (h12 : M12.IsWhole) (M13 : Memref sig .tc .vmem S512x512 .f32) (h13 : M13.IsWhole) (M14 : Memref sig .tc .vmem S128x512 .f32) (h14 : M14.IsWhole)

variable (X3 : FVec Ideal S4x1x128x512 .bf16) (X4 : FVec Ideal S1x1x256x128 .bf16) (X5 : FVec Ideal S1x1x128x256 .bf16) (X6 : FVec Ideal S1x1x4096x128 .bf16)
  (X7 : FVec Ideal S1x1x128x4096 .bf16) (X8 : FVec Ideal S1x1x4096x128 .bf16) (X9 : FVec Ideal S1x1x128x4096 .bf16) (X10 : FVec Ideal S4096x128 .bf16)
  (X11 : FVec Ideal S1x1024x512 .f32) (X12 : FVec Ideal S512x128 .f32)

theorem p16_col (r : Fin 4) (x : Fin 512) (n : Fin 256) :
    k0_pay16 (F := Ideal) (k0_pay11 i) (k0_pay12 i) (c27 X3 X4) k0_pay14 k0_pay15 (ix2 n (col r x)) = (blk i X3 X4 X5 X6 X7 X8 X9 X12 x).p r n.val := by
  rw [p16_apply, cmpScore, tq_col]
  simp only [c27_apply]
  rfl

/-- The compressed branch. -/
theorem cmp_val (r : Fin 4) (x : Fin 512) (d : Fin 128) :
    run.sl.v54 (F := Ideal) c i M3 M4 M5 (h3.unread X3) (h4.unread X4) (h5.unread X5) (ix2 d (col r x)) = (blk i X3 X4 X5 X6 X7 X8 X9 X12 x).ocmp r d := by
  rw [v54_apply, Data.ocmp]
  refine Finset.sum_congr rfl fun n _ => ?_
  rw [← p16_apply, p16_col i X3 X4 X5 X6 X7 X8 X9 X12 r x n]
  rfl

/-- The scores of the blocks. -/
theorem score_val (hF : ∀ x : Fin 512, (blk i X3 X4 X5 X6 X7 X8 X9 X12 x).Finite) (x : Fin 512) (b : Fin 64) :
    run.sl.v142 (F := Ideal) c i M3 M4 (h3.unread X3) (h4.unread X4) (ix2 b x) = score (blk i X3 X4 X5 X6 X7 X8 X9 X12 x).t (blk i X3 X4 X5 X6 X7 X8 X9 X12 x).p b := by
  rw [v142_eq]
  exact p25_apply i _ (blk i X3 X4 X5 X6 X7 X8 X9 X12 x).p x (fun n r => p16_col i X3 X4 X5 X6 X7 X8 X9 X12 r x n) (fun r n => p_all _ r n) b

/-- The bias row of a block is zero for a kept block and minus infinity for another. -/
theorem bias_val (hF : ∀ x : Fin 512, (blk i X3 X4 X5 X6 X7 X8 X9 X12 x).Finite) (x : Fin 512) (b : Fin 64) (h : b.val < 128) (y : EReal) :
    (kept (blk i X3 X4 X5 X6 X7 X8 X9 X12 x).t (blk i X3 X4 X5 X6 X7 X8 X9 X12 x).p b → y + run.sl.r_2 (F := Ideal) c i M3 M4 (h3.unread X3) (h4.unread X4) (ix2 ⟨b.val, h⟩ x) = y)
      ∧ (¬ kept (blk i X3 X4 X5 X6 X7 X8 X9 X12 x).t (blk i X3 X4 X5 X6 X7 X8 X9 X12 x).p b → y + run.sl.r_2 (F := Ideal) c i M3 M4 (h3.unread X3) (h4.unread X4) (ix2 ⟨b.val, h⟩ x) = ⊥) := by
  rw [bias_eq, biasOf_apply]
  have e : (fun b : Fin 64 => run.sl.v142 (F := Ideal) c i M3 M4 (h3.unread X3) (h4.unread X4) (ix2 b x)) = score (blk i X3 X4 X5 X6 X7 X8 X9 X12 x).t (blk i X3 X4 X5 X6 X7 X8 X9 X12 x).p :=
    funext fun b => score_val c i M3 h3 M4 h4 X3 X4 X5 X6 X7 X8 X9 X12 hF x b
  rw [e, score_val c i M3 h3 M4 h4 X3 X4 X5 X6 X7 X8 X9 X12 hF x b]
  constructor
  · intro hk
    exact (congrArg (y + ·) (if_pos hk)).trans (add_zero y)
  · intro hk
    exact (congrArg (y + ·) (if_neg hk)).trans (EReal.add_bot y)

/-- The score of a key with its block's bias. -/
theorem raw_val (hF : ∀ x : Fin 512, (blk i X3 X4 X5 X6 X7 X8 X9 X12 x).Finite) (hE : ∀ (k : Fin 4096) (j : Fin 128), X10 (ix2 k j) = if j.val = k.val / 64 then 1 else 0) (r : Fin 4) (x : Fin 512) (k : ℕ) (hk : k < 4096) :
    (kept (blk i X3 X4 X5 X6 X7 X8 X9 X12 x).t (blk i X3 X4 X5 X6 X7 X8 X9 X12 x).p (fk 64 (k / 64)) → rawS (qOf X3) (run.sl.r_2 (F := Ideal) c i M3 M4 (h3.unread X3) (h4.unread X4)) X6 X10 (col r x) k = dot ((blk i X3 X4 X5 X6 X7 X8 X9 X12 x).ks (fk 4096 k)) ((blk i X3 X4 X5 X6 X7 X8 X9 X12 x).q r))
      ∧ (¬ kept (blk i X3 X4 X5 X6 X7 X8 X9 X12 x).t (blk i X3 X4 X5 X6 X7 X8 X9 X12 x).p (fk 64 (k / 64)) → rawS (qOf X3) (run.sl.r_2 (F := Ideal) c i M3 M4 (h3.unread X3) (h4.unread X4)) X6 X10 (col r x) k = ⊥) := by
  have hb : (fk 64 (k / 64)).val = k / 64 := Nat.mod_eq_of_lt (by omega)
  have e : rawS (qOf X3) (run.sl.r_2 (F := Ideal) c i M3 M4 (h3.unread X3) (h4.unread X4)) X6 X10 (col r x) k
      = dot ((blk i X3 X4 X5 X6 X7 X8 X9 X12 x).ks (fk 4096 k)) ((blk i X3 X4 X5 X6 X7 X8 X9 X12 x).q r) + run.sl.r_2 (F := Ideal) c i M3 M4 (h3.unread X3) (h4.unread X4) (ix2 ⟨(fk 64 (k / 64)).val, by omega⟩ x) := by
    rw [rawS, onehot (fun j => X10 (ix2 (fk 4096 k) j)) (fun j => run.sl.r_2 (F := Ideal) c i M3 M4 (h3.unread X3) (h4.unread X4) (ix2 j (lane (col r x).val))) ⟨(fk 64 (k / 64)).val, by omega⟩ (fun j => ?_), lane_col]
    · simp only [qOf_apply]
      rfl
    · rw [hE, fk_mk k hk]
      refine if_congr ?_ rfl rfl
      rw [Fin.ext_iff]
      show j.val = k / 64 ↔ j.val = (fk 64 (k / 64)).val
      rw [hb]
  rw [e]
  exact bias_val c i M3 h3 M4 h4 X3 X4 X5 X6 X7 X8 X9 X12 hF x (fk 64 (k / 64)) (by omega) _

/-- The selected branch. -/
theorem slc_val (hF : ∀ x : Fin 512, (blk i X3 X4 X5 X6 X7 X8 X9 X12 x).Finite) (hE : ∀ (k : Fin 4096) (j : Fin 128), X10 (ix2 k j) = if j.val = k.val / 64 then 1 else 0) (r : Fin 4) (x : Fin 512) (d : Fin 128) :
    run.sl.v3608 (F := Ideal) c i M7 (h7.unread X7) (flash (F := Ideal) c i M3 h3 M4 h4 M5 h5 M6 h6 M7 h7 M8 h8 M9 h9 M10 h10 M11 h11 M12 h12 M13 h13 M14 h14 (h6.unread X6) (h7.unread X7) (h10.unread X10) (k0_pay11 i) (run.sl.r_3 (F := Ideal) c i M3 M4 (h3.unread X3) (h4.unread X4)) (run.sl.v3520 i) k0_pay732 k0_pay733 (0#32) (run.sl.v3540 i)).1 (flash (F := Ideal) c i M3 h3 M4 h4 M5 h5 M6 h6 M7 h7 M8 h8 M9 h9 M10 h10 M11 h11 M12 h12 M13 h13 M14 h14 (h6.unread X6) (h7.unread X7) (h10.unread X10) (k0_pay11 i) (run.sl.r_3 (F := Ideal) c i M3 M4 (h3.unread X3) (h4.unread X4)) (run.sl.v3520 i) k0_pay732 k0_pay733 (0#32) (run.sl.v3540 i)).2.1 (flash (F := Ideal) c i M3 h3 M4 h4 M5 h5 M6 h6 M7 h7 M8 h8 M9 h9 M10 h10 M11 h11 M12 h12 M13 h13 M14 h14 (h6.unread X6) (h7.unread X7) (h10.unread X10) (k0_pay11 i) (run.sl.r_3 (F := Ideal) c i M3 M4 (h3.unread X3) (h4.unread X4)) (run.sl.v3520 i) k0_pay732 k0_pay733 (0#32) (run.sl.v3540 i)).2.2.1 (flash (F := Ideal) c i M3 h3 M4 h4 M5 h5 M6 h6 M7 h7 M8 h8 M9 h9 M10 h10 M11 h11 M12 h12 M13 h13 M14 h14 (h6.unread X6) (h7.unread X7) (h10.unread X10) (k0_pay11 i) (run.sl.r_3 (F := Ideal) c i M3 M4 (h3.unread X3) (h4.unread X4)) (run.sl.v3520 i) k0_pay732 k0_pay733 (0#32) (run.sl.v3540 i)).2.2.2 (ix2 d (col r x)) = (blk i X3 X4 X5 X6 X7 X8 X9 X12 x).oslc r d := by
  have hi : (i 2).val < 8 := (i 2).isLt
  rw [v3608_eq, r3_eq]
  have hraw := raw_val c i M3 h3 M4 h4 X3 X4 X5 X6 X7 X8 X9 X10 X12 hF hE
  let s : Fin 2048 → ℕ → EReal := fun l => (blk i X3 X4 X5 X6 X7 X8 X9 X12 (lane l.val)).sscore (hd l)
  have key := flash_val c i M3 h3 M4 h4 M5 h5 M6 h6 M7 h7 M8 h8 M9 h9 M10 h10 M11 h11 M12 h12 M13 h13 M14 h14 (qOf X3) (run.sl.r_2 (F := Ideal) c i M3 M4 (h3.unread X3) (h4.unread X4)) X6 X10 X7 (0#32) (run.sl.v3540 i) (s := s)
    (fun l k => ss_ne_top (hF (lane l.val)) (hd l) k)
    (fun l k hk => by
      have h := hraw (hd l) (lane l.val) k (by omega)
      rw [col_hd] at h
      show _ = ss _ _ _ k
      have ht : k ≤ (blk i X3 X4 X5 X6 X7 X8 X9 X12 (lane l.val)).t := by
        show k ≤ (i 2).val * 512 + (lane l.val).val
        omega
      by_cases hc : kept (blk i X3 X4 X5 X6 X7 X8 X9 X12 (lane l.val)).t (blk i X3 X4 X5 X6 X7 X8 X9 X12 (lane l.val)).p (fk 64 (k / 64))
      · rw [h.1 hc, ss, if_pos ⟨ht, hc⟩]
      · rw [h.2 hc, ss, if_neg fun h => hc h.2])
    (fun l y => by
      have h := hraw (hd l) (lane l.val) (512 * (i 2).val + y.val) (by omega)
      rw [col_hd] at h
      show _ = ss _ _ _ (512 * (i 2).val + y.val)
      have ht : (512 * (i 2).val + y.val ≤ (blk i X3 X4 X5 X6 X7 X8 X9 X12 (lane l.val)).t) ↔ y.val ≤ (lane l.val).val := by
        show 512 * (i 2).val + y.val ≤ (i 2).val * 512 + (lane l.val).val ↔ _
        omega
      by_cases hc : kept (blk i X3 X4 X5 X6 X7 X8 X9 X12 (lane l.val)).t (blk i X3 X4 X5 X6 X7 X8 X9 X12 (lane l.val)).p (fk 64 ((512 * (i 2).val + y.val) / 64))
      · rw [h.1 hc, ss]
        by_cases hy : y.val ≤ (lane l.val).val
        · rw [if_pos hy, if_pos ⟨ht.mpr hy, hc⟩, add_zero]
        · rw [if_neg hy, if_neg fun h => hy (ht.mp h.1), EReal.add_bot]
      · rw [h.2 hc, EReal.bot_add, ss, if_neg fun h => hc h.2])
    d (col r x)
  refine key.trans ?_
  have es : s (col r x) = (blk i X3 X4 X5 X6 X7 X8 X9 X12 x).sscore r := by
    show (blk i X3 X4 X5 X6 X7 X8 X9 X12 (lane (col r x).val)).sscore (hd (col r x)) = _
    rw [lane_col, hd_col]
  have hbot : ∀ k, 512 * (i 2).val + 512 ≤ k → k < 4096 → (blk i X3 X4 X5 X6 X7 X8 X9 X12 x).sscore r k = ⊥ := fun k hk _ => by
    refine if_neg fun h => ?_
    have h1 : k ≤ (i 2).val * 512 + x.val := h.1
    omega
  rw [es, Data.oslc, soft, soft, acc_extend _ _ (by omega) hbot, den_extend _ (by omega) hbot]
  rfl

/-- The window branch. -/
theorem win_val (hB : ∀ (y : Fin 1024) (x : Fin 512), X11 (ix3 0 y x) = if y.val ≤ 512 * min (i 2).val 1 + x.val ∧ 512 * min (i 2).val 1 + x.val ≤ y.val + 511 then 0 else ⊥)
    (r : Fin 4) (x : Fin 512) (d : Fin 128) :
    run.sl.v83 (F := Ideal) c i M3 M8 M9 M11 (h3.unread X3) (h8.unread X8) (h9.unread X9) (h11.unread X11) (ix2 d (col r x)) = (blk i X3 X4 X5 X6 X7 X8 X9 X12 x).owin r d := by
  have hi : (i 2).val < 8 := (i 2).isLt
  have ho := off1 i
  have hx := x.isLt
  have hw : 512 * ((i 2).val - 1) + 1024 ≤ 4096 := by omega
  rw [v83_eq, win_apply _ _ _ _ d (col r x) (fun y => (blk i X3 X4 X5 X6 X7 X8 X9 X12 x).wscore r (512 * ((i 2).val - 1) + y)) (fun y => (blk i X3 X4 X5 X6 X7 X8 X9 X12 x).vw d (fk 4096 (512 * ((i 2).val - 1) + y)))]
  · have hbot : ∀ k, k < 4096 → (k < 512 * ((i 2).val - 1) ∨ 512 * ((i 2).val - 1) + 1024 ≤ k) → (blk i X3 X4 X5 X6 X7 X8 X9 X12 x).wscore r k = ⊥ := fun k _ hk => by
      refine if_neg fun h => ?_
      have h1 : k ≤ (i 2).val * 512 + x.val := h.1
      have h2 : (i 2).val * 512 + x.val ≤ k + 511 := h.2
      omega
    rw [Data.owin, soft, soft, acc_shift ((blk i X3 X4 X5 X6 X7 X8 X9 X12 x).wscore r) (fun k => (blk i X3 X4 X5 X6 X7 X8 X9 X12 x).vw d (fk 4096 k)) hw hbot, den_shift _ hw hbot]
  · intro y
    have hy := y.isLt
    rw [ld11, hB, lane_col]
    have e : dot (fun d => View.ld (Val := Elt Ideal) (e' := .bf16) X8 (Rect.unit (s := S1x1x4096x128) (k0_off1 i) S1x1x1024x128.size (k0_off1_inb i)) (ix4 0 0 y d)) (fun d => qOf X3 (ix2 d (col r x)))
        = dot ((blk i X3 X4 X5 X6 X7 X8 X9 X12 x).kw (fk 4096 (512 * ((i 2).val - 1) + y.val))) ((blk i X3 X4 X5 X6 X7 X8 X9 X12 x).q r) := by
      congr 1
      · funext d
        rw [fk_mk _ (show 512 * ((i 2).val - 1) + y.val < 4096 by omega)]
        exact ld8 X8 _ hw ho.1 _ y d
      · funext d
        exact qOf_apply X3 d r x
    have hc : (y.val ≤ 512 * min (i 2).val 1 + x.val ∧ 512 * min (i 2).val 1 + x.val ≤ y.val + 511)
        ↔ (512 * ((i 2).val - 1) + y.val ≤ (blk i X3 X4 X5 X6 X7 X8 X9 X12 x).t ∧ (blk i X3 X4 X5 X6 X7 X8 X9 X12 x).t ≤ 512 * ((i 2).val - 1) + y.val + 511) := by
      show _ ↔ (512 * ((i 2).val - 1) + y.val ≤ (i 2).val * 512 + x.val ∧ (i 2).val * 512 + x.val ≤ 512 * ((i 2).val - 1) + y.val + 511)
      omega
    refine (congrArg (· + _) e).trans ?_
    show _ + _ = ws _ _ _
    rw [add_mask, ws]
    exact if_congr hc rfl rfl
  · intro y
    have hy := y.isLt
    rw [fk_mk _ (show 512 * ((i 2).val - 1) + y.val < 4096 by omega)]
    exact ld9 X9 _ hw ho.2 _ d y

/-- The output block at an element. -/
theorem blk_out (hF : ∀ x : Fin 512, (blk i X3 X4 X5 X6 X7 X8 X9 X12 x).Finite)
    (hE : ∀ (k : Fin 4096) (j : Fin 128), X10 (ix2 k j) = if j.val = k.val / 64 then 1 else 0)
    (hB : ∀ (y : Fin 1024) (x : Fin 512), X11 (ix3 0 y x) = if y.val ≤ 512 * min (i 2).val 1 + x.val ∧ 512 * min (i 2).val 1 + x.val ≤ y.val + 511 then 0 else ⊥)
    (r : Fin 4) (x : Fin 512) (d : Fin 128) :
    M13.view.read (Elt Ideal) (run (F := Ideal) c i M3 h3 M4 h4 M5 h5 M6 h6 M7 h7 M8 h8 M9 h9 M10 h10 M11 h11 M12 h12 M13 h13 M14 h14 (h3.unread X3) (h4.unread X4) (h5.unread X5) (h6.unread X6) (h7.unread X7) (h8.unread X8) (h9.unread X9) (h10.unread X10) (h11.unread X11) (h12.unread X12)).1
      (ix2 x ⟨128 * r.val + d.val, by omega⟩) = (blk i X3 X4 X5 X6 X7 X8 X9 X12 x).out r d := by
  have hd := d.isLt
  have hc := fun r => cmp_val c i M3 h3 M4 h4 M5 h5 X3 X4 X5 X6 X7 X8 X9 X12 r x d
  have hs := fun r => slc_val c i M3 h3 M4 h4 M5 h5 M6 h6 M7 h7 M8 h8 M9 h9 M10 h10 M11 h11 M12 h12 M13 h13 M14 h14 X3 X4 X5 X6 X7 X8 X9 X10 X12 hF hE r x d
  have hw := fun r => win_val c i M3 h3 M8 h8 M9 h9 M11 h11 X3 X4 X5 X6 X7 X8 X9 X11 X12 hB r x d
  rw [run_eq, pieces_eq]
  match r with
  | 0 =>
    refine (read_four _ _ _ _ _ _ x d).2.2.2.trans ?_
    refine (head0 _ _ _ _ _ _ x d).trans ?_
    exact congrArg₂ (· + ·) (congrArg₂ (· + ·) (congrArg₂ (· * ·) (gateRow_apply c i M12 h12 M14 X12 0 (k0_off21_inb i 0) x) (hc 0))
      (congrArg₂ (· * ·) (gateRow_apply c i M12 h12 M14 X12 1 (k0_off21_inb i 1) x) (hs 0)))
      (congrArg₂ (· * ·) (gateRow_apply c i M12 h12 M14 X12 2 (k0_off21_inb i 2) x) (hw 0))
  | 1 =>
    refine (read_four _ _ _ _ _ _ x d).2.2.1.trans ?_
    refine (head1 _ _ _ _ _ _ x d).trans ?_
    exact congrArg₂ (· + ·) (congrArg₂ (· + ·) (congrArg₂ (· * ·) (gateRow_apply c i M12 h12 M14 X12 3 (k0_off21_inb i 3) x) (hc 1))
      (congrArg₂ (· * ·) (gateRow_apply c i M12 h12 M14 X12 4 (k0_off21_inb i 4) x) (hs 1)))
      (congrArg₂ (· * ·) (gateRow_apply c i M12 h12 M14 X12 5 (k0_off21_inb i 5) x) (hw 1))
  | 2 =>
    refine (read_four _ _ _ _ _ _ x d).2.1.trans ?_
    refine (head2 _ _ _ _ _ _ x d).trans ?_
    exact congrArg₂ (· + ·) (congrArg₂ (· + ·) (congrArg₂ (· * ·) (gateRow_apply c i M12 h12 M14 X12 6 (k0_off21_inb i 6) x) (hc 2))
      (congrArg₂ (· * ·) (gateRow_apply c i M12 h12 M14 X12 7 (k0_off21_inb i 7) x) (hs 2)))
      (congrArg₂ (· * ·) (gateRow_apply c i M12 h12 M14 X12 8 (k0_off21_inb i 8) x) (hw 2))
  | 3 =>
    refine (read_four _ _ _ _ _ _ x d).1.trans ?_
    refine (head3 _ _ _ _ _ _ x d).trans ?_
    exact congrArg₂ (· + ·) (congrArg₂ (· + ·) (congrArg₂ (· * ·) (gateRow_apply c i M12 h12 M14 X12 9 (k0_off21_inb i 9) x) (hc 3))
      (congrArg₂ (· * ·) (gateRow_apply c i M12 h12 M14 X12 10 (k0_off21_inb i 10) x) (hs 3)))
      (congrArg₂ (· * ·) (gateRow_apply c i M12 h12 M14 X12 11 (k0_off21_inb i 11) x) (hw 3))

end Cert.KernelIdeal.Body

end
-- ==== Proof.Ref.lean ====
module
public import proofs.«01_k».proof.Proof.Gen.ReferenceIdeal.Read
-- ==== Proof.Read4.lean ====
/-
  The reference's selection and its masked scores, read at an index.
-/
module

public import proofs.«01_k».proof.Proof.Ref
public import proofs.«01_k».proof.Proof.Spec
public import proofs.«01_k».proof.Proof.Word
public import Idealize.ShloMosaic.Lib.Pipeline.ValueKit

@[expose] public section

set_option backward.proofsInPublic true
set_option maxRecDepth 16384
set_option maxHeartbeats 1000000

noncomputable section

namespace Cert.ReferenceIdeal.Value

open Cert.ReferenceIdeal Cert.ReferenceIdeal.Gen Cert.ReferenceIdeal.Read
open Idealize.ShloMosaic
open Cert.Soft Cert.Spec

variable (x0 : FVec Ideal S8x16384x128 .bf16) (x1 : FVec Ideal S24x4x128x4096 .bf16) (x2 : FVec Ideal S2x16x256x128 .bf16) (x3 : FVec Ideal S2x16x128x256 .bf16) (x4 : FVec Ideal S16384x128 .f32)

theorem slice16 {α : Type} (y : S4x4x4096x64.Idx → α) (b g : Fin 4) (t : Fin 4096) (i : Fin 16) :
    extractStridedSlice S4x4x4096x16 (fun _ => 0) y sliceFits_S4x4x4096x64_S4x4x4096x16 (ix4 b g t i) = y (ix4 b g t (i.castLE (by omega))) := by
  unfold extractStridedSlice
  exact congrArg y (funext fun a => Fin.ext (by
    match a with | ⟨0, _⟩ => exact Nat.zero_add _ | ⟨1, _⟩ => exact Nat.zero_add _ | ⟨2, _⟩ => exact Nat.zero_add _ | ⟨3, _⟩ => exact Nat.zero_add _))

theorem along3 (b g : Fin 4) (t : Fin 4096) (n k : Fin 64) (h : 3 < S4x4x4096x64.rank) :
    Shape.Idx.along (s := S4x4x4096x64) (ix4 b g t n) ⟨3, h⟩ k = ix4 b g t k :=
  funext fun a => Fin.ext (by match a with | ⟨0, _⟩ => rfl | ⟨1, _⟩ => rfl | ⟨2, _⟩ => rfl | ⟨3, _⟩ => rfl)

/-- The position of the `i`-th greatest of sixty-four keys. -/
abbrev place (key : Fin 64 → EReal) (i : Fin 16) : Fin 64 := sortedFrom (fun a b => decide (key b < key a)) (i.castLE (by omega))

theorem ofBool_congr {p q : Prop} [Decidable p] [Decidable q] (h : p ↔ q) : BitVec.ofBool (decide p) = BitVec.ofBool (decide q) :=
  congrArg BitVec.ofBool (decide_eq_decide.mpr h)

theorem beq_one (p : Prop) [Decidable p] : (BitVec.ofBool (decide p) == 1#1) = decide p := by by_cases h : p <;> simp [h]

theorem topk_read (x : FVec Ideal S4x4x4096x64 .f32) (b g : Fin 4) (t : Fin 4096) (i : Fin 16) :
    (Host.topK S4x4x4096x16 3 (FloatOps.cmpfTotal .gt) x sliceFits_S4x4x4096x64_S4x4x4096x16).1 (ix4 b g t i)
        = x (ix4 b g t (place (fun n => x (ix4 b g t n)) i))
      ∧ (Host.topK S4x4x4096x16 3 (FloatOps.cmpfTotal .gt) x sliceFits_S4x4x4096x64_S4x4x4096x16).2 (ix4 b g t i)
        = BitVec.ofNat 32 (place (fun n => x (ix4 b g t n)) i).val := by
  have h3 : 3 < S4x4x4096x64.rank := by decide
  have hb : (fun k k' : Fin 64 => (FloatOps.cmpfTotal .gt (x (Shape.Idx.along (s := S4x4x4096x64) (ix4 b g t (i.castLE (by omega))) ⟨3, h3⟩ k))
        (x (Shape.Idx.along (s := S4x4x4096x64) (ix4 b g t (i.castLE (by omega))) ⟨3, h3⟩ k')) : BitVec 1) == 1#1)
      = fun k k' => decide (x (ix4 b g t k') < x (ix4 b g t k)) := funext fun k => funext fun k' => by
    rw [along3, along3]
    exact beq_one _
  have hj := (along3 b g t (i.castLE (by omega)) (sortedFrom (fun k k' : Fin 64 => (FloatOps.cmpfTotal .gt (x (Shape.Idx.along (s := S4x4x4096x64) (ix4 b g t (i.castLE (by omega))) ⟨3, h3⟩ k))
        (x (Shape.Idx.along (s := S4x4x4096x64) (ix4 b g t (i.castLE (by omega))) ⟨3, h3⟩ k')) : BitVec 1) == 1#1) (i.castLE (by omega))) h3).trans
    (congrArg (ix4 b g t) (congrFun (congrArg sortedFrom hb) (i.castLE (by omega))))
  constructor
  · simp only [Host.topK]
    rw [slice16]
    simp only [Host.sort2]
    rw [dif_pos h3]
    exact congrArg x hj
  · simp only [Host.topK]
    rw [slice16]
    simp only [Host.sort2]
    rw [dif_pos h3]
    dsimp only
    rw [dif_pos (show 3 < 4 by decide)]
    unfold iotaInDim
    exact congrArg (fun m : Fin 64 => BitVec.ofNat 32 m.val) (congrFun hj ⟨3, h3⟩)

open Classical in
theorem fold_or {n : ℕ} (P : Fin n → Prop) [DecidablePred P] (s : Finset (Fin n)) :
    Finset.fold IntOp.ori 0#1 (fun x => BitVec.ofBool (decide (P x))) s = BitVec.ofBool (decide (∃ x ∈ s, P x)) := by
  induction s using Finset.induction_on with
  | empty => simp
  | insert a s ha ih =>
    rw [Finset.fold_insert ha, ih, Word.ori_bool]
    exact ofBool_congr (by simp)

open Classical in
theorem v134_read (b g : Fin 4) (t : Fin 4096) (n : Fin 64) (key : Fin 64 → EReal) (hkey : ∀ n, val_main_v120 (F := Ideal) x1 x2 (ix4 b g t n) = key n) (ht : ∀ n, key n ≠ ⊤)
    (hn : ∀ n, -key n ≠ ⊤ ∨ key n = ⊥) :
    val_main_v134 (F := Ideal) x1 x2 (ix4 b g t n) = BitVec.ofBool (decide (Cert.Top.rank key n < 16 ∧ ⊥ < key n)) := by
  have hk : (fun n => val_main_v120 (F := Ideal) x1 x2 (ix4 b g t n)) = key := funext hkey
  have hv : ∀ i : Fin 16, val_main_values (F := Ideal) x1 x2 (ix4 b g t i) = key (place key i) := fun i => by
    unfold val_main_values
    rw [(topk_read _ b g t i).1, hk, hkey]
  have hx : ∀ i : Fin 16, val_main_indices (F := Ideal) x1 x2 (ix4 b g t i) = BitVec.ofNat 32 (place key i).val := fun i => by
    unfold val_main_indices
    rw [(topk_read _ b g t i).2, hk]
  have hf : val_main_v134 (F := Ideal) x1 x2 (ix4 b g t n) = Finset.fold IntOp.ori 0#1 (fun x : Fin 16 =>
      IntOp.andi (IntOp.cmpi .eq (val_main_indices (F := Ideal) x1 x2 (ix4 b g t x)) (BitVec.ofNat 32 n.val))
        (BitVec.ofBool (decide (FloatOps.absf (val_main_values (F := Ideal) x1 x2 (ix4 b g t x)) < Ideal.ofBits .f32 0x7F800000#32)))) Finset.univ := by
    pointwise [val_main_v134, val_main_v133, val_main_v132, val_main_v131, val_main_v130, val_main_v129, val_main_v128, val_main_v127, val_main_v126, val_main_v125, val_main_v124, val_main_v123, val_main_v122, val_main_v121, val_main_cst_22, val_main_c_23]
  rw [hf]
  have hg : (fun x : Fin 16 =>
      IntOp.andi (IntOp.cmpi .eq (val_main_indices (F := Ideal) x1 x2 (ix4 b g t x)) (BitVec.ofNat 32 n.val))
        (BitVec.ofBool (decide (FloatOps.absf (val_main_values (F := Ideal) x1 x2 (ix4 b g t x)) < Ideal.ofBits .f32 0x7F800000#32))))
      = fun x : Fin 16 => BitVec.ofBool (decide (place key x = n ∧ ⊥ < key n)) := by
    funext x
    rw [hv, hx, Word.eq_nat _ _ (by omega) (by omega), Word.pos_inf, Word.andi_bool]
    refine ofBool_congr ⟨fun h => ?_, fun h => ?_⟩
    · have e : place key x = n := Fin.ext h.1
      refine ⟨e, ?_⟩
      rw [← e]
      refine bot_lt_iff_ne_bot.mpr fun hb => ?_
      have h2 : max (key (place key x)) (-key (place key x)) < ⊤ := h.2
      rw [hb] at h2
      simp at h2
    · refine ⟨congrArg Fin.val h.1, ?_⟩
      rw [h.1]
      show max (key n) (-key n) < ⊤
      refine max_lt (lt_top_iff_ne_top.mpr (ht n)) (lt_top_iff_ne_top.mpr ?_)
      exact (hn n).resolve_right h.2.ne'
  rw [hg, fold_or fun x => place key x = n ∧ ⊥ < key n]
  refine ofBool_congr ?_
  rw [← Cert.Top.mem_first (show 16 ≤ 64 by omega) key n]
  constructor
  · rintro ⟨x, -, h1, h2⟩
    exact ⟨⟨x, h1⟩, h2⟩
  · rintro ⟨⟨x, h1⟩, h2⟩
    exact ⟨x, Finset.mem_univ _, h1, h2⟩

open Classical in
theorem v150_read (b g r : Fin 4) (t n : Fin 4096) :
    val_main_v150 (F := Ideal) x0 x1 x2 (ix5 b g r t n)
      = Scalar.select (IntOp.andi (val_main_v134 (F := Ideal) x1 x2 (ix4 b g t ⟨n.val / 64, by omega⟩)) (BitVec.ofBool (decide (n.val ≤ t.val))))
          ((∑ d, val_main_v12 (F := Ideal) x1 (ix5 b g r t d) * val_main_v19 (F := Ideal) x0 (ix4 b g n d)) * val_main_v5 (F := Ideal) ix0) ⊥ := by
  rw [← Word.sle_nat _ _ (by omega) (by omega), ← Word.neg_inf]
  pointwise [val_main_v150, val_main_call4_v0, val_main_call4_v1, val_main_call4_v2, val_main_v149, val_main_v148, val_main_v147, val_main_v146, val_main_v145, val_main_v144, val_main_v143, val_main_v142, val_main_v141, val_main_v140, val_main_v139, val_main_v138, val_main_v137, val_main_v136, val_main_v135, val_main_v41, val_main_cst_24]
  rfl

theorem near (t n : ℕ) (ht : t < 4096) (hn : n < 4096) :
    IntOp.andi (IntOp.cmpi .sge (IntOp.subi (BitVec.ofNat 32 t) (BitVec.ofNat 32 n)) 0#32) (IntOp.cmpi .sle (IntOp.subi (BitVec.ofNat 32 t) (BitVec.ofNat 32 n)) 511#32)
      = BitVec.ofBool (decide (n ≤ t ∧ t ≤ n + 511)) := by
  have hi : (IntOp.subi (BitVec.ofNat 32 t) (BitVec.ofNat 32 n)).toInt = (t : ℤ) - n := by
    show (BitVec.ofNat 32 t - BitVec.ofNat 32 n).toInt = _
    rw [BitVec.toInt_sub, Word.toInt_nat t (by omega), Word.toInt_nat n (by omega)]
    exact Int.bmod_eq_of_le (by norm_num; omega) (by norm_num; omega)
  have h1 : IntOp.cmpi .sge (IntOp.subi (BitVec.ofNat 32 t) (BitVec.ofNat 32 n)) 0#32 = BitVec.ofBool (decide (n ≤ t)) := by
    show BitVec.ofBool (BitVec.sle 0#32 _) = _
    rw [BitVec.sle, hi, show (0#32 : BitVec 32).toInt = 0 from rfl]
    congr 1
    exact decide_eq_decide.mpr (by omega)
  have h2 : IntOp.cmpi .sle (IntOp.subi (BitVec.ofNat 32 t) (BitVec.ofNat 32 n)) 511#32 = BitVec.ofBool (decide (t ≤ n + 511)) := by
    show BitVec.ofBool (BitVec.sle _ 511#32) = _
    rw [BitVec.sle, hi, show (511#32 : BitVec 32).toInt = 511 from rfl]
    congr 1
    exact decide_eq_decide.mpr (by omega)
  rw [h1, h2, Word.andi_bool]

theorem v176_read (b g r : Fin 4) (t n : Fin 4096) :
    val_main_v176 (F := Ideal) x0 x1 (ix5 b g r t n)
      = if n.val ≤ t.val ∧ t.val ≤ n.val + 511 then (∑ d, val_main_v12 (F := Ideal) x1 (ix5 b g r t d) * val_main_v22 (F := Ideal) x0 (ix4 b g n d)) * val_main_v5 (F := Ideal) ix0 else ⊥ := by
  rw [← Word.select_bool, ← near _ _ t.isLt n.isLt, ← Word.neg_inf]
  pointwise [val_main_v176, val_main_call5_v0, val_main_call5_v1, val_main_call5_v2, val_main_v175, val_main_v174, val_main_v173, val_main_v172, val_main_v171, val_main_v170, val_main_v169, val_main_v168, val_main_v167, val_main_v166, val_main_v165, val_main_v164, val_main_v163, val_main_v41, val_main_c_28, val_main_c_29, val_main_cst_30]
  rfl

end Cert.ReferenceIdeal.Value

end
-- ==== Proof.Host.lean ====
/-
  The three arrays the host prepares for the kernel call, read at an element.
-/
module

public import proofs.«01_k».proof.Proof.BlockVal
public import proofs.«01_k».proof.Proof.Run
public import proofs.«01_k».proof.Proof.Read4
public import Idealize.ShloMosaic.Lib.Pipeline.ValueKit
public import Idealize.ShloMosaic.Lib.Claim

@[expose] public section

set_option maxRecDepth 16384
set_option maxHeartbeats 2000000
set_option backward.proofsInPublic true

noncomputable section

namespace Cert.KernelIdeal.Body

open Cert.KernelIdeal Cert.KernelIdeal.Gen
open Idealize.ShloMosaic Idealize.ShloMosaic.TcCoe Idealize.SL.Sem
open Cert.Soft Cert.Spec

variable (m : (ℓ : Loc nD τ sig) → Buf (Elt Ideal) ℓ)

/-- The keys with the batch split off. -/
theorem V_v0 (c : Dev nD) : V m c main_v0 = shapeCast S8x4x4096x128 (m ((c : Thread nD τ).loc main_arg0)) shapeCasts_S8x16384x128_S8x4x4096x128 := by
  entry_read
  try rfl

/-- The keys' positions. -/
def keyCol : IVec S4096x1 32 := broadcastInDim S4096x1 ![0] bcast_S4096_S4096x1_0 (iotaInDim S4096 32 0)

/-- A number in every place of the column. -/
def numCol (n : BitVec 32) : IVec S4096x1 32 := broadcastInDim S4096x1 ![] bcast_S_S4096x1 (constantI S_ 32 n)

/-- The keys' block numbers. -/
def blockCol : IVec S4096x1 32 :=
  select (andi (cmpi .ne (signi keyCol) (broadcastInDim S4096x1 ![] bcast_S_S4096x1 (signi (constantI S_ 32 64#32)))) (cmpi .ne (Host.remsi keyCol (numCol 64#32)) (numCol 0#32)))
    (subi (Host.divsi keyCol (numCol 64#32)) (numCol 1#32)) (Host.divsi keyCol (numCol 64#32))

/-- Which key belongs to which block. -/
def oneHot : FVec Ideal S4096x128 .bf16 :=
  uitofp .bf16 (cmpi .eq (broadcastInDim S4096x128 ![0, 1] bcast_S4096x1_S4096x128_0_1 blockCol)
    (broadcastInDim S4096x128 ![0, 1] bcast_S1x128_S4096x128_0_1 (broadcastInDim S1x128 ![1] bcast_S128_S1x128_1 (iotaInDim S128 32 0))))

theorem V_v9 (c : Dev nD) : V m c main_v9 = oneHot := by
  entry_read
  try rfl

/-- How far each query of a tile lies after each key of its window. -/
def dist : IVec S2x1024x512 32 :=
  subi (broadcastInDim S2x1024x512 ![0, 1, 2] bcast_S2x1x512_S2x1024x512_0_1_2 (addi
      (broadcastInDim S2x1x512 ![0, 1, 2] bcast_S2x1x1_S2x1x512_0_1_2 (muli (broadcastInDim S2x1x1 ![0] bcast_S2_S2x1x1_0 (iotaInDim S2 32 0)) (broadcastInDim S2x1x1 ![] bcast_S_S2x1x1 (constantI S_ 32 512#32))))
      (broadcastInDim S2x1x512 ![0, 1, 2] bcast_S1x1x512_S2x1x512_0_1_2 (broadcastInDim S1x1x512 ![2] bcast_S512_S1x1x512_2 (iotaInDim S512 32 0)))))
    (broadcastInDim S2x1024x512 ![0, 1, 2] bcast_S1x1024x1_S2x1024x512_0_1_2 (broadcastInDim S1x1024x1 ![1] bcast_S1024_S1x1024x1_1 (iotaInDim S1024 32 0)))

/-- The window's bias. -/
def winBias : FVec Ideal S2x1024x512 .f32 :=
  select (andi (cmpi .sge dist (broadcastInDim S2x1024x512 ![] bcast_S_S2x1024x512 (constantI S_ 32 0#32))) (cmpi .sle dist (broadcastInDim S2x1024x512 ![] bcast_S_S2x1024x512 (constantI S_ 32 511#32))))
    (broadcastInDim S2x1024x512 ![] bcast_S_S2x1024x512 (constant S_ .f32 0x00000000#32)) (broadcastInDim S2x1024x512 ![] bcast_S_S2x1024x512 (constant S_ .f32 0xFF800000#32))

theorem V_v30 (c : Dev nD) : V m c main_v30 = winBias := by
  entry_read
  try rfl

/-- Rounding down a quotient by 64, as the host computes it on words. -/
theorem floor64 : ∀ k : Fin 4096, Scalar.select (IntOp.andi (IntOp.cmpi .ne (if BitVec.ofNat 32 k.val = 0 then (0 : BitVec 32) else if (BitVec.ofNat 32 k.val).msb = true then (-1 : BitVec 32) else (1 : BitVec 32)) (if (64#32 : BitVec 32) = 0 then (0 : BitVec 32) else if (64#32 : BitVec 32).msb = true then (-1 : BitVec 32) else (1 : BitVec 32)))
      (IntOp.cmpi .ne (IntOp.remsi ArithUnit.host (BitVec.ofNat 32 k.val) 64#32) 0#32))
    (IntOp.subi (IntOp.divsi ArithUnit.host (BitVec.ofNat 32 k.val) 64#32) 1#32) (IntOp.divsi ArithUnit.host (BitVec.ofNat 32 k.val) 64#32) = BitVec.ofNat 32 (k.val / 64) := by
  decide +kernel

theorem oneHot_apply (k : Fin 4096) (j : Fin 128) : oneHot (ix2 k j) = if j.val = k.val / 64 then 1 else 0 := by
  have hk := k.isLt
  have hj := j.isLt
  have hb : blockCol (ix2 k 0) = BitVec.ofNat 32 (k.val / 64) := by
    refine Eq.trans ?_ (floor64 k)
    pointwise [blockCol, keyCol, numCol]
    try rfl
  pointwise [oneHot]
  rw [hb, Word.eq_nat _ _ (by omega) (by omega)]
  by_cases h : k.val / 64 = j.val
  · rw [if_pos h.symm, decide_eq_true h]
    show (((1 : ℕ) : ℝ) : EReal) = 1
    simp
  · rw [if_neg (Ne.symm h), decide_eq_false h]
    show (((0 : ℕ) : ℝ) : EReal) = 0
    simp

theorem winBias_apply (a : Fin 2) (y : Fin 1024) (x : Fin 512) : winBias (ix3 a y x) = if y.val ≤ 512 * a.val + x.val ∧ 512 * a.val + x.val ≤ y.val + 511 then 0 else ⊥ := by
  have ha := a.isLt
  have hy := y.isLt
  have hx := x.isLt
  pointwise [winBias, dist]
  rw [Word.muli_nat, Word.addi_nat, Cert.ReferenceIdeal.Value.near _ _ (by omega) (by omega), Word.select_bool, Word.neg_inf]
  simp only [Nat.mul_comm a.val 512]

end Cert.KernelIdeal.Body

end
-- ==== Proof.Blocks.lean ====
/-
  The blocks the kernel call stages at a grid point, read at an element, as elements of the arguments.
-/
module

public import proofs.«01_k».proof.Proof.BlockVal
public import proofs.«01_k».proof.Proof.Host
public import Idealize.ShloMosaic.Lib.Pipeline.ValueKit
public import Idealize.ShloMosaic.Lib.Claim

@[expose] public section

set_option maxRecDepth 16384
set_option maxHeartbeats 2000000
set_option backward.proofsInPublic true

noncomputable section

namespace Cert.KernelIdeal.Body

open Cert.KernelIdeal Cert.KernelIdeal.Gen
open Idealize.ShloMosaic Idealize.ShloMosaic.TcCoe Idealize.SL.Sem
open Cert.Soft Cert.Spec

variable (m : (ℓ : Loc nD τ sig) → Buf (Elt Ideal) ℓ)

/-- The block each window takes at a grid point. -/
theorem idx : ∀ t : Fin cfg0.N, win0_0.index t = ![(grid0.coords t 1).val, (grid0.coords t 0).val, 0, (grid0.coords t 2).val]
    ∧ win0_1.index t = ![0, (grid0.coords t 0).val * 4 + (grid0.coords t 1).val, 0, 0]
    ∧ win0_2.index t = ![1, (grid0.coords t 0).val * 4 + (grid0.coords t 1).val, 0, 0]
    ∧ win0_3.index t = ![(grid0.coords t 1).val, (grid0.coords t 0).val, 0, 0]
    ∧ win0_4.index t = ![16 + (grid0.coords t 1).val, (grid0.coords t 0).val, 0, 0]
    ∧ win0_5.index t = ![4 + (grid0.coords t 1).val, (grid0.coords t 0).val, 0, 0]
    ∧ win0_6.index t = ![20 + (grid0.coords t 1).val, (grid0.coords t 0).val, 0, 0]
    ∧ win0_7.index t = ![0, 0]
    ∧ win0_8.index t = ![min (grid0.coords t 2).val 1, 0, 0]
    ∧ win0_9.index t = ![(grid0.coords t 0).val * 8 + (grid0.coords t 2).val, 0]
    ∧ win0_10.index t = ![(grid0.coords t 0).val * 8 + (grid0.coords t 2).val, (grid0.coords t 1).val] :=
  (by decide +kernel : ∀ t : Fin grid0.N, _)

theorem ltb (t : Fin cfg0.N) : (grid0.coords t 0).val < 4 := (grid0.coords t 0).isLt
theorem ltg (t : Fin cfg0.N) : (grid0.coords t 1).val < 4 := (grid0.coords t 1).isLt
theorem lti (t : Fin cfg0.N) : (grid0.coords t 2).val < 8 := (grid0.coords t 2).isLt

/-- Splitting the batch off the positions. -/
theorem split_apply (X : FVec Ideal S8x16384x128 .bf16) (a : Fin 8) (b : Fin 4) (k : Fin 4096) (d : Fin 128) :
    shapeCast S8x4x4096x128 X shapeCasts_S8x16384x128_S8x4x4096x128 (ix4 a b k d) = X (ix3 a ⟨b.val * 4096 + k.val, by omega⟩ d) := by
  pointwise

variable (c : Dev nD) (t : Fin cfg0.N)

theorem iblk0 (r : Fin 4) (d : Fin 128) (x : Fin 512) :
    iblk m c 0 t (ix4 r 0 d x) = m ((c : Thread nD τ).loc main_arg1) (ix4 ⟨(grid0.coords t 1).val * 4 + r.val, by have := ltg t; omega⟩ ⟨(grid0.coords t 0).val, ltb t⟩ d ⟨(grid0.coords t 2).val * 512 + x.val, by have := lti t; omega⟩) := by
  have h0 := ltb t; have h1 := ltg t; have h2 := lti t
  blk_ext [iblk, V, idx t]

theorem iblk1 (n : Fin 256) (d : Fin 128) :
    iblk m c 1 t (ix4 0 0 n d) = m ((c : Thread nD τ).loc main_arg2) (ix4 0 ⟨(grid0.coords t 0).val * 4 + (grid0.coords t 1).val, by have := ltg t; have := ltb t; omega⟩ n d) := by
  have h0 := ltb t; have h1 := ltg t; have h2 := lti t
  blk_ext [iblk, V, idx t]

theorem iblk2 (d : Fin 128) (n : Fin 256) :
    iblk m c 2 t (ix4 0 0 d n) = m ((c : Thread nD τ).loc main_arg3) (ix4 1 ⟨(grid0.coords t 0).val * 4 + (grid0.coords t 1).val, by have := ltg t; have := ltb t; omega⟩ d n) := by
  have h0 := ltb t; have h1 := ltg t; have h2 := lti t
  blk_ext [iblk, V, idx t]

theorem iblk3 (k : Fin 4096) (d : Fin 128) :
    iblk m c 3 t (ix4 0 0 k d) = m ((c : Thread nD τ).loc main_arg0) (ix3 ⟨(grid0.coords t 1).val, by have := ltg t; omega⟩ ⟨(grid0.coords t 0).val * 4096 + k.val, by have := ltb t; omega⟩ d) := by
  have h0 := ltb t; have h1 := ltg t; have h2 := lti t
  have e : iblk m c 3 t (ix4 0 0 k d) = V m c main_v0 (ix4 ⟨(grid0.coords t 1).val, by omega⟩ ⟨(grid0.coords t 0).val, h0⟩ k d) := by
    blk_ext [iblk, idx t]
  rw [e, V_v0]
  exact split_apply _ _ ⟨(grid0.coords t 0).val, h0⟩ k d

theorem iblk4 (d : Fin 128) (k : Fin 4096) :
    iblk m c 4 t (ix4 0 0 d k) = m ((c : Thread nD τ).loc main_arg1) (ix4 ⟨16 + (grid0.coords t 1).val, by have := ltg t; omega⟩ ⟨(grid0.coords t 0).val, ltb t⟩ d k) := by
  have h0 := ltb t; have h1 := ltg t; have h2 := lti t
  blk_ext [iblk, V, idx t]

theorem iblk5 (k : Fin 4096) (d : Fin 128) :
    iblk m c 5 t (ix4 0 0 k d) = m ((c : Thread nD τ).loc main_arg0) (ix3 ⟨4 + (grid0.coords t 1).val, by have := ltg t; omega⟩ ⟨(grid0.coords t 0).val * 4096 + k.val, by have := ltb t; omega⟩ d) := by
  have h0 := ltb t; have h1 := ltg t; have h2 := lti t
  have e : iblk m c 5 t (ix4 0 0 k d) = V m c main_v0 (ix4 ⟨4 + (grid0.coords t 1).val, by omega⟩ ⟨(grid0.coords t 0).val, h0⟩ k d) := by
    blk_ext [iblk, idx t]
  rw [e, V_v0]
  exact split_apply _ _ ⟨(grid0.coords t 0).val, h0⟩ k d

theorem iblk6 (d : Fin 128) (k : Fin 4096) :
    iblk m c 6 t (ix4 0 0 d k) = m ((c : Thread nD τ).loc main_arg1) (ix4 ⟨20 + (grid0.coords t 1).val, by have := ltg t; omega⟩ ⟨(grid0.coords t 0).val, ltb t⟩ d k) := by
  have h0 := ltb t; have h1 := ltg t; have h2 := lti t
  blk_ext [iblk, V, idx t]

theorem iblk9 (x : Fin 512) (j : Fin 128) :
    iblk m c 9 t (ix2 x j) = m ((c : Thread nD τ).loc main_arg4) (ix2 ⟨(grid0.coords t 0).val * 4096 + ((grid0.coords t 2).val * 512 + x.val), by have := ltb t; have := lti t; omega⟩ j) := by
  have h0 := ltb t; have h1 := ltg t; have h2 := lti t
  blk_ext [iblk, V, idx t]

/-- The one-hot block at a grid point. -/
theorem iblk7 (k : Fin 4096) (j : Fin 128) : iblk m c 7 t (ix2 k j) = (show EReal from if j.val = k.val / 64 then 1 else 0) := by
  have e : iblk m c 7 t (ix2 k j) = V m c main_v9 (ix2 k j) := by
    blk_ext [iblk, idx t]
  rw [e, V_v9]
  exact oneHot_apply k j

/-- The bias block at a grid point. -/
theorem iblk8 (y : Fin 1024) (x : Fin 512) :
    iblk m c 8 t (ix3 0 y x) = (show EReal from if y.val ≤ 512 * min (grid0.coords t 2).val 1 + x.val ∧ 512 * min (grid0.coords t 2).val 1 + x.val ≤ y.val + 511 then 0 else ⊥) := by
  have h2 := lti t
  have e : iblk m c 8 t (ix3 0 y x) = V m c main_v30 (ix3 ⟨min (grid0.coords t 2).val 1, by omega⟩ y x) := by
    blk_ext [iblk, idx t]
  rw [e, V_v30]
  exact winBias_apply ⟨min (grid0.coords t 2).val 1, by omega⟩ y x

end Cert.KernelIdeal.Body

end
-- ==== Proof.Read1.lean ====
/-
  The reference's two softmaxes over all keys, read at an index.
-/
module

public import proofs.«01_k».proof.Proof.Ref
public import proofs.«01_k».proof.Proof.Spec
public import proofs.«01_k».proof.Proof.Word
public import Idealize.ShloMosaic.Lib.Pipeline.ValueKit

@[expose] public section

set_option backward.proofsInPublic true
set_option maxRecDepth 16384

noncomputable section

namespace Cert.ReferenceIdeal.Value

open Cert.ReferenceIdeal Cert.ReferenceIdeal.Gen Cert.ReferenceIdeal.Read
open Idealize.ShloMosaic
open Cert.Soft Cert.Spec

variable (x0 : FVec Ideal S8x16384x128 .bf16) (x1 : FVec Ideal S24x4x128x4096 .bf16) (x2 : FVec Ideal S2x16x256x128 .bf16) (x3 : FVec Ideal S2x16x128x256 .bf16) (x4 : FVec Ideal S16384x128 .f32)

theorem reduces4 : S4x4x4x4096x4096.Reduces [4] S4x4x4x4096 := by decide

/-- The host's greatest element over the last axis. -/
theorem maxRow (x : FVec Ideal S4x4x4x4096x4096 .f32) (c : FVec Ideal S_ .f32) (hc : c (Shape.Idx.first h_S_) = ⊥) (b g r : Fin 4) (t : Fin 4096) :
    Host.reduce FloatOps.maximumf x c reducesTo_S4x4x4x4096x4096_S4x4x4x4096_d4 h_S_ (ix4 b g r t)
      = Finset.univ.sup fun k : Fin 4096 => x (ix5 b g r t k) := by
  rw [Host.reduce_eq_fold_single FloatOps.maximumf x c reducesTo_S4x4x4x4096x4096_S4x4x4x4096_d4 reduces4 h_S_, hc]
  have hf : (x ∘ reduces4.lift (ix4 b g r t)) = fun k : Fin 4096 => x (ix5 b g r t k) :=
    funext fun k => congrArg x (funext fun a => Fin.ext (by match a with | ⟨0, _⟩ => rfl | ⟨1, _⟩ => rfl | ⟨2, _⟩ => rfl | ⟨3, _⟩ => rfl | ⟨4, _⟩ => rfl))
  exact congrArg (fun f => Finset.fold max (⊥ : EReal) f (Finset.univ : Finset (Fin 4096))) hf

theorem zero_word : Ideal.ofBits .f32 0x00000000#32 = 0 := by simp [Ideal.ofBits, Ideal.ieee]

theorem v151_read (b g r : Fin 4) (t : Fin 4096) :
    val_main_v151 (F := Ideal) x0 x1 x2 (ix4 b g r t) = Finset.univ.sup fun k : Fin 4096 => val_main_v150 (F := Ideal) x0 x1 x2 (ix5 b g r t k) := by
  unfold val_main_v151
  exact maxRow _ _ Word.neg_inf b g r t

theorem v155_read (b g r : Fin 4) (t k : Fin 4096) :
    val_main_v155 (F := Ideal) x0 x1 x2 (ix5 b g r t k) = Finset.univ.sup fun k : Fin 4096 => val_main_v150 (F := Ideal) x0 x1 x2 (ix5 b g r t k) := by
  have hi : idx_main_v154 (idx_main_v155 (ix5 b g r t k)) = ix4 b g r t := funext fun a => Fin.ext (by
    match a with | ⟨0, _⟩ => rfl | ⟨1, _⟩ => rfl | ⟨2, _⟩ => rfl | ⟨3, _⟩ => rfl)
  rw [val_main_v155_apply, val_main_v154_apply, val_main_v153_apply, hi, v151_read]
  have hb : val_main_v152 (F := Ideal) (ix4 b g r t) = (⊥ : EReal) := by
    rw [val_main_v152_apply]
    exact Word.neg_inf
  rw [hb]
  exact max_eq_right bot_le

theorem v157_read (b g r : Fin 4) (t k : Fin 4096) :
    val_main_v157 (F := Ideal) x0 x1 x2 (ix5 b g r t k)
      = Ideal.exp (val_main_v150 (F := Ideal) x0 x1 x2 (ix5 b g r t k) - Finset.univ.sup fun k : Fin 4096 => val_main_v150 (F := Ideal) x0 x1 x2 (ix5 b g r t k)) := by
  rw [val_main_v157_apply, val_main_v156_apply, v155_read]
  rfl

theorem v158_read (b g r : Fin 4) (t : Fin 4096) :
    val_main_v158 (F := Ideal) x0 x1 x2 (ix4 b g r t) = ∑ k : Fin 4096, val_main_v157 (F := Ideal) x0 x1 x2 (ix5 b g r t k) := by
  rw [val_main_v158_apply]
  have hz : val_main_cst_27 (F := Ideal) (Shape.Idx.first h_S_) = 0 := zero_word
  rw [hz, zero_add]
  refine Finset.sum_congr rfl fun k _ => congrArg _ (funext fun a => Fin.ext ?_)
  match a with | ⟨0, _⟩ => rfl | ⟨1, _⟩ => rfl | ⟨2, _⟩ => rfl | ⟨3, _⟩ => rfl | ⟨4, _⟩ => rfl

theorem v14_read (b g : Fin 4) (n : Fin 4096) (d : Fin 128) :
    val_main_v14 (F := Ideal) x1 (ix4 b g n d) = x1 (ix4 ⟨16 + g.val, by omega⟩ b d n) := by
  pointwise [val_main_v14, val_main_v13, val_main_v1]

theorem v162_read (b g r : Fin 4) (t : Fin 4096) (d : Fin 128) :
    val_main_v162 (F := Ideal) x0 x1 x2 (ix5 b g r t d)
      = ∑ k : Fin 4096, Ideal.div (val_main_v157 (F := Ideal) x0 x1 x2 (ix5 b g r t k)) (val_main_v158 (F := Ideal) x0 x1 x2 (ix4 b g r t)) * val_main_v14 (F := Ideal) x1 (ix4 b g k d) := by
  pointwise [val_main_v162, val_main_v161, val_main_v160, val_main_v159]

theorem v177_read (b g r : Fin 4) (t : Fin 4096) :
    val_main_v177 (F := Ideal) x0 x1 (ix4 b g r t) = Finset.univ.sup fun k : Fin 4096 => val_main_v176 (F := Ideal) x0 x1 (ix5 b g r t k) := by
  unfold val_main_v177
  exact maxRow _ _ Word.neg_inf b g r t

theorem v181_read (b g r : Fin 4) (t k : Fin 4096) :
    val_main_v181 (F := Ideal) x0 x1 (ix5 b g r t k) = Finset.univ.sup fun k : Fin 4096 => val_main_v176 (F := Ideal) x0 x1 (ix5 b g r t k) := by
  have hi : idx_main_v180 (idx_main_v181 (ix5 b g r t k)) = ix4 b g r t := funext fun a => Fin.ext (by
    match a with | ⟨0, _⟩ => rfl | ⟨1, _⟩ => rfl | ⟨2, _⟩ => rfl | ⟨3, _⟩ => rfl)
  rw [val_main_v181_apply, val_main_v180_apply, val_main_v179_apply, hi, v177_read]
  have hb : val_main_v178 (F := Ideal) (ix4 b g r t) = (⊥ : EReal) := by
    rw [val_main_v178_apply]
    exact Word.neg_inf
  rw [hb]
  exact max_eq_right bot_le

theorem v183_read (b g r : Fin 4) (t k : Fin 4096) :
    val_main_v183 (F := Ideal) x0 x1 (ix5 b g r t k)
      = Ideal.exp (val_main_v176 (F := Ideal) x0 x1 (ix5 b g r t k) - Finset.univ.sup fun k : Fin 4096 => val_main_v176 (F := Ideal) x0 x1 (ix5 b g r t k)) := by
  rw [val_main_v183_apply, val_main_v182_apply, v181_read]
  rfl

theorem v184_read (b g r : Fin 4) (t : Fin 4096) :
    val_main_v184 (F := Ideal) x0 x1 (ix4 b g r t) = ∑ k : Fin 4096, val_main_v183 (F := Ideal) x0 x1 (ix5 b g r t k) := by
  rw [val_main_v184_apply]
  have hz : val_main_cst_33 (F := Ideal) (Shape.Idx.first h_S_) = 0 := zero_word
  rw [hz, zero_add]
  refine Finset.sum_congr rfl fun k _ => congrArg _ (funext fun a => Fin.ext ?_)
  match a with | ⟨0, _⟩ => rfl | ⟨1, _⟩ => rfl | ⟨2, _⟩ => rfl | ⟨3, _⟩ => rfl | ⟨4, _⟩ => rfl

theorem v16_read (b g : Fin 4) (n : Fin 4096) (d : Fin 128) :
    val_main_v16 (F := Ideal) x1 (ix4 b g n d) = x1 (ix4 ⟨20 + g.val, by omega⟩ b d n) := by
  pointwise [val_main_v16, val_main_v15, val_main_v1]

theorem v188_read (b g r : Fin 4) (t : Fin 4096) (d : Fin 128) :
    val_main_v188 (F := Ideal) x0 x1 (ix5 b g r t d)
      = ∑ k : Fin 4096, Ideal.div (val_main_v183 (F := Ideal) x0 x1 (ix5 b g r t k)) (val_main_v184 (F := Ideal) x0 x1 (ix4 b g r t)) * val_main_v16 (F := Ideal) x1 (ix4 b g k d) := by
  pointwise [val_main_v188, val_main_v187, val_main_v186, val_main_v185]

end Cert.ReferenceIdeal.Value
end
-- ==== Proof.Read2.lean ====
/-
  The reference's queries, keys, values, gates and output, read at an index.
-/
module

public import proofs.«01_k».proof.Proof.Ref
public import proofs.«01_k».proof.Proof.Spec
public import proofs.«01_k».proof.Proof.Word
public import Idealize.ShloMosaic.Lib.Pipeline.ValueKit

@[expose] public section

set_option backward.proofsInPublic true
set_option maxRecDepth 16384

noncomputable section

namespace Cert.ReferenceIdeal.Value

open Cert.ReferenceIdeal Cert.ReferenceIdeal.Gen Cert.ReferenceIdeal.Read
open Idealize.ShloMosaic
open Cert.Soft Cert.Spec

variable (x0 : FVec Ideal S8x16384x128 .bf16) (x1 : FVec Ideal S24x4x128x4096 .bf16) (x2 : FVec Ideal S2x16x256x128 .bf16) (x3 : FVec Ideal S2x16x128x256 .bf16) (x4 : FVec Ideal S16384x128 .f32)

theorem w128 : Ideal.ofBits .f32 0x43000000#32 = ((128 : ℝ) : EReal) := by
  simp [Ideal.ofBits, Ideal.ieee, -EReal.coe_mul]; norm_num

theorem w2 : Ideal.ofBits .f32 0x40000000#32 = ((2 : ℝ) : EReal) := by
  simp [Ideal.ofBits, Ideal.ieee, -EReal.coe_mul]; norm_num

theorem sqrt128 : Ideal.sqrt ((128 : ℝ) : EReal) = ((Real.sqrt 128 : ℝ) : EReal) := by
  show (if (128 : ℝ) < 0 then (⊥ : EReal) else ((Real.sqrt 128 : ℝ) : EReal)) = _
  rw [if_neg (by norm_num)]

theorem log2 : Ideal.log ((2 : ℝ) : EReal) = ((Real.log 2 : ℝ) : EReal) := by
  show (if (2 : ℝ) ≤ 0 then (⊥ : EReal) else ((Real.log 2 : ℝ) : EReal)) = _
  rw [if_neg (by norm_num)]

theorem v5_val : val_main_v5 (F := Ideal) ix0 = ((1 / Real.sqrt 128 : ℝ) : EReal) := by
  pointwise [val_main_v5, val_main_v4, val_main_cst, val_main_cst_0]
  rw [w128, sqrt128, div_coe 1 (by positivity), one_mul, one_div]

theorem v10_val : val_main_v10 (F := Ideal) ix0 = ((Real.log 2 * Real.sqrt 128 : ℝ) : EReal) := by
  pointwise [val_main_v10, val_main_v9, val_main_v4, val_main_cst, val_main_cst_1]
  rw [w128, sqrt128, w2, log2, ← EReal.coe_mul]

theorem v12_read (b g r : Fin 4) (t : Fin 4096) (d : Fin 128) :
    val_main_v12 (F := Ideal) x1 (ix5 b g r t d) = x1 (ix4 ⟨g.val * 4 + r.val, by omega⟩ b d t) * val_main_v10 (F := Ideal) ix0 := by
  pointwise [val_main_v12, val_main_v11, val_main_v8, val_main_v7, val_main_v6, val_main_v1]

theorem v19_read (b g : Fin 4) (t : Fin 4096) (d : Fin 128) :
    val_main_v19 (F := Ideal) x0 (ix4 b g t d) = x0 (ix3 ⟨g.val, by omega⟩ ⟨b.val * 4096 + t.val, by omega⟩ d) := by
  pointwise [val_main_v19, val_main_v18, val_main_v17, val_main_v0]

theorem v22_read (b g : Fin 4) (t : Fin 4096) (d : Fin 128) :
    val_main_v22 (F := Ideal) x0 (ix4 b g t d) = x0 (ix3 ⟨4 + g.val, by omega⟩ ⟨b.val * 4096 + t.val, by omega⟩ d) := by
  pointwise [val_main_v22, val_main_v21, val_main_v20, val_main_v0]

theorem v26_read (b g : Fin 4) (n : Fin 255) (d : Fin 128) :
    val_main_v26 (F := Ideal) x2 (ix4 b g n d) = x2 (ix4 0 ⟨b.val * 4 + g.val, by omega⟩ ⟨n.val, by omega⟩ d) := by
  pointwise [val_main_v26, val_main_v25, val_main_v24, val_main_v23, val_main_v2]

theorem v31_read (b g : Fin 4) (n : Fin 255) (d : Fin 128) :
    val_main_v31 (F := Ideal) x3 (ix4 b g n d) = x3 (ix4 1 ⟨b.val * 4 + g.val, by omega⟩ d ⟨n.val, by omega⟩) := by
  pointwise [val_main_v31, val_main_v30, val_main_v29, val_main_v28, val_main_v27, val_main_v3]

theorem v40_read (b g r : Fin 4) (t : Fin 4096) (j : Fin 3) :
    val_main_v40 (F := Ideal) x4 (ix5 b g r t j) = gate (x4 (ix2 ⟨b.val * 4096 + t.val, by omega⟩ ⟨g.val * 12 + r.val * 3 + j.val, by omega⟩)) := by
  pointwise [val_main_v40, val_main_v39, val_main_v38, val_main_v37, val_main_v36, val_main_v35, val_main_v34, val_main_v33, val_main_v32, val_main_cst_2, val_main_cst_3]
  rfl

theorem v202_read (b g r : Fin 4) (t : Fin 4096) (d : Fin 128) :
    val_main_v202 (F := Ideal) x0 x1 x2 x3 x4 (ix2 ⟨b.val * 4096 + t.val, by omega⟩ ⟨(g.val * 4 + r.val) * 128 + d.val, by omega⟩)
      = val_main_v40 (F := Ideal) x4 (ix5 b g r t 0) * val_main_v73 (F := Ideal) x1 x2 x3 (ix5 b g r t d)
        + val_main_v40 (F := Ideal) x4 (ix5 b g r t 1) * val_main_v162 (F := Ideal) x0 x1 x2 (ix5 b g r t d)
        + val_main_v40 (F := Ideal) x4 (ix5 b g r t 2) * val_main_v188 (F := Ideal) x0 x1 (ix5 b g r t d) := by
  pointwise [val_main_v202, val_main_v201, val_main_v200, val_main_v199, val_main_v198, val_main_v197, val_main_v196, val_main_v195, val_main_v194, val_main_v193, val_main_v192, val_main_v191, val_main_v190, val_main_v189]
end Cert.ReferenceIdeal.Value
end
-- ==== Proof.Read3.lean ====
/-
  The reference's compressed branch and its block scores, read at an index.
-/
module

public import proofs.«01_k».proof.Proof.Ref
public import proofs.«01_k».proof.Proof.Spec
public import proofs.«01_k».proof.Proof.Word
public import Idealize.ShloMosaic.Lib.Pipeline.ValueKit

@[expose] public section

set_option backward.proofsInPublic true
set_option maxRecDepth 16384

noncomputable section

namespace Cert.ReferenceIdeal.Value

open Cert.ReferenceIdeal Cert.ReferenceIdeal.Gen Cert.ReferenceIdeal.Read
open Idealize.ShloMosaic
open Cert.Soft Cert.Spec

variable (x0 : FVec Ideal S8x16384x128 .bf16) (x1 : FVec Ideal S24x4x128x4096 .bf16) (x2 : FVec Ideal S2x16x256x128 .bf16) (x3 : FVec Ideal S2x16x128x256 .bf16) (x4 : FVec Ideal S16384x128 .f32)

theorem v57_read (b g r : Fin 4) (t : Fin 4096) (n : Fin 255) :
    val_main_v57 (F := Ideal) x1 x2 (ix5 b g r t n) = if 16 * n.val + 31 ≤ t.val then (∑ d, val_main_v12 (F := Ideal) x1 (ix5 b g r t d) * val_main_v26 (F := Ideal) x2 (ix4 b g n d)) * val_main_v5 (F := Ideal) ix0 else ⊥ := by
  pointwise [val_main_v57, val_main_v56, val_main_v55, val_main_v54, val_main_call0_v0, val_main_call0_v1, val_main_call0_v2, val_main_cst_6, val_main_v53, val_main_v52, val_main_v51, val_main_v50, val_main_v49, val_main_v48, val_main_v47, val_main_v46, val_main_v45, val_main_v44, val_main_v43, val_main_v42, val_main_v41, val_main_c, val_main_c_4, val_main_c_5]
  rw [show (16#32 : BitVec 32) = BitVec.ofNat 32 16 from rfl, show (32#32 : BitVec 32) = BitVec.ofNat 32 32 from rfl, show (1#32 : BitVec 32) = BitVec.ofNat 32 1 from rfl,
    Word.muli_nat, Word.addi_nat, Word.subi_nat _ _ (by omega), Word.sle_nat _ _ (by omega) (by omega), Word.select_bool]
  refine (if_congr (by omega) rfl ?_)
  exact Word.neg_inf

theorem v58_read (b g r : Fin 4) (t : Fin 4096) :
    val_main_v58 (F := Ideal) x1 x2 (ix4 b g r t) = Finset.univ.sup fun n : Fin 255 => val_main_v57 (F := Ideal) x1 x2 (ix5 b g r t n) := by
  pointwise [val_main_v58]
  have hz : val_main_cst_7 (F := Ideal) (Shape.Idx.first h_S_) = (⊥ : EReal) := Word.neg_inf
  rw [hz]
  rfl

/-- A score kept when finite, zero instead of an infinite one. -/
theorem keep_finite (y : EReal) :
    Scalar.select (Ideal.cmp .olt (max y (-y)) (Ideal.ofBits .f32 0x7F800000#32)) y (Ideal.ofBits .f32 0x00000000#32) = if y = ⊥ ∨ y = ⊤ then 0 else y := by
  have hz : Ideal.ofBits .f32 0x00000000#32 = 0 := by simp [Ideal.ofBits, Ideal.ieee]
  show Scalar.select (BitVec.ofBool (decide (max y (-y) < Ideal.ofBits .f32 0x7F800000#32))) y _ = _
  rw [hz, Word.pos_inf, Word.select_bool]
  induction y using EReal.rec with
  | bot => simp
  | top => simp
  | coe r =>
    rw [if_pos (max_lt (EReal.coe_lt_top r) (by rw [← EReal.coe_neg]; exact EReal.coe_lt_top _)), if_neg (not_or.mpr ⟨EReal.coe_ne_bot r, EReal.coe_ne_top r⟩)]

theorem v63_read (b g r : Fin 4) (t : Fin 4096) :
    val_main_v63 (F := Ideal) x1 x2 (ix5 b g r t 0)
      = if val_main_v58 (F := Ideal) x1 x2 (ix4 b g r t) = ⊥ ∨ val_main_v58 (F := Ideal) x1 x2 (ix4 b g r t) = ⊤ then 0 else val_main_v58 (F := Ideal) x1 x2 (ix4 b g r t) := by
  have hi : idx_main_v59 (ix5 b g r t 0) = ix4 b g r t := funext fun a => Fin.ext (by
    match a with | ⟨0, _⟩ => rfl | ⟨1, _⟩ => rfl | ⟨2, _⟩ => rfl | ⟨3, _⟩ => rfl)
  rw [val_main_v63_apply, val_main_v62_apply, val_main_v60_apply, val_main_v59_apply, hi]
  rw [val_main_v61_apply, val_main_call1_v1_apply]
  generalize val_main_v58 (F := Ideal) x1 x2 (ix4 b g r t) = y at *
  exact keep_finite y

theorem v65_read (b g r : Fin 4) (t : Fin 4096) (n : Fin 255) :
    val_main_v65 (F := Ideal) x1 x2 (ix5 b g r t n) = val_main_v57 (F := Ideal) x1 x2 (ix5 b g r t n) - val_main_v63 (F := Ideal) x1 x2 (ix5 b g r t 0) := by
  pointwise [val_main_v65, val_main_v64]

theorem v66_read (b g r : Fin 4) (t : Fin 4096) (n : Fin 255) :
    val_main_v66 (F := Ideal) x1 x2 (ix5 b g r t n)
      = Ideal.exp (val_main_v57 (F := Ideal) x1 x2 (ix5 b g r t n) - val_main_v63 (F := Ideal) x1 x2 (ix5 b g r t 0)) := by
  rw [val_main_v66_apply, v65_read]
  rfl

theorem v67_read (b g r : Fin 4) (t : Fin 4096) :
    val_main_v67 (F := Ideal) x1 x2 (ix4 b g r t) = ∑ n : Fin 255, val_main_v66 (F := Ideal) x1 x2 (ix5 b g r t n) := by
  rw [val_main_v67_apply]
  have hz : val_main_cst_10 (F := Ideal) (Shape.Idx.first h_S_) = 0 := by exact (by simp [Ideal.ofBits, Ideal.ieee] : Ideal.ofBits .f32 0x00000000#32 = 0)
  rw [hz, zero_add]
  refine Finset.sum_congr rfl fun k _ => congrArg _ (funext fun a => Fin.ext ?_)
  match a with | ⟨0, _⟩ => rfl | ⟨1, _⟩ => rfl | ⟨2, _⟩ => rfl | ⟨3, _⟩ => rfl | ⟨4, _⟩ => rfl

theorem v72_read (b g r : Fin 4) (t : Fin 4096) (n : Fin 255) :
    val_main_v72 (F := Ideal) x1 x2 (ix5 b g r t n) = Ideal.div (val_main_v66 (F := Ideal) x1 x2 (ix5 b g r t n)) (max (val_main_v67 (F := Ideal) x1 x2 (ix4 b g r t)) (Ideal.ofBits .f32 0x0DA24260#32)) := by
  pointwise [val_main_v72, val_main_v71, val_main_v70, val_main_v69, val_main_v68, val_main_cst_11]

theorem v73_read (b g r : Fin 4) (t : Fin 4096) (d : Fin 128) :
    val_main_v73 (F := Ideal) x1 x2 x3 (ix5 b g r t d) = ∑ n : Fin 255, val_main_v72 (F := Ideal) x1 x2 (ix5 b g r t n) * val_main_v31 (F := Ideal) x3 (ix4 b g n d) := by
  pointwise [val_main_v73]

theorem uitofp_bool (p : Prop) [Decidable p] : (FloatOps.uitofp .f32 (BitVec.ofBool (decide p)) : Ideal .f32) = if p then 1 else 0 := by
  show (((BitVec.ofBool (decide p)).toNat : ℝ) : EReal) = _
  by_cases h : p <;> simp [h]

theorem hit_read (b : Fin 64) (n : Fin 255) : val_main_v92 (F := Ideal) (ix2 n b) = hit b.val n.val := by
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v44, val_main_v43, val_main_v42, val_main_c, val_main_c_12, val_main_c_13, val_main_c_14]
  rw [show (16#32 : BitVec 32) = BitVec.ofNat 32 16 from rfl, show (32#32 : BitVec 32) = BitVec.ofNat 32 32 from rfl, show (64#32 : BitVec 32) = BitVec.ofNat 32 64 from rfl]
  simp only [Word.muli_nat, Word.addi_nat]
  rw [Word.slt_nat _ _ (by omega) (by omega), Word.sgt_nat _ _ (by omega) (by omega), Word.andi_bool, uitofp_bool, hit]
  exact if_congr (by omega) rfl rfl

theorem v93_read (b g : Fin 4) (t : Fin 4096) (n : Fin 255) :
    val_main_v93 (F := Ideal) x1 x2 (ix4 b g t n) = ∑ r : Fin 4, val_main_v72 (F := Ideal) x1 x2 (ix5 b g r t n) := by
  rw [val_main_v93_apply]
  have hz : val_main_cst_15 (F := Ideal) (Shape.Idx.first h_S_) = 0 := by exact (by simp [Ideal.ofBits, Ideal.ieee] : Ideal.ofBits .f32 0x00000000#32 = 0)
  rw [hz, zero_add]
  refine Finset.sum_congr rfl fun k _ => congrArg _ (funext fun a => Fin.ext ?_)
  match a with | ⟨0, _⟩ => rfl | ⟨1, _⟩ => rfl | ⟨2, _⟩ => rfl | ⟨3, _⟩ => rfl | ⟨4, _⟩ => rfl

theorem v94_read (b g : Fin 4) (t : Fin 4096) (n : Fin 64) :
    val_main_v94 (F := Ideal) x1 x2 (ix4 b g t n) = ∑ x : Fin 255, val_main_v93 (F := Ideal) x1 x2 (ix4 b g t x) * val_main_v92 (F := Ideal) (ix2 x n) := by
  pointwise [val_main_v94]

theorem div64 : ∀ t : Fin 4096, IntOp.divsi ArithUnit.host (BitVec.ofNat 32 t.val) 64#32 = BitVec.ofNat 32 (t.val / 64) := by decide +kernel

theorem before64 : ∀ u n : Fin 64, IntOp.cmpi .eq (BitVec.ofNat 32 n.val) (IntOp.subi (BitVec.ofNat 32 u.val) 1#32) = BitVec.ofBool (decide (n.val + 1 = u.val)) := by
  decide +kernel

theorem v120_read (b g : Fin 4) (t : Fin 4096) (n : Fin 64) :
    val_main_v120 (F := Ideal) x1 x2 (ix4 b g t n) = if n.val = 0 ∨ n.val = t.val / 64 ∨ n.val + 1 = t.val / 64 then Ideal.ofBits .f32 0x49742400#32
      else if n.val * 64 ≤ t.val then val_main_v94 (F := Ideal) x1 x2 (ix4 b g t n) else ⊥ := by
  pointwise [val_main_v120, val_main_v119, val_main_call3_v0, val_main_call3_v1, val_main_call3_v2, val_main_call2_v0, val_main_call2_v1, val_main_call2_v2, val_main_cst_21, val_main_cst_20, val_main_v118, val_main_v117, val_main_v116, val_main_v115, val_main_v114, val_main_v113, val_main_c_19, val_main_v112, val_main_v111, val_main_v110, val_main_v109, val_main_v108, val_main_v107, val_main_v106, val_main_c_18, val_main_v105, val_main_v104, val_main_v103, val_main_v102, val_main_v101, val_main_v100, val_main_c_17, val_main_v99, val_main_v98, val_main_v97, val_main_c_16, val_main_v96, val_main_v95, val_main_v41]
  rw [div64, before64 ⟨t.val / 64, by omega⟩ n, show (0#32 : BitVec 32) = BitVec.ofNat 32 0 from rfl, show (64#32 : BitVec 32) = BitVec.ofNat 32 64 from rfl,
    Word.muli_nat, Word.eq_nat _ _ (by omega) (by omega), Word.eq_nat _ _ (by omega) (by omega), Word.sle_nat _ _ (by omega) (by omega),
    Word.ori_bool, Word.ori_bool, Word.select_bool, Word.select_bool]
  refine if_congr (by dsimp only; omega) rfl (if_congr Iff.rfl rfl ?_)
  exact Word.neg_inf

end Cert.ReferenceIdeal.Value

end
-- ==== Proof.RefVal.lean ====
/-
  The reference computes the attention of the specification at every output element.
-/
module

public import proofs.«01_k».proof.Proof.Read1
public import proofs.«01_k».proof.Proof.Read2
public import proofs.«01_k».proof.Proof.Read3
public import proofs.«01_k».proof.Proof.Read4
public import proofs.«01_k».proof.Proof.Facts

@[expose] public section

set_option backward.proofsInPublic true
set_option maxRecDepth 16384

noncomputable section

namespace Cert.ReferenceIdeal.Value

open Cert.ReferenceIdeal Cert.ReferenceIdeal.Gen Cert.ReferenceIdeal.Read
open Idealize.ShloMosaic
open Cert.Soft Cert.Spec

variable (x0 : FVec Ideal S8x16384x128 .bf16) (x1 : FVec Ideal S24x4x128x4096 .bf16) (x2 : FVec Ideal S2x16x256x128 .bf16) (x3 : FVec Ideal S2x16x128x256 .bf16) (x4 : FVec Ideal S16384x128 .f32)
variable (b g : Fin 4) (t : Fin 4096)

/-- The data of batch entry `b`, group `g` and query position `t`. -/
def dataOf : Data where
  t := t.val
  q r d := x1 (ix4 ⟨g.val * 4 + r.val, by omega⟩ b d t)
  kc n d := x2 (ix4 0 ⟨b.val * 4 + g.val, by omega⟩ n d)
  vc d n := x3 (ix4 1 ⟨b.val * 4 + g.val, by omega⟩ d n)
  ks k d := x0 (ix3 ⟨g.val, by omega⟩ ⟨b.val * 4096 + k.val, by omega⟩ d)
  vs d k := x1 (ix4 ⟨16 + g.val, by omega⟩ b d k)
  kw k d := x0 (ix3 ⟨4 + g.val, by omega⟩ ⟨b.val * 4096 + k.val, by omega⟩ d)
  vw d k := x1 (ix4 ⟨20 + g.val, by omega⟩ b d k)
  gl r c := x4 (ix2 ⟨b.val * 4096 + t.val, by omega⟩ ⟨g.val * 12 + r.val * 3 + c.val, by omega⟩)

/-- The logarithm of two. -/
abbrev L : EReal := ((Real.log 2 : ℝ) : EReal)

theorem L_pos : 0 < Real.log 2 := Real.log_pos (by norm_num)

theorem bot_L : (⊥ : EReal) * L = ⊥ := EReal.bot_mul_coe_of_pos L_pos

/-- A query scaled on the way in and its dot product scaled back is the dot product times the logarithm of two. -/
theorem scaled (q k : Fin 128 → EReal) :
    (∑ d, (q d * val_main_v10 (F := Ideal) ix0) * k d) * val_main_v5 (F := Ideal) ix0 = dot k q * L := by
  rw [v10_val, v5_val, dot]
  have h2 : (0 : ℝ) < Real.sqrt 128 := Real.sqrt_pos.mpr (by norm_num)
  have h : ∀ d, (q d * ((Real.log 2 * Real.sqrt 128 : ℝ) : EReal)) * k d = ((Real.log 2 * Real.sqrt 128 : ℝ) : EReal) * (k d * q d) := fun d => by
    rw [mul_comm (q d), mul_assoc, mul_comm (q d)]
  rw [Finset.sum_congr rfl fun d _ => h d, ← mul_sum _ _ (mul_nonneg L_pos.le h2.le), mul_comm (((Real.log 2 * Real.sqrt 128 : ℝ) : EReal)), mul_assoc,
    ← EReal.coe_mul, show Real.log 2 * Real.sqrt 128 * (1 / Real.sqrt 128) = Real.log 2 by field_simp]

theorem v57_val (r : Fin 4) (n : Fin 255) : val_main_v57 (F := Ideal) x1 x2 (ix5 b g r t n) = (dataOf x0 x1 x2 x3 x4 b g t).cscore r n.val * L := by
  rw [v57_read, Data.cscore, cs]
  have hn : n.val < 255 := n.isLt
  by_cases hc : 16 * n.val + 31 ≤ t.val
  · rw [if_pos hc, if_pos ⟨hc, hn⟩, fk_mk _ (by omega), ← scaled]
    refine congrArg (· * _) (Finset.sum_congr rfl fun d _ => ?_)
    rw [v12_read, v26_read]
    rfl
  · rw [if_neg hc, if_neg (fun h => hc h.1), bot_L]

theorem top_255 (r : Fin 4) : top ((dataOf x0 x1 x2 x3 x4 b g t).cscore r) 256 = top ((dataOf x0 x1 x2 x3 x4 b g t).cscore r) 255 :=
  top_extend _ (by omega) fun k hk _ => cs_bot _ r k hk

theorem v58_val (r : Fin 4) : val_main_v58 (F := Ideal) x1 x2 (ix4 b g r t) = top ((dataOf x0 x1 x2 x3 x4 b g t).cscore r) 256 * L := by
  rw [v58_read, top_255 x0 x1 x2 x3 x4 b g t, ← top_scale _ _ L_pos, ← sup_fin]
  exact congrArg _ (funext fun n => v57_val x0 x1 x2 x3 x4 b g t r n)

/-- A score scaled by the logarithm of two is infinite when the score is. -/
theorem scaled_bot {x : EReal} (h : x * L = ⊥) : x = ⊥ := by
  induction x using EReal.rec with
  | bot => rfl
  | top => rw [EReal.top_mul_coe_of_pos L_pos] at h; exact absurd h (by decide)
  | coe r => rw [← EReal.coe_mul] at h; exact absurd h (EReal.coe_ne_bot _)

theorem scaled_top {x : EReal} (h : x * L = ⊤) : x = ⊤ := by
  induction x using EReal.rec with
  | bot => rw [bot_L] at h; exact absurd h (by decide)
  | top => rfl
  | coe r => rw [← EReal.coe_mul] at h; exact absurd h (EReal.coe_ne_top _)

theorem top_L : (⊤ : EReal) * L = ⊤ := EReal.top_mul_coe_of_pos L_pos

theorem v66_val (r : Fin 4) (hm : top ((dataOf x0 x1 x2 x3 x4 b g t).cscore r) 256 ≠ ⊤) (n : Fin 255) :
    val_main_v66 (F := Ideal) x1 x2 (ix5 b g r t n) = wt (top ((dataOf x0 x1 x2 x3 x4 b g t).cscore r) 256) ((dataOf x0 x1 x2 x3 x4 b g t).cscore r n.val) := by
  rw [v66_read, v63_read x1 x2 b g r t, v57_val x0 x1 x2 x3 x4 b g t, v58_val x0 x1 x2 x3 x4 b g t]
  have hle := top_le ((dataOf x0 x1 x2 x3 x4 b g t).cscore r) (show n.val < 256 by omega)
  split
  · rename_i hb
    have ht := hb.elim scaled_bot fun h => absurd (scaled_top h) hm
    rw [le_bot_iff.mp (hle.trans ht.le), bot_L, EReal.bot_sub, exp_bot, wt_bot]
  · rw [exp_scale hle hm]

theorem v67_val (r : Fin 4) (hm : top ((dataOf x0 x1 x2 x3 x4 b g t).cscore r) 256 ≠ ⊤) :
    val_main_v67 (F := Ideal) x1 x2 (ix4 b g r t) = den ((dataOf x0 x1 x2 x3 x4 b g t).cscore r) 256 := by
  rw [v67_read, Finset.sum_congr rfl fun n _ => v66_val x0 x1 x2 x3 x4 b g t r hm n,
    den_extend _ (show 255 ≤ 256 by omega) fun k hk _ => cs_bot _ r k hk, den, ← top_255 x0 x1 x2 x3 x4 b g t, Finset.sum_range]

theorem exp_top : Ideal.exp ⊤ = ⊤ := rfl

theorem exp_nonneg (x : EReal) : 0 ≤ Ideal.exp x := by
  induction x using EReal.rec with
  | bot => rw [exp_bot]
  | top => rw [exp_top]; exact le_top
  | coe r => rw [exp_coe]; exact_mod_cast (Real.exp_pos r).le

/-- When the greatest score is plus infinity the reference divides by plus infinity. -/
theorem v67_top (r : Fin 4) (hm : top ((dataOf x0 x1 x2 x3 x4 b g t).cscore r) 256 = ⊤) :
    val_main_v67 (F := Ideal) x1 x2 (ix4 b g r t) = ⊤ := by
  have he : ∀ n : Fin 255, val_main_v66 (F := Ideal) x1 x2 (ix5 b g r t n) = Ideal.exp ((dataOf x0 x1 x2 x3 x4 b g t).cscore r n.val * L) := fun n => by
    rw [v66_read, v63_read x1 x2 b g r t, v57_val x0 x1 x2 x3 x4 b g t, v58_val x0 x1 x2 x3 x4 b g t, hm, top_L, if_pos (Or.inr rfl), sub_zero]
  rw [v67_read, Finset.sum_congr rfl fun n _ => he n]
  rw [top_255 x0 x1 x2 x3 x4 b g t, top] at hm
  obtain ⟨k, hk, e⟩ := Finset.exists_mem_eq_sup (Finset.range 255) ⟨0, Finset.mem_range.mpr (by omega)⟩ ((dataOf x0 x1 x2 x3 x4 b g t).cscore r)
  rw [hm] at e
  refine top_le_iff.mp ?_
  have hs := Finset.single_le_sum (f := fun n : Fin 255 => Ideal.exp ((dataOf x0 x1 x2 x3 x4 b g t).cscore r n.val * L)) (fun n _ => exp_nonneg _)
    (Finset.mem_univ ⟨k, Finset.mem_range.mp hk⟩)
  have hx : Ideal.exp ((dataOf x0 x1 x2 x3 x4 b g t).cscore r k * L) = ⊤ := by rw [← e, top_L, exp_top]
  exact hx.symm.le.trans hs

theorem v72_val (r : Fin 4) (n : Fin 255) : val_main_v72 (F := Ideal) x1 x2 (ix5 b g r t n) = (dataOf x0 x1 x2 x3 x4 b g t).p r n.val := by
  by_cases hm : top ((dataOf x0 x1 x2 x3 x4 b g t).cscore r) 256 = ⊤
  · obtain ⟨e, he, e1⟩ := floor_real (dataOf x0 x1 x2 x3 x4 b g t) r
    rw [v72_read, v67_top x0 x1 x2 x3 x4 b g t r hm, p_eq, e1, hm, wt_top, div_coe _ he, zero_mul, max_eq_left le_top, Ideal.div,
      if_neg (by decide), EReal.inv_top, mul_zero]
  · rw [v72_read, v66_val x0 x1 x2 x3 x4 b g t r hm, v67_val x0 x1 x2 x3 x4 b g t r hm, p_eq]
    rfl

theorem v73_val (r : Fin 4) (d : Fin 128) : val_main_v73 (F := Ideal) x1 x2 x3 (ix5 b g r t d) = (dataOf x0 x1 x2 x3 x4 b g t).ocmp r d := by
  rw [v73_read, Data.ocmp, Fin.sum_univ_castSucc (n := 255)]
  rw [show (dataOf x0 x1 x2 x3 x4 b g t).p r ((Fin.last 255 : Fin 256) : ℕ) = 0 from p_bot _ r 255 le_rfl, mul_zero, add_zero]
  refine Finset.sum_congr rfl fun n _ => ?_
  rw [v72_val x0 x1 x2 x3 x4 b g t, v31_read, mul_comm]
  rfl

theorem v94_val (n : Fin 64) : val_main_v94 (F := Ideal) x1 x2 (ix4 b g t n) = imp (dataOf x0 x1 x2 x3 x4 b g t).p n.val := by
  rw [v94_read, imp, Fin.sum_univ_castSucc (n := 255)]
  have hl : ∀ r, (dataOf x0 x1 x2 x3 x4 b g t).p r ((Fin.last 255 : Fin 256) : ℕ) = 0 := fun r => p_bot _ r 255 le_rfl
  rw [hl, hl, hl, hl, add_zero, add_zero, add_zero, mul_zero, add_zero]
  refine Finset.sum_congr rfl fun x _ => ?_
  rw [v93_read, Fin.sum_univ_four, hit_read, v72_val x0 x1 x2 x3 x4 b g t, v72_val x0 x1 x2 x3 x4 b g t, v72_val x0 x1 x2 x3 x4 b g t,
    v72_val x0 x1 x2 x3 x4 b g t, mul_comm]
  rfl

theorem v120_val (n : Fin 64) : val_main_v120 (F := Ideal) x1 x2 (ix4 b g t n) = score (dataOf x0 x1 x2 x3 x4 b g t).t (dataOf x0 x1 x2 x3 x4 b g t).p n := by
  rw [v120_read, score, v94_val x0 x1 x2 x3 x4 b g t]
  rfl

section
variable (h : (dataOf x0 x1 x2 x3 x4 b g t).Finite)
include h

open Classical in
theorem v150_val (r : Fin 4) (k : Fin 4096) : val_main_v150 (F := Ideal) x0 x1 x2 (ix5 b g r t k) = (dataOf x0 x1 x2 x3 x4 b g t).sscore r k.val * L := by
  rw [v150_read, v134_read x1 x2 b g t ⟨k.val / 64, by omega⟩ (score (dataOf x0 x1 x2 x3 x4 b g t).t (dataOf x0 x1 x2 x3 x4 b g t).p) (v120_val x0 x1 x2 x3 x4 b g t)
    (fun n => (score_real (dataOf x0 x1 x2 x3 x4 b g t) n).elim (·.ne_top) (fun e => e ▸ bot_ne_top))
    (fun n => (score_real (dataOf x0 x1 x2 x3 x4 b g t) n).imp_left (·.neg_ne_top)), Word.andi_bool, Word.select_bool, Data.sscore, ss]
  have hk : k.val < 4096 := k.isLt
  have he : ((Cert.Top.rank (score (dataOf x0 x1 x2 x3 x4 b g t).t (dataOf x0 x1 x2 x3 x4 b g t).p) ⟨k.val / 64, by omega⟩ < 16 ∧ ⊥ < score (dataOf x0 x1 x2 x3 x4 b g t).t (dataOf x0 x1 x2 x3 x4 b g t).p ⟨k.val / 64, by omega⟩) ∧ k.val ≤ t.val)
      ↔ (k.val ≤ (dataOf x0 x1 x2 x3 x4 b g t).t ∧ kept (dataOf x0 x1 x2 x3 x4 b g t).t (dataOf x0 x1 x2 x3 x4 b g t).p (fk 64 (k.val / 64))) := by
    rw [fk_mk _ (by omega), and_comm]
    rfl
  by_cases hc : k.val ≤ (dataOf x0 x1 x2 x3 x4 b g t).t ∧ kept (dataOf x0 x1 x2 x3 x4 b g t).t (dataOf x0 x1 x2 x3 x4 b g t).p (fk 64 (k.val / 64))
  · rw [if_pos (he.mpr hc), if_pos hc, fk_val, ← scaled]
    refine congrArg (· * _) (Finset.sum_congr rfl fun d _ => ?_)
    rw [v12_read, v19_read]
    rfl
  · rw [if_neg (fun h => hc (he.mp h)), if_neg hc, bot_L]

theorem v176_val (r : Fin 4) (k : Fin 4096) : val_main_v176 (F := Ideal) x0 x1 (ix5 b g r t k) = (dataOf x0 x1 x2 x3 x4 b g t).wscore r k.val * L := by
  rw [v176_read, Data.wscore, ws]
  by_cases hc : k.val ≤ t.val ∧ t.val ≤ k.val + 511
  · rw [if_pos hc, if_pos (show k.val ≤ (dataOf x0 x1 x2 x3 x4 b g t).t ∧ (dataOf x0 x1 x2 x3 x4 b g t).t ≤ k.val + 511 from hc), fk_val, ← scaled]
    refine congrArg (· * _) (Finset.sum_congr rfl fun d _ => ?_)
    rw [v12_read, v22_read]
    rfl
  · rw [if_neg hc, if_neg (show ¬ (k.val ≤ (dataOf x0 x1 x2 x3 x4 b g t).t ∧ (dataOf x0 x1 x2 x3 x4 b g t).t ≤ k.val + 511) from hc), bot_L]

/-- The reference's softmax in base `e`, over the coordinates of an axis. -/
theorem softE_fin (s v : ℕ → EReal) :
    ∑ k : Fin 4096, Ideal.div (Ideal.exp (s k - top s 4096)) (∑ k : Fin 4096, Ideal.exp (s k - top s 4096)) * v k = softE s v 4096 := by
  rw [softE, Finset.sum_range, Finset.sum_range]

theorem v162_val (r : Fin 4) (d : Fin 128) : val_main_v162 (F := Ideal) x0 x1 x2 (ix5 b g r t d) = (dataOf x0 x1 x2 x3 x4 b g t).oslc r d := by
  obtain ⟨k0, hk0, hb⟩ := ss_key h t.isLt r
  rw [Data.oslc, ← softE_eq _ _ (ss_ne_top h r) hk0 hb, ← softE_fin x0 x1 x2 x3 x4 b g t h, v162_read, v158_read]
  have hs : (Finset.univ.sup fun k : Fin 4096 => val_main_v150 (F := Ideal) x0 x1 x2 (ix5 b g r t k)) = top (fun k => (dataOf x0 x1 x2 x3 x4 b g t).sscore r k * L) 4096 := by
    rw [← sup_fin]
    exact congrArg _ (funext fun k => v150_val x0 x1 x2 x3 x4 b g t h r k)
  have hw : ∀ k : Fin 4096, val_main_v157 (F := Ideal) x0 x1 x2 (ix5 b g r t k)
      = Ideal.exp ((dataOf x0 x1 x2 x3 x4 b g t).sscore r k.val * L - top (fun k => (dataOf x0 x1 x2 x3 x4 b g t).sscore r k * L) 4096) := fun k => by
    rw [v157_read, hs, v150_val x0 x1 x2 x3 x4 b g t h]
  refine Finset.sum_congr rfl fun k _ => ?_
  rw [hw, Finset.sum_congr rfl fun k _ => hw k, v14_read, fk_val]
  rfl

theorem v188_val (r : Fin 4) (d : Fin 128) : val_main_v188 (F := Ideal) x0 x1 (ix5 b g r t d) = (dataOf x0 x1 x2 x3 x4 b g t).owin r d := by
  rw [Data.owin, ← softE_eq _ _ (ws_ne_top h r) (show (dataOf x0 x1 x2 x3 x4 b g t).t < 4096 from t.isLt) (ws_key h r), ← softE_fin x0 x1 x2 x3 x4 b g t h, v188_read, v184_read]
  have hs : (Finset.univ.sup fun k : Fin 4096 => val_main_v176 (F := Ideal) x0 x1 (ix5 b g r t k)) = top (fun k => (dataOf x0 x1 x2 x3 x4 b g t).wscore r k * L) 4096 := by
    rw [← sup_fin]
    exact congrArg _ (funext fun k => v176_val x0 x1 x2 x3 x4 b g t h r k)
  have hw : ∀ k : Fin 4096, val_main_v183 (F := Ideal) x0 x1 (ix5 b g r t k)
      = Ideal.exp ((dataOf x0 x1 x2 x3 x4 b g t).wscore r k.val * L - top (fun k => (dataOf x0 x1 x2 x3 x4 b g t).wscore r k * L) 4096) := fun k => by
    rw [v183_read, hs, v176_val x0 x1 x2 x3 x4 b g t h]
  refine Finset.sum_congr rfl fun k _ => ?_
  rw [hw, Finset.sum_congr rfl fun k _ => hw k, v16_read, fk_val]
  rfl

/-- The reference's output at row `b·4096 + t` and column `(g·4 + r)·128 + d`. -/
theorem out_val (r : Fin 4) (d : Fin 128) :
    val_main_v202 (F := Ideal) x0 x1 x2 x3 x4 (ix2 ⟨b.val * 4096 + t.val, by omega⟩ ⟨(g.val * 4 + r.val) * 128 + d.val, by omega⟩) = (dataOf x0 x1 x2 x3 x4 b g t).out r d := by
  rw [v202_read, v73_val x0 x1 x2 x3 x4 b g t, v162_val x0 x1 x2 x3 x4 b g t h, v188_val x0 x1 x2 x3 x4 b g t h, v40_read, v40_read, v40_read]
  rfl

end

end Cert.ReferenceIdeal.Value

end
-- ==== Proof.Array.lean ====
/-
  The kernel call's output array is the reference's term over the arguments.
-/
module

public import proofs.«01_k».proof.Proof.Blocks
public import proofs.«01_k».proof.Proof.RefVal

@[expose] public section

set_option maxRecDepth 16384
set_option maxHeartbeats 2000000
set_option backward.proofsInPublic true

noncomputable section

namespace Cert.KernelIdeal.Body

open Cert.KernelIdeal Cert.KernelIdeal.Gen
open Idealize.ShloMosaic Idealize.ShloMosaic.TcCoe Idealize.SL.Sem
open Cert.Soft Cert.Spec
open Cert.ReferenceIdeal.Value (dataOf)

variable (m : (ℓ : Loc nD τ sig) → Buf (Elt Ideal) ℓ) (c : Dev nD) (t : Fin cfg0.N)

/-- The attention's data, out of the arguments. -/
abbrev argData (b g : Fin 4) (n : Fin 4096) : Data :=
  dataOf (m ((c : Thread nD τ).loc main_arg0)) (m ((c : Thread nD τ).loc main_arg1)) (m ((c : Thread nD τ).loc main_arg2)) (m ((c : Thread nD τ).loc main_arg3)) (m ((c : Thread nD τ).loc main_arg4)) b g n

/-- The blocks of a grid point hold the data of its queries. -/
theorem blk_eq (x : Fin 512) :
    blk (grid0.coords t) (iblk m c 0 t) (iblk m c 1 t) (iblk m c 2 t) (iblk m c 3 t) (iblk m c 4 t) (iblk m c 5 t) (iblk m c 6 t) (iblk m c 9 t) x
      = argData m c ⟨(grid0.coords t 0).val, ltb t⟩ ⟨(grid0.coords t 1).val, ltg t⟩ ⟨(grid0.coords t 2).val * 512 + x.val, by have := lti t; omega⟩ := by
  have h0 := ltb t; have h1 := ltg t; have h2 := lti t
  refine (Data.mk.injEq ..).mpr ⟨rfl, ?_, ?_, ?_, ?_, ?_, ?_, ?_, ?_⟩
  · funext r d; exact iblk0 m c t r d x
  · funext n d; exact iblk1 m c t n d
  · funext d n; exact iblk2 m c t d n
  · funext k d; exact iblk3 m c t k d
  · funext d k; exact iblk4 m c t d k
  · funext k d; exact iblk5 m c t k d
  · funext d k; exact iblk6 m c t d k
  · funext r b
    refine (iblk9 m c t x _).trans (congrArg _ (funext fun a => Fin.ext ?_))
    match a with
    | ⟨0, _⟩ => rfl
    | ⟨1, _⟩ =>
      show 12 * (grid0.coords t 1).val + (3 * r.val + b.val) = (grid0.coords t 1).val * 12 + r.val * 3 + b.val
      omega

/-- What the body leaves at an element of the output block. -/
theorem outBlk_val (hF : ∀ b g n, (argData m c b g n).Finite) (r : Fin 4) (x : Fin 512) (d : Fin 128) :
    outBlk m c t (ix2 x ⟨128 * r.val + d.val, by omega⟩)
      = (argData m c ⟨(grid0.coords t 0).val, ltb t⟩ ⟨(grid0.coords t 1).val, ltg t⟩ ⟨(grid0.coords t 2).val * 512 + x.val, by have := lti t; omega⟩).out r d := by
  rw [← blk_eq]
  unfold outBlk runAt
  exact blk_out c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)
    (fun x => by rw [blk_eq]; exact hF _ _ _) (iblk7 m c t) (iblk8 m c t) r x d

/-- The output array. -/
abbrev REF : FVec Ideal S16384x2048 .f32 :=
  Cert.ReferenceIdeal.Read.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem point (hF : ∀ b g n, (argData m c b g n).Finite) (x y : Fin 512) :
    outBlk m c t (ix2 x y) = REF m c (ix2 ⟨((grid0.coords t 0).val * 8 + (grid0.coords t 2).val) * 512 + x.val, by have := ltb t; have := lti t; omega⟩ ⟨(grid0.coords t 1).val * 512 + y.val, by have := ltg t; omega⟩) := by
  have h0 := ltb t; have h1 := ltg t; have h2 := lti t
  have hx := x.isLt
  have hy := y.isLt
  have e := outBlk_val m c t hF ⟨y.val / 128, by omega⟩ x ⟨y.val % 128, by omega⟩
  have e1 : (⟨128 * (⟨y.val / 128, by omega⟩ : Fin 4).val + (⟨y.val % 128, by omega⟩ : Fin 128).val, by show 128 * (y.val / 128) + y.val % 128 < 512; omega⟩ : Fin 512) = y :=
    Fin.ext (by show 128 * (y.val / 128) + y.val % 128 = y.val; omega)
  rw [e1] at e
  rw [e, ← Cert.ReferenceIdeal.Value.out_val _ _ _ _ _ _ _ _ (hF _ _ _)]
  refine congrArg _ (funext fun a => Fin.ext ?_)
  match a with
  | ⟨0, _⟩ =>
    show (grid0.coords t 0).val * 4096 + ((grid0.coords t 2).val * 512 + x.val) = ((grid0.coords t 0).val * 8 + (grid0.coords t 2).val) * 512 + x.val
    omega
  | ⟨1, _⟩ =>
    show ((grid0.coords t 1).val * 4 + y.val / 128) * 128 + y.val % 128 = (grid0.coords t 1).val * 512 + y.val
    omega

/-- The output array after the run. -/
theorem final (hF : ∀ b g n, (argData m c b g n).Finite) : (dats m 0 c).arrAt 10 cfg0.N = REF m c := by
  refine (dats m 0 c).arrAt_eq_of_covers 10 _ (by decide +kernel) fun t _ y => ?_
  blk_simp
  dsimp only [dats]
  have e : y = (ix2 (y 0) (y 1) : S512x512.Idx) := funext fun a => by
    match a with
    | ⟨0, _⟩ => rfl
    | ⟨1, _⟩ => rfl
  refine (congrArg (outBlk m c t) e).trans ((point m c t hF (y 0) (y 1)).trans (congrArg (REF m c) ?_))
  blk_ext [idx t]

end Cert.KernelIdeal.Body

end
-- ==== Proof.Pre.lean ====
/-
  The precondition, read as a fact about the arguments: the queries and the keys are real numbers.
-/
module

public import proofs.«01_k».proof.Defs
public import proofs.«01_k».proof.Proof.Array
public import Idealize.ShloMosaic.Lib.ReduceAll

@[expose] public section

set_option maxRecDepth 16384
set_option backward.proofsInPublic true

noncomputable section

namespace Cert.Pre_finite

open Idealize.ShloMosaic

/-- The shape relations the precondition's operations take. -/
instance facts : Facts where
  bcast_S_S8x16384x128 := by decide
  reducesTo_S8x16384x128_S_d0_1_2 := by decide
  h_S_ := by decide
  slices_S24x4x128x4096_S16x4x128x4096_0_0_0_0 := by decide
  bcast_S_S16x4x128x4096 := by decide
  reducesTo_S16x4x128x4096_S_d0_1_2_3 := by decide

end Cert.Pre_finite

namespace Cert.Pre_finite

open Idealize.ShloMosaic Cert.Spec

/-- A value of magnitude below plus infinity is a real number. -/
theorem real_of_lt (x : EReal) (h : FloatOps.cmpf (F := Ideal) (φ := .bf16) .olt (FloatOps.absf (F := Ideal) (φ := .bf16) x) (Ideal.ofBits .bf16 0x7F80#16) = 1#1) : Real' x := by
  have hi : Ideal.ofBits .bf16 0x7F80#16 = ⊤ := by simp [Ideal.ofBits, Ideal.ieee, -EReal.coe_mul]
  rw [hi] at h
  have h' : BitVec.ofBool (decide (max x (-x) < ⊤)) = 1#1 := h
  have hlt : max x (-x) < ⊤ := by
    by_contra hc
    rw [decide_eq_false hc] at h'
    exact absurd h' (by decide)
  induction x using EReal.rec with
  | bot => simp at hlt
  | top => simp at hlt
  | coe r => exact ⟨r, rfl⟩

theorem and_one (a b : BitVec 1) (h : IntOp.andi a b = 1#1) : a = 1#1 ∧ b = 1#1 := by
  revert a b; decide

/-- What the precondition says of the five arrays. -/
theorem real_args (x0 : FVec Ideal S8x16384x128 .bf16) (x1 : FVec Ideal S24x4x128x4096 .bf16) (x2 : FVec Ideal S2x16x256x128 .bf16) (x3 : FVec Ideal S2x16x128x256 .bf16) (x4 : FVec Ideal S16384x128 .f32)
    (h : fn (F := Ideal) x0 x1 x2 x3 x4 = fun _ => 1#1) :
    (∀ a b d, Real' (x0 (ix3 a b d))) ∧ (∀ (a : Fin 16) b d n, Real' (x1 (ix4 ⟨a.val, by omega⟩ b d n))) := by
  have h0 := congrFun h ix0
  obtain ⟨h0, h1⟩ := and_one _ _ h0
  refine ⟨fun a b d => ?_, fun a b d n => ?_⟩
  · exact real_of_lt _ (Host.reduce_andi_all _ _ _ _ _ h0 (ix3 a b d))
  · have e := Host.reduce_andi_all _ _ _ _ _ h1 (ix4 a b d n)
    refine real_of_lt _ (Eq.trans ?_ e)
    pointwise

end Cert.Pre_finite

namespace Cert.KernelIdeal.Body

open Idealize.ShloMosaic Idealize.ShloMosaic.TcCoe Cert.KernelIdeal Cert.Spec

/-- The precondition makes every query position's queries and keys real numbers. -/
theorem finite_args (m : (ℓ : Loc nD τ sig) → Buf (Elt Ideal) ℓ) (h : Cert.Pre_KernelIdeal_finite m) (c : Dev nD) (b g : Fin 4) (n : Fin 4096) : (argData m c b g n).Finite := by
  obtain ⟨h0, h1⟩ := Cert.Pre_finite.real_args _ _ _ _ _ (h c)
  refine ⟨fun r d => ?_, fun k d => ?_, fun k d => ?_⟩
  · exact h1 ⟨g.val * 4 + r.val, by omega⟩ b d n
  · exact h0 _ _ d
  · exact h0 _ _ d

end Cert.KernelIdeal.Body

end
-- ==== Proof.Up.lean ====
/-
  The gated product of the feed-forward part: its output array is the reference's term over the arguments.
-/
module

public import proofs.«01_k».proof.Proof.Gen.KernelUpIdeal.Value
public import proofs.«01_k».proof.Proof.Gen.ReferenceUpIdeal.Run
public import Idealize.ShloMosaic.Lib.Pipeline.ValueKit
public import Idealize.ShloMosaic.Lib.Pointwise
public import Idealize.ShloMosaic.Lib.Claim

@[expose] public section

set_option maxRecDepth 16384
set_option maxHeartbeats 2000000
set_option backward.proofsInPublic true

noncomputable section

namespace Cert.UpValue

open Idealize.ShloMosaic Idealize.ShloMosaic.TcCoe Idealize.SL.Sem

/-- A gate's product with its logistic and with the other product. -/
def gated (p q : EReal) : EReal := p * Ideal.logistic p * q

section reference
open Cert.ReferenceUpIdeal Cert.ReferenceUpIdeal.Gen

/-- The reference's output array over its arguments. -/
abbrev term (h : FVec Ideal S16384x4096 .bf16) (g u : FVec Ideal S1x4096x11008 .f32) : FVec Ideal S16384x11008 .bf16 :=
  truncf .bf16 (mulf (mulf (Host.dotGeneral (F := Ideal) dot_S16384x4096_S4096x11008_S16384x11008_1_0_0_1_n_n none (extf .f32 h bitsLt_bf16_f32) (shapeCast S4096x11008 g shapeCasts_S1x4096x11008_S4096x11008)) (Host.divf (broadcastInDim S16384x11008 ![] bcast_S_S16384x11008 (constant S_ .f32 0x3F800000#32)) (addf (broadcastInDim S16384x11008 ![] bcast_S_S16384x11008 (constant S_ .f32 0x3F800000#32)) (Host.exp (Host.negf (Host.dotGeneral (F := Ideal) dot_S16384x4096_S4096x11008_S16384x11008_1_0_0_1_n_n none (extf .f32 h bitsLt_bf16_f32) (shapeCast S4096x11008 g shapeCasts_S1x4096x11008_S4096x11008))))))) (Host.dotGeneral (F := Ideal) dot_S16384x4096_S4096x11008_S16384x11008_1_0_0_1_n_n none (extf .f32 h bitsLt_bf16_f32) (shapeCast S4096x11008 u shapeCasts_S1x4096x11008_S4096x11008))) bitsLt_bf16_f32

/-- The reference's product with one of the weights, at an element. -/
theorem term_dot (h : FVec Ideal S16384x4096 .bf16) (g : FVec Ideal S1x4096x11008 .f32) (a : Fin 16384) (b : Fin 11008) :
    Host.dotGeneral (F := Ideal) dot_S16384x4096_S4096x11008_S16384x11008_1_0_0_1_n_n none (extf .f32 h bitsLt_bf16_f32) (shapeCast S4096x11008 g shapeCasts_S1x4096x11008_S4096x11008) (ix2 a b)
      = ∑ k : Fin 4096, h (ix2 a k) * g (ix3 0 k b) := by
  pointwise

/-- The reference's output at an element. -/
theorem term_apply (h : FVec Ideal S16384x4096 .bf16) (g u : FVec Ideal S1x4096x11008 .f32) (a : Fin 16384) (b : Fin 11008) :
    term h g u (ix2 a b) = gated (∑ k : Fin 4096, h (ix2 a k) * g (ix3 0 k b)) (∑ k : Fin 4096, h (ix2 a k) * u (ix3 0 k b)) := by
  rw [← term_dot, ← term_dot]
  generalize hp : Host.dotGeneral (F := Ideal) dot_S16384x4096_S4096x11008_S16384x11008_1_0_0_1_n_n none (extf .f32 h bitsLt_bf16_f32) (shapeCast S4096x11008 g shapeCasts_S1x4096x11008_S4096x11008) = p
  generalize hq : Host.dotGeneral (F := Ideal) dot_S16384x4096_S4096x11008_S16384x11008_1_0_0_1_n_n none (extf .f32 h bitsLt_bf16_f32) (shapeCast S4096x11008 u shapeCasts_S1x4096x11008_S4096x11008) = q
  unfold term
  rw [hp, hq]
  pointwise [gated, Ideal.logistic]

end reference

section kernel
open Cert.KernelUpIdeal Cert.KernelUpIdeal.Gen

/-- What the body computes at an element of a block. -/
theorem pay_apply (h : FVec Ideal S2048x4096 .bf16) (g u : FVec Ideal S1x4096x256 .f32) (x : Fin 2048) (y : Fin 256) :
    k0_pay1 (F := Ideal) h g u (ix2 x y) = gated (∑ k : Fin 4096, h (ix2 x k) * g (ix3 0 k y)) (∑ k : Fin 4096, h (ix2 x k) * u (ix3 0 k y)) := by
  pointwise [k0_pay1, gated]

/-- The block each window takes at a grid point. -/
theorem idx : ∀ t : Fin cfg0.N, win0_0.index t = ![(grid0.coords t 0).val, 0]
    ∧ win0_1.index t = ![0, 0, (grid0.coords t 1).val] ∧ win0_2.index t = ![0, 0, (grid0.coords t 1).val]
    ∧ win0_3.index t = ![(grid0.coords t 0).val, (grid0.coords t 1).val] :=
  (by decide +kernel : ∀ t : Fin grid0.N, _)

theorem lt0 (t : Fin cfg0.N) : (grid0.coords t 0).val < 8 := (grid0.coords t 0).isLt
theorem lt1 (t : Fin cfg0.N) : (grid0.coords t 1).val < 43 := (grid0.coords t 1).isLt

variable (m : (ℓ : Loc nD τ sig) → Buf (Elt Ideal) ℓ) (c : Dev nD) (t : Fin cfg0.N)

theorem iblk0 (x : Fin 2048) (k : Fin 4096) :
    iblk m c 0 t (ix2 x k) = m ((c : Thread nD τ).loc main_arg0) (ix2 ⟨(grid0.coords t 0).val * 2048 + x.val, by have := lt0 t; omega⟩ k) := by
  have h0 := lt0 t
  blk_ext [iblk, V, idx t]

theorem iblk1 (k : Fin 4096) (y : Fin 256) :
    iblk m c 1 t (ix3 0 k y) = m ((c : Thread nD τ).loc main_arg1) (ix3 0 k ⟨(grid0.coords t 1).val * 256 + y.val, by have := lt1 t; omega⟩) := by
  have h1 := lt1 t
  blk_ext [iblk, V, idx t]

theorem iblk2 (k : Fin 4096) (y : Fin 256) :
    iblk m c 2 t (ix3 0 k y) = m ((c : Thread nD τ).loc main_arg2) (ix3 0 k ⟨(grid0.coords t 1).val * 256 + y.val, by have := lt1 t; omega⟩) := by
  have h1 := lt1 t
  blk_ext [iblk, V, idx t]

/-- The reference's term over the kernel's arguments. -/
abbrev REF : FVec Ideal S16384x11008 .bf16 :=
  term (m ((c : Thread nD τ).loc main_arg0)) (m ((c : Thread nD τ).loc main_arg1)) (m ((c : Thread nD τ).loc main_arg2))

/-- A block of the output, at an element, is the reference's term there. -/
theorem point (x : Fin 2048) (y : Fin 256) :
    out0_3 (F := Ideal) (iblk m c 0 t) (iblk m c 1 t) (iblk m c 2 t) (ix2 x y)
      = REF m c (ix2 ⟨(grid0.coords t 0).val * 2048 + x.val, by have := lt0 t; omega⟩ ⟨(grid0.coords t 1).val * 256 + y.val, by have := lt1 t; omega⟩) := by
  refine Eq.trans ?_ (term_apply ..).symm
  have e : out0_3 (F := Ideal) (iblk m c 0 t) (iblk m c 1 t) (iblk m c 2 t) = k0_pay1 (F := Ideal) (iblk m c 0 t) (iblk m c 1 t) (iblk m c 2 t) := by
    frame_out
  rw [e, pay_apply]
  simp only [iblk0, iblk1, iblk2]

/-- The output array after the run. -/
theorem final : (dats m 0 c).arrAt 3 cfg0.N = REF m c := by
  refine (dats m 0 c).arrAt_eq_of_covers 3 _ (by decide +kernel) fun t _ y => ?_
  blk_simp
  dsimp only [dats]
  have e : y = (ix2 (y 0) (y 1) : S2048x256.Idx) := funext fun a => by
    match a with
    | ⟨0, _⟩ => rfl
    | ⟨1, _⟩ => rfl
  refine (congrArg (out0_3 (F := Ideal) (iblk m c 0 t) (iblk m c 1 t) (iblk m c 2 t)) e).trans ((point m c t (y 0) (y 1)).trans (congrArg (REF m c) ?_))
  blk_ext [idx t]

end kernel

end Cert.UpValue

end
-- ==== Proof.Down.lean ====
/-
  The product that ends the feed-forward part, with what it is added to: its output array is the reference's term over the arguments.
-/
module

public import proofs.«01_k».proof.Proof.Gen.KernelDownIdeal.Value
public import proofs.«01_k».proof.Proof.Gen.ReferenceDownIdeal.Run
public import Idealize.ShloMosaic.Lib.Pipeline.ValueKit
public import Idealize.ShloMosaic.Lib.Pointwise
public import Idealize.ShloMosaic.Lib.Claim

@[expose] public section

set_option maxRecDepth 16384
set_option maxHeartbeats 2000000
set_option backward.proofsInPublic true

noncomputable section

namespace Cert.DownValue

open Idealize.ShloMosaic Idealize.ShloMosaic.TcCoe Idealize.SL.Sem

section reference
open Cert.ReferenceDownIdeal Cert.ReferenceDownIdeal.Gen

/-- The reference's output array over its arguments. -/
abbrev term (a : FVec Ideal S16384x11008 .bf16) (w : FVec Ideal S11008x4096 .f32) (x : FVec Ideal S16384x4096 .f32) : FVec Ideal S16384x4096 .f32 :=
  addf x (Host.dotGeneral (F := Ideal) dot_S16384x11008_S11008x4096_S16384x4096_1_0_0_1_n_n none (extf .f32 a bitsLt_bf16_f32) w)

/-- The reference's output at an element: the entry of the product added to what was there. -/
theorem term_apply (a : FVec Ideal S16384x11008 .bf16) (w : FVec Ideal S11008x4096 .f32) (x : FVec Ideal S16384x4096 .f32) (i : Fin 16384) (j : Fin 4096) :
    term a w x (ix2 i j) = x (ix2 i j) + ∑ k : Fin 11008, a (ix2 i k) * w (ix2 k j) := by
  pointwise [term]

end reference

section kernel
open Cert.KernelDownIdeal Cert.KernelDownIdeal.Gen

/-- What the body computes at an element of a block. -/
theorem pay_apply (a : FVec Ideal S512x11008 .bf16) (w : FVec Ideal S11008x512 .bf16) (x : FVec Ideal S512x512 .f32) (i : Fin 512) (j : Fin 512) :
    k0_pay1 (F := Ideal) a w x (ix2 i j) = x (ix2 i j) + ∑ k : Fin 11008, a (ix2 i k) * w (ix2 k j) := by
  rw [add_comm]
  pointwise [k0_pay1]

/-- The block each window takes at a grid point. -/
theorem idx : ∀ t : Fin cfg0.N, win0_0.index t = ![(grid0.coords t 1).val, 0]
    ∧ win0_1.index t = ![0, (grid0.coords t 0).val] ∧ win0_2.index t = ![(grid0.coords t 1).val, (grid0.coords t 0).val]
    ∧ win0_3.index t = ![(grid0.coords t 1).val, (grid0.coords t 0).val] :=
  (by decide +kernel : ∀ t : Fin grid0.N, _)

theorem ltr (t : Fin cfg0.N) : (grid0.coords t 1).val < 32 := (grid0.coords t 1).isLt
theorem ltq (t : Fin cfg0.N) : (grid0.coords t 0).val < 8 := (grid0.coords t 0).isLt

variable (m : (ℓ : Loc nD τ sig) → Buf (Elt Ideal) ℓ) (c : Dev nD) (t : Fin cfg0.N)

/-- The weights as the call takes them: over the reals the cast changes nothing. -/
theorem V_v0 : V m c main_v0 = (truncf .bf16 (m ((c : Thread nD τ).loc main_arg1)) bitsLt_bf16_f32 : FVec Ideal S11008x4096 .bf16) := by
  entry_read
  try rfl

theorem iblk0 (x : Fin 512) (k : Fin 11008) :
    iblk m c 0 t (ix2 x k) = m ((c : Thread nD τ).loc main_arg0) (ix2 ⟨(grid0.coords t 1).val * 512 + x.val, by have := ltr t; omega⟩ k) := by
  have h0 := ltr t
  blk_ext [iblk, V, idx t]

theorem iblk1 (k : Fin 11008) (y : Fin 512) :
    iblk m c 1 t (ix2 k y) = m ((c : Thread nD τ).loc main_arg1) (ix2 k ⟨(grid0.coords t 0).val * 512 + y.val, by have := ltq t; omega⟩) := by
  have h1 := ltq t
  have e : iblk m c 1 t (ix2 k y) = V m c main_v0 (ix2 k ⟨(grid0.coords t 0).val * 512 + y.val, by omega⟩) := by
    blk_ext [iblk, idx t]
  rw [e, V_v0]
  rfl

theorem iblk2 (x : Fin 512) (y : Fin 512) :
    iblk m c 2 t (ix2 x y) = m ((c : Thread nD τ).loc main_arg2) (ix2 ⟨(grid0.coords t 1).val * 512 + x.val, by have := ltr t; omega⟩ ⟨(grid0.coords t 0).val * 512 + y.val, by have := ltq t; omega⟩) := by
  have h0 := ltr t; have h1 := ltq t
  blk_ext [iblk, V, idx t]

/-- The reference's term over the kernel's arguments. -/
abbrev REF : FVec Ideal S16384x4096 .f32 :=
  term (m ((c : Thread nD τ).loc main_arg0)) (m ((c : Thread nD τ).loc main_arg1)) (m ((c : Thread nD τ).loc main_arg2))

/-- A block of the output, at an element, is the reference's term there. -/
theorem point (x : Fin 512) (y : Fin 512) :
    out0_3 (F := Ideal) (iblk m c 0 t) (iblk m c 1 t) (iblk m c 2 t) (ix2 x y)
      = REF m c (ix2 ⟨(grid0.coords t 1).val * 512 + x.val, by have := ltr t; omega⟩ ⟨(grid0.coords t 0).val * 512 + y.val, by have := ltq t; omega⟩) := by
  refine Eq.trans ?_ (term_apply ..).symm
  have e : out0_3 (F := Ideal) (iblk m c 0 t) (iblk m c 1 t) (iblk m c 2 t) = k0_pay1 (F := Ideal) (iblk m c 0 t) (iblk m c 1 t) (iblk m c 2 t) := by
    frame_out
  rw [e, pay_apply]
  simp only [iblk0, iblk1, iblk2]

/-- The output array after the run. -/
theorem final : (dats m 0 c).arrAt 3 cfg0.N = REF m c := by
  refine (dats m 0 c).arrAt_eq_of_covers 3 _ (by decide +kernel) fun t _ y => ?_
  blk_simp
  dsimp only [dats]
  have e : y = (ix2 (y 0) (y 1) : S512x512.Idx) := funext fun a => by
    match a with
    | ⟨0, _⟩ => rfl
    | ⟨1, _⟩ => rfl
  refine (congrArg (out0_3 (F := Ideal) (iblk m c 0 t) (iblk m c 1 t) (iblk m c 2 t)) e).trans ((point m c t (y 0) (y 1)).trans (congrArg (REF m c) ?_))
  blk_ext [idx t]

end kernel

end Cert.DownValue

end
-- ==== Proof.Mix.lean ====
/-
  The product that mixes the heads, with what it is added to: its output array is the reference's term over the arguments.
-/
module

public import proofs.«01_k».proof.Proof.Gen.KernelOutIdeal.Value
public import proofs.«01_k».proof.Proof.Gen.ReferenceOutIdeal.Run
public import Idealize.ShloMosaic.Lib.Pipeline.ValueKit
public import Idealize.ShloMosaic.Lib.Pointwise
public import Idealize.ShloMosaic.Lib.Claim

@[expose] public section

set_option maxRecDepth 16384
set_option maxHeartbeats 2000000
set_option backward.proofsInPublic true

noncomputable section

namespace Cert.OutValue

open Idealize.ShloMosaic Idealize.ShloMosaic.TcCoe Idealize.SL.Sem

section reference
open Cert.ReferenceOutIdeal Cert.ReferenceOutIdeal.Gen

/-- The reference's output array over its arguments. -/
abbrev term (a : FVec Ideal S16384x4096 .bf16) (w : FVec Ideal S4096x4096 .f32) (x : FVec Ideal S16384x4096 .f32) : FVec Ideal S16384x4096 .f32 :=
  addf x (Host.dotGeneral (F := Ideal) dot_S16384x4096_S4096x4096_S16384x4096_1_0_0_1_n_n none (extf .f32 a bitsLt_bf16_f32) w)

/-- The reference's output at an element: the entry of the product added to what was there. -/
theorem term_apply (a : FVec Ideal S16384x4096 .bf16) (w : FVec Ideal S4096x4096 .f32) (x : FVec Ideal S16384x4096 .f32) (i : Fin 16384) (j : Fin 4096) :
    term a w x (ix2 i j) = x (ix2 i j) + ∑ k : Fin 4096, a (ix2 i k) * w (ix2 k j) := by
  pointwise [term]

end reference

section kernel
open Cert.KernelOutIdeal Cert.KernelOutIdeal.Gen

/-- What the body computes at an element of a block. -/
theorem pay_apply (a : FVec Ideal S1024x4096 .bf16) (w : FVec Ideal S4096x1024 .bf16) (x : FVec Ideal S1024x1024 .f32) (i : Fin 1024) (j : Fin 1024) :
    k0_pay1 (F := Ideal) a w x (ix2 i j) = x (ix2 i j) + ∑ k : Fin 4096, a (ix2 i k) * w (ix2 k j) := by
  rw [add_comm]
  pointwise [k0_pay1]

/-- The block each window takes at a grid point. -/
theorem idx : ∀ t : Fin cfg0.N, win0_0.index t = ![(grid0.coords t 0).val, 0]
    ∧ win0_1.index t = ![0, (grid0.coords t 1).val] ∧ win0_2.index t = ![(grid0.coords t 0).val, (grid0.coords t 1).val]
    ∧ win0_3.index t = ![(grid0.coords t 0).val, (grid0.coords t 1).val] :=
  (by decide +kernel : ∀ t : Fin grid0.N, _)

theorem ltr (t : Fin cfg0.N) : (grid0.coords t 0).val < 16 := (grid0.coords t 0).isLt
theorem ltq (t : Fin cfg0.N) : (grid0.coords t 1).val < 4 := (grid0.coords t 1).isLt

variable (m : (ℓ : Loc nD τ sig) → Buf (Elt Ideal) ℓ) (c : Dev nD) (t : Fin cfg0.N)

/-- The weights as the call takes them: over the reals the cast changes nothing. -/
theorem V_v0 : V m c main_v0 = (truncf .bf16 (m ((c : Thread nD τ).loc main_arg1)) bitsLt_bf16_f32 : FVec Ideal S4096x4096 .bf16) := by
  entry_read
  try rfl

theorem iblk0 (x : Fin 1024) (k : Fin 4096) :
    iblk m c 0 t (ix2 x k) = m ((c : Thread nD τ).loc main_arg0) (ix2 ⟨(grid0.coords t 0).val * 1024 + x.val, by have := ltr t; omega⟩ k) := by
  have h0 := ltr t
  blk_ext [iblk, V, idx t]

theorem iblk1 (k : Fin 4096) (y : Fin 1024) :
    iblk m c 1 t (ix2 k y) = m ((c : Thread nD τ).loc main_arg1) (ix2 k ⟨(grid0.coords t 1).val * 1024 + y.val, by have := ltq t; omega⟩) := by
  have h1 := ltq t
  have e : iblk m c 1 t (ix2 k y) = V m c main_v0 (ix2 k ⟨(grid0.coords t 1).val * 1024 + y.val, by omega⟩) := by
    blk_ext [iblk, idx t]
  rw [e, V_v0]
  rfl

theorem iblk2 (x : Fin 1024) (y : Fin 1024) :
    iblk m c 2 t (ix2 x y) = m ((c : Thread nD τ).loc main_arg2) (ix2 ⟨(grid0.coords t 0).val * 1024 + x.val, by have := ltr t; omega⟩ ⟨(grid0.coords t 1).val * 1024 + y.val, by have := ltq t; omega⟩) := by
  have h0 := ltr t; have h1 := ltq t
  blk_ext [iblk, V, idx t]

/-- The reference's term over the kernel's arguments. -/
abbrev REF : FVec Ideal S16384x4096 .f32 :=
  term (m ((c : Thread nD τ).loc main_arg0)) (m ((c : Thread nD τ).loc main_arg1)) (m ((c : Thread nD τ).loc main_arg2))

/-- A block of the output, at an element, is the reference's term there. -/
theorem point (x : Fin 1024) (y : Fin 1024) :
    out0_3 (F := Ideal) (iblk m c 0 t) (iblk m c 1 t) (iblk m c 2 t) (ix2 x y)
      = REF m c (ix2 ⟨(grid0.coords t 0).val * 1024 + x.val, by have := ltr t; omega⟩ ⟨(grid0.coords t 1).val * 1024 + y.val, by have := ltq t; omega⟩) := by
  refine Eq.trans ?_ (term_apply ..).symm
  have e : out0_3 (F := Ideal) (iblk m c 0 t) (iblk m c 1 t) (iblk m c 2 t) = k0_pay1 (F := Ideal) (iblk m c 0 t) (iblk m c 1 t) (iblk m c 2 t) := by
    frame_out
  rw [e, pay_apply]
  simp only [iblk0, iblk1, iblk2]

/-- The output array after the run. -/
theorem final : (dats m 0 c).arrAt 3 cfg0.N = REF m c := by
  refine (dats m 0 c).arrAt_eq_of_covers 3 _ (by decide +kernel) fun t _ y => ?_
  blk_simp
  dsimp only [dats]
  have e : y = (ix2 (y 0) (y 1) : S1024x1024.Idx) := funext fun a => by
    match a with
    | ⟨0, _⟩ => rfl
    | ⟨1, _⟩ => rfl
  refine (congrArg (out0_3 (F := Ideal) (iblk m c 0 t) (iblk m c 1 t) (iblk m c 2 t)) e).trans ((point m c t (y 0) (y 1)).trans (congrArg (REF m c) ?_))
  blk_ext [idx t]

end kernel

end Cert.OutValue

end
-- ==== Proof.Norm.lean ====
/-
  The last norm: its output array is the reference's term over the arguments.
-/
module

public import proofs.«01_k».proof.Proof.Gen.KernelNormIdeal.Value
public import proofs.«01_k».proof.Proof.Gen.ReferenceNormIdeal.Run
public import Idealize.ShloMosaic.Lib.Pipeline.ValueKit
public import Idealize.ShloMosaic.Lib.Pointwise
public import Idealize.ShloMosaic.Lib.Claim

@[expose] public section

set_option maxRecDepth 16384
set_option maxHeartbeats 2000000
set_option backward.proofsInPublic true

noncomputable section

namespace Cert.NormValue

open Idealize.ShloMosaic Idealize.ShloMosaic.TcCoe Idealize.SL.Sem

/-- An entry over the root of the mean of its row's squares, times the gain. -/
def normed (x s g : EReal) : EReal :=
  x * Ideal.rsqrt (Ideal.div s (Ideal.ofBits .f32 0x45800000#32) + Ideal.ofBits .f32 0x3727C5AC#32) * g

section reference
open Cert.ReferenceNormIdeal Cert.ReferenceNormIdeal.Gen

/-- The reference's output array over its arguments. -/
abbrev term (x : FVec Ideal S16384x4096 .f32) (g : FVec Ideal S4096 .f32) : FVec Ideal S16384x4096 .f32 :=
  mulf (mulf x (broadcastInDim S16384x4096 ![0, 1] bcast_S16384x1_S16384x4096_0_1 (Host.rsqrt (addf (Host.divf (broadcastInDim S16384x1 ![0] bcast_S16384_S16384x1_0 (Host.reduceAdd (mulf x x) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 g))

/-- The reference's output at an element. -/
theorem term_apply (x : FVec Ideal S16384x4096 .f32) (g : FVec Ideal S4096 .f32) (i : Fin 16384) (j : Fin 4096) :
    term x g (ix2 i j) = normed (x (ix2 i j)) (∑ k : Fin 4096, x (ix2 i k) * x (ix2 i k)) (g (ix1 j)) := by
  pointwise [term, normed]

end reference

section kernel
open Cert.KernelNormIdeal Cert.KernelNormIdeal.Gen

/-- What the body computes at an element of a block. -/
theorem pay_apply (x : FVec Ideal S512x4096 .f32) (g : FVec Ideal S1x4096 .f32) (i : Fin 512) (j : Fin 4096) :
    k0_pay1 (F := Ideal) x g (ix2 i j) = normed (x (ix2 i j)) (∑ k : Fin 4096, x (ix2 i k) * x (ix2 i k)) (g (ix2 0 j)) := by
  pointwise [k0_pay1, normed]

/-- The block each window takes at a grid point. -/
theorem idx : ∀ t : Fin cfg0.N, win0_0.index t = ![(grid0.coords t 0).val, 0]
    ∧ win0_1.index t = ![0, 0] ∧ win0_2.index t = ![(grid0.coords t 0).val, 0] :=
  (by decide +kernel : ∀ t : Fin grid0.N, _)

theorem lt0 (t : Fin cfg0.N) : (grid0.coords t 0).val < 32 := (grid0.coords t 0).isLt

variable (m : (ℓ : Loc nD τ sig) → Buf (Elt Ideal) ℓ) (c : Dev nD) (t : Fin cfg0.N)

/-- The gains as the call takes them, in one row. -/
theorem V_v0 : V m c main_v0 = (shapeCast S1x4096 (m ((c : Thread nD τ).loc main_arg1)) shapeCasts_S4096_S1x4096 : FVec Ideal S1x4096 .f32) := by
  entry_read
  try rfl

/-- A row of the gains, at an element. -/
theorem row_apply (g : FVec Ideal S4096 .f32) (j : Fin 4096) : shapeCast S1x4096 g shapeCasts_S4096_S1x4096 (ix2 0 j) = g (ix1 j) := by
  pointwise

theorem iblk0 (x : Fin 512) (k : Fin 4096) :
    iblk m c 0 t (ix2 x k) = m ((c : Thread nD τ).loc main_arg0) (ix2 ⟨(grid0.coords t 0).val * 512 + x.val, by have := lt0 t; omega⟩ k) := by
  have h0 := lt0 t
  blk_ext [iblk, V, idx t]

theorem iblk1 (j : Fin 4096) :
    iblk m c 1 t (ix2 0 j) = m ((c : Thread nD τ).loc main_arg1) (ix1 j) := by
  have e : iblk m c 1 t (ix2 0 j) = V m c main_v0 (ix2 0 j) := by
    blk_ext [iblk, idx t]
  rw [e, V_v0]
  exact row_apply _ j

/-- The reference's term over the kernel's arguments. -/
abbrev REF : FVec Ideal S16384x4096 .f32 :=
  term (m ((c : Thread nD τ).loc main_arg0)) (m ((c : Thread nD τ).loc main_arg1))

/-- A block of the output, at an element, is the reference's term there. -/
theorem point (x : Fin 512) (y : Fin 4096) :
    out0_2 (F := Ideal) (iblk m c 0 t) (iblk m c 1 t) (ix2 x y)
      = REF m c (ix2 ⟨(grid0.coords t 0).val * 512 + x.val, by have := lt0 t; omega⟩ y) := by
  refine Eq.trans ?_ (term_apply ..).symm
  have e : out0_2 (F := Ideal) (iblk m c 0 t) (iblk m c 1 t) = k0_pay1 (F := Ideal) (iblk m c 0 t) (iblk m c 1 t) := by
    frame_out
  rw [e, pay_apply]
  simp only [iblk0, iblk1]

/-- The output array after the run. -/
theorem final : (dats m 0 c).arrAt 2 cfg0.N = REF m c := by
  refine (dats m 0 c).arrAt_eq_of_covers 2 _ (by decide +kernel) fun t _ y => ?_
  blk_simp
  dsimp only [dats]
  have e : y = (ix2 (y 0) (y 1) : S512x4096.Idx) := funext fun a => by
    match a with
    | ⟨0, _⟩ => rfl
    | ⟨1, _⟩ => rfl
  refine (congrArg (out0_2 (F := Ideal) (iblk m c 0 t) (iblk m c 1 t)) e).trans ((point m c t (y 0) (y 1)).trans (congrArg (REF m c) ?_))
  blk_ext [idx t]

end kernel

end Cert.NormValue

end
-- ==== Proof.lean ====
/- The certificate's claim, put together from the runs of the kernel, of its real reading and of the reference. -/
module

public import proofs.«01_k».proof.Defs
public import proofs.«01_k».proof.Proof.KernelRun
public import proofs.«01_k».proof.Proof.Run
public import proofs.«01_k».proof.Proof.Pre
public import proofs.«01_k».proof.Proof.Gen.ReferenceIdeal.Run
public import proofs.«01_k».proof.Proof.Up
public import proofs.«01_k».proof.Proof.Gen.KernelUp.Frame
public import proofs.«01_k».proof.Proof.Down
public import proofs.«01_k».proof.Proof.Gen.KernelDown.Frame
public import proofs.«01_k».proof.Proof.Mix
public import proofs.«01_k».proof.Proof.Gen.KernelOut.Frame
public import proofs.«01_k».proof.Proof.Norm
public import proofs.«01_k».proof.Proof.Gen.KernelNorm.Frame
public import Idealize.ShloMosaic.Adequacy
public import Idealize.ShloMosaic.Init

@[expose] public section

noncomputable section

namespace Cert.Proof

open Idealize.ShloMosaic Idealize.SL.Sem

/-- The kernel runs to its end, its arguments unchanged, every counter at zero. -/
theorem frame_P : Cert.quiescent_Kernel := fun m ρ _ =>
  (θ_run Cert.Kernel.defs _ _).mono (fun _ h => ⟨fun c => (h.1 c).2, h.2⟩) (Cert.Kernel.Body.run_read (F := Bits) m ρ)

/-- The kernel's real reading runs to its end, its arguments unchanged, every counter at zero. -/
theorem frame_PI : Cert.quiescent_KernelIdeal := fun m ρ _ =>
  (θ_run Cert.KernelIdeal.defs _ _).mono (fun _ h => ⟨fun c => (h.1 c).2, h.2⟩) (Cert.KernelIdeal.Body.run_read (F := Ideal) m ρ)

/-- The reference runs to its end, its arguments unchanged; it declares no semaphore. -/
theorem frame_RI : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants denote minus infinity, each in place of the literal it names. -/
theorem preserves : Cert.preserves_Kernel_KernelIdeal :=
  ⟨IdealRules.named_const.statement Cert.KernelIdeal.κ "mask" .f32 0xF149F2CA#32 ⊥ rfl,
   IdealRules.named_const.statement Cert.KernelIdeal.κ "drop" .f32 0xC7000000#32 ⊥ rfl⟩

/-- The same of the kernel's real reading under the precondition. -/
theorem frame_PI_pre : Cert.quiescent_KernelIdeal_pre_finite := fun m ρ _ => frame_PI m ρ trivial

/-- The same of the reference under the precondition. -/
theorem frame_RI_pre : Cert.quiescent_ReferenceIdeal_pre_finite := fun m ρ _ => frame_RI m ρ trivial

/-- The reference's output array, as its term over the arguments. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v202) = Cert.ReferenceIdeal.Read.val_main_v202 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) := by
  refine (θ_run Cert.ReferenceIdeal.defs _ _).mono (fun _ h c => ⟨?_, (h c).2⟩) (Cert.ReferenceIdeal.Value.run (F := Ideal) m ρ)
  refine (h c).1.trans ?_
  exact Cert.ReferenceIdeal.Read.val_main_v202_eq (F := Ideal) (StableHlo.launchContents m c)

/-- Over the real numbers the kernel's output is the reference's, wherever the precondition holds. -/
theorem algebraic : Cert.algebraic_KernelIdeal_ReferenceIdeal_pre_finite := fun m ρ m' ρ' hpre hargs =>
  ⟨fun c => Cert.KernelIdeal.Body.REF m c,
    (θ_run Cert.KernelIdeal.defs _ _).mono
      (fun _ h c => ⟨(h.1 c).1.trans (Cert.KernelIdeal.Body.final m c (Cert.KernelIdeal.Body.finite_args m hpre c)), (h.1 c).2⟩)
      (Cert.KernelIdeal.Body.run_read (F := Ideal) m ρ),
    (θ_run Cert.ReferenceIdeal.defs _ _).mono
      (fun _ h c => ⟨(h c).1.trans (by
        obtain ⟨h0, h1, h2, h3, h4⟩ := hargs c
        rw [h0, h1, h2, h3, h4]), (h c).2⟩)
      (ref_run m' ρ')⟩

/-- The gated product runs to its end, its arguments unchanged, every counter at zero. -/
theorem frame_up : Cert.quiescent_KernelUp := fun m ρ _ => Cert.KernelUp.Gen.frame (F := Bits) m ρ

/-- The same of its real reading. -/
theorem frame_up_real : Cert.quiescent_KernelUpIdeal := fun m ρ _ => Cert.KernelUpIdeal.Gen.frame (F := Ideal) m ρ

/-- The same of its reference, which declares no semaphore. -/
theorem frame_up_reference : Cert.quiescent_ReferenceUpIdeal := fun m ρ _ =>
  (θ_run Cert.ReferenceUpIdeal.defs _ _).mono (fun r h => ⟨fun c => (h c).2,
      Idealize.ShloMosaic.sem_eq_zero_of_no_sems (by decide) r.2⟩)
    (Cert.ReferenceUpIdeal.Value.run (F := Ideal) m ρ)

/-- Over the real numbers the gated product is its reference's. -/
theorem algebraic_up : Cert.algebraic_KernelUpIdeal_ReferenceUpIdeal := fun m ρ m' ρ' _ hargs =>
  ⟨fun c => Cert.UpValue.REF m c,
    (θ_run Cert.KernelUpIdeal.defs _ _).mono
      (fun _ h c => ⟨(h c).1.trans (Cert.UpValue.final m c), (h c).2⟩)
      (Cert.KernelUpIdeal.Value.run_blocks (F := Ideal) m ρ),
    (θ_run Cert.ReferenceUpIdeal.defs _ _).mono
      (fun _ h c => ⟨(h c).1.trans (by
        obtain ⟨h0, h1, h2⟩ := hargs c
        rw [h0, h1, h2]), (h c).2⟩)
      (Cert.ReferenceUpIdeal.Value.run (F := Ideal) m' ρ')⟩

/-- The product that ends the feed-forward part runs to its end, its arguments unchanged, every counter at zero. -/
theorem frame_down : Cert.quiescent_KernelDown := fun m ρ _ => Cert.KernelDown.Gen.frame (F := Bits) m ρ

/-- The same of its real reading. -/
theorem frame_down_real : Cert.quiescent_KernelDownIdeal := fun m ρ _ => Cert.KernelDownIdeal.Gen.frame (F := Ideal) m ρ

/-- The same of its reference, which declares no semaphore. -/
theorem frame_down_reference : Cert.quiescent_ReferenceDownIdeal := fun m ρ _ =>
  (θ_run Cert.ReferenceDownIdeal.defs _ _).mono (fun r h => ⟨fun c => (h c).2,
      Idealize.ShloMosaic.sem_eq_zero_of_no_sems (by decide) r.2⟩)
    (Cert.ReferenceDownIdeal.Value.run (F := Ideal) m ρ)

/-- Over the real numbers the product that ends the feed-forward part is its reference's. -/
theorem algebraic_down : Cert.algebraic_KernelDownIdeal_ReferenceDownIdeal := fun m ρ m' ρ' _ hargs =>
  ⟨fun c => Cert.DownValue.REF m c,
    (θ_run Cert.KernelDownIdeal.defs _ _).mono
      (fun _ h c => ⟨(h c).1.trans (Cert.DownValue.final m c), (h c).2⟩)
      (Cert.KernelDownIdeal.Value.run_blocks (F := Ideal) m ρ),
    (θ_run Cert.ReferenceDownIdeal.defs _ _).mono
      (fun _ h c => ⟨(h c).1.trans (by
        obtain ⟨h0, h1, h2⟩ := hargs c
        rw [h0, h1, h2]), (h c).2⟩)
      (Cert.ReferenceDownIdeal.Value.run (F := Ideal) m' ρ')⟩

/-- The product that mixes the heads runs to its end, its arguments unchanged, every counter at zero. -/
theorem frame_out : Cert.quiescent_KernelOut := fun m ρ _ => Cert.KernelOut.Gen.frame (F := Bits) m ρ

/-- The same of its real reading. -/
theorem frame_out_real : Cert.quiescent_KernelOutIdeal := fun m ρ _ => Cert.KernelOutIdeal.Gen.frame (F := Ideal) m ρ

/-- The same of its reference, which declares no semaphore. -/
theorem frame_out_reference : Cert.quiescent_ReferenceOutIdeal := fun m ρ _ =>
  (θ_run Cert.ReferenceOutIdeal.defs _ _).mono (fun r h => ⟨fun c => (h c).2,
      Idealize.ShloMosaic.sem_eq_zero_of_no_sems (by decide) r.2⟩)
    (Cert.ReferenceOutIdeal.Value.run (F := Ideal) m ρ)

/-- Over the real numbers the product that mixes the heads is its reference's. -/
theorem algebraic_out : Cert.algebraic_KernelOutIdeal_ReferenceOutIdeal := fun m ρ m' ρ' _ hargs =>
  ⟨fun c => Cert.OutValue.REF m c,
    (θ_run Cert.KernelOutIdeal.defs _ _).mono
      (fun _ h c => ⟨(h c).1.trans (Cert.OutValue.final m c), (h c).2⟩)
      (Cert.KernelOutIdeal.Value.run_blocks (F := Ideal) m ρ),
    (θ_run Cert.ReferenceOutIdeal.defs _ _).mono
      (fun _ h c => ⟨(h c).1.trans (by
        obtain ⟨h0, h1, h2⟩ := hargs c
        rw [h0, h1, h2]), (h c).2⟩)
      (Cert.ReferenceOutIdeal.Value.run (F := Ideal) m' ρ')⟩

/-- The last norm runs to its end, its arguments unchanged, every counter at zero. -/
theorem frame_norm : Cert.quiescent_KernelNorm := fun m ρ _ => Cert.KernelNorm.Gen.frame (F := Bits) m ρ

/-- The same of its real reading. -/
theorem frame_norm_real : Cert.quiescent_KernelNormIdeal := fun m ρ _ => Cert.KernelNormIdeal.Gen.frame (F := Ideal) m ρ

/-- The same of its reference, which declares no semaphore. -/
theorem frame_norm_reference : Cert.quiescent_ReferenceNormIdeal := fun m ρ _ =>
  (θ_run Cert.ReferenceNormIdeal.defs _ _).mono (fun r h => ⟨fun c => (h c).2,
      Idealize.ShloMosaic.sem_eq_zero_of_no_sems (by decide) r.2⟩)
    (Cert.ReferenceNormIdeal.Value.run (F := Ideal) m ρ)

/-- Over the real numbers the last norm is its reference's. -/
theorem algebraic_norm : Cert.algebraic_KernelNormIdeal_ReferenceNormIdeal := fun m ρ m' ρ' _ hargs =>
  ⟨fun c => Cert.NormValue.REF m c,
    (θ_run Cert.KernelNormIdeal.defs _ _).mono
      (fun _ h c => ⟨(h c).1.trans (Cert.NormValue.final m c), (h c).2⟩)
      (Cert.KernelNormIdeal.Value.run_blocks (F := Ideal) m ρ),
    (θ_run Cert.ReferenceNormIdeal.defs _ _).mono
      (fun _ h c => ⟨(h c).1.trans (by
        obtain ⟨h0, h1⟩ := hargs c
        rw [h0, h1]), (h c).2⟩)
      (Cert.ReferenceNormIdeal.Value.run (F := Ideal) m' ρ')⟩

/-- The certificate's claim. -/
theorem claim : Cert.Claim :=
  ⟨inferInstance, inferInstance, inferInstance, inferInstance, inferInstance, inferInstance, inferInstance, inferInstance, inferInstance, inferInstance, inferInstance, inferInstance, inferInstance, inferInstance, inferInstance, inferInstance,
    frame_P, frame_PI, frame_PI_pre, frame_RI, frame_RI_pre,
    frame_up, frame_up_real, frame_up_reference, frame_down, frame_down_real, frame_down_reference, frame_out, frame_out_real, frame_out_reference, frame_norm, frame_norm_real, frame_norm_reference,
    preserves, algebraic, trivial, algebraic_up, trivial, algebraic_down, trivial, algebraic_out, trivial, algebraic_norm⟩

end Cert.Proof

end
